-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_oc [hPre_finite_oc : Cert.Pre_finite_oc.Facts] (m : (ℓ : Loc Cert.FfnIdeal.nD Cert.FfnIdeal.τ Cert.FfnIdeal.sig) → Buf (Elt Ideal) ℓ) : Prop :=
  ∀ c : Dev Cert.FfnIdeal.nD,
    (Cert.Pre_finite_oc.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9)) (m ((c.tc : Thread Cert.FfnIdeal.nD Cert.FfnIdeal.τ).loc Cert.FfnIdeal.main_arg10)) (m ((c.tc : Thread Cert.FfnIdeal.nD Cert.FfnIdeal.τ).loc Cert.FfnIdeal.main_arg11)) (m ((c.tc : Thread Cert.FfnIdeal.nD Cert.FfnIdeal.τ).loc Cert.FfnIdeal.main_arg12)) (m ((c.tc : Thread Cert.FfnIdeal.nD Cert.FfnIdeal.τ).loc Cert.FfnIdeal.main_arg13))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_finite_oc [hPre_finite_oc : Cert.Pre_finite_oc.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_finite_oc.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6)) (m ((c.tc : Thread Cert.FfnReferenceIdeal.nD Cert.FfnReferenceIdeal.τ).loc Cert.FfnReferenceIdeal.main_arg7)) (m ((c.tc : Thread Cert.FfnReferenceIdeal.nD Cert.FfnReferenceIdeal.τ).loc Cert.FfnReferenceIdeal.main_arg8)) (m ((c.tc : Thread Cert.FfnReferenceIdeal.nD Cert.FfnReferenceIdeal.τ).loc Cert.FfnReferenceIdeal.main_arg9)) (m ((c.tc : Thread Cert.FfnReferenceIdeal.nD Cert.FfnReferenceIdeal.τ).loc Cert.FfnReferenceIdeal.main_arg10)) (m ((c.tc : Thread Cert.FfnReferenceIdeal.nD Cert.FfnReferenceIdeal.τ).loc Cert.FfnReferenceIdeal.main_arg11)) (m ((c.tc : Thread Cert.FfnReferenceIdeal.nD Cert.FfnReferenceIdeal.τ).loc Cert.FfnReferenceIdeal.main_arg12)) (m ((c.tc : Thread Cert.FfnReferenceIdeal.nD Cert.FfnReferenceIdeal.τ).loc Cert.FfnReferenceIdeal.main_arg13))) = (fun _ => 1#1)

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidIdeal_finite_oc [hPre_finite_oc : Cert.Pre_finite_oc.Facts] (m : (ℓ : Loc Cert.MidIdeal.nD Cert.MidIdeal.τ Cert.MidIdeal.sig) → Buf (Elt Ideal) ℓ) : Prop :=
  ∀ c : Dev Cert.MidIdeal.nD,
    (Cert.Pre_finite_oc.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9)) (m ((c.tc : Thread Cert.MidIdeal.nD Cert.MidIdeal.τ).loc Cert.MidIdeal.main_arg10)) (m ((c.tc : Thread Cert.MidIdeal.nD Cert.MidIdeal.τ).loc Cert.MidIdeal.main_arg11)) (m ((c.tc : Thread Cert.MidIdeal.nD Cert.MidIdeal.τ).loc Cert.MidIdeal.main_arg12)) (m ((c.tc : Thread Cert.MidIdeal.nD Cert.MidIdeal.τ).loc Cert.MidIdeal.main_arg13))) = (fun _ => 1#1)

def Pre_MidReferenceIdeal (m : (ℓ : Loc Cert.MidReferenceIdeal.nD Cert.MidReferenceIdeal.τ Cert.MidReferenceIdeal.sig) → Buf (Elt Ideal) ℓ) : Prop :=
  True

def Pre_MidReferenceIdeal_finite_oc [hPre_finite_oc : Cert.Pre_finite_oc.Facts] (m : (ℓ : Loc Cert.MidReferenceIdeal.nD Cert.MidReferenceIdeal.τ Cert.MidReferenceIdeal.sig) → Buf (Elt Ideal) ℓ) : Prop :=
  ∀ c : Dev Cert.MidReferenceIdeal.nD,
    (Cert.Pre_finite_oc.fn (F := Ideal) (m ((c.tc : Thread Cert.MidReferenceIdeal.nD Cert.MidReferenceIdeal.τ).loc Cert.MidReferenceIdeal.main_arg0)) (m ((c.tc : Thread Cert.MidReferenceIdeal.nD Cert.MidReferenceIdeal.τ).loc Cert.MidReferenceIdeal.main_arg1)) (m ((c.tc : Thread Cert.MidReferenceIdeal.nD Cert.MidReferenceIdeal.τ).loc Cert.MidReferenceIdeal.main_arg2)) (m ((c.tc : Thread Cert.MidReferenceIdeal.nD Cert.MidReferenceIdeal.τ).loc Cert.MidReferenceIdeal.main_arg3)) (m ((c.tc : Thread Cert.MidReferenceIdeal.nD Cert.MidReferenceIdeal.τ).loc Cert.MidReferenceIdeal.main_arg4)) (m ((c.tc : Thread Cert.MidReferenceIdeal.nD Cert.MidReferenceIdeal.τ).loc Cert.MidReferenceIdeal.main_arg5)) (m ((c.tc : Thread Cert.MidReferenceIdeal.nD Cert.MidReferenceIdeal.τ).loc Cert.MidReferenceIdeal.main_arg6)) (m ((c.tc : Thread Cert.MidReferenceIdeal.nD Cert.MidReferenceIdeal.τ).loc Cert.MidReferenceIdeal.main_arg7)) (m ((c.tc : Thread Cert.MidReferenceIdeal.nD Cert.MidReferenceIdeal.τ).loc Cert.MidReferenceIdeal.main_arg8)) (m ((c.tc : Thread Cert.MidReferenceIdeal.nD Cert.MidReferenceIdeal.τ).loc Cert.MidReferenceIdeal.main_arg9)) (m ((c.tc : Thread Cert.MidReferenceIdeal.nD Cert.MidReferenceIdeal.τ).loc Cert.MidReferenceIdeal.main_arg10)) (m ((c.tc : Thread Cert.MidReferenceIdeal.nD Cert.MidReferenceIdeal.τ).loc Cert.MidReferenceIdeal.main_arg11)) (m ((c.tc : Thread Cert.MidReferenceIdeal.nD Cert.MidReferenceIdeal.τ).loc Cert.MidReferenceIdeal.main_arg12)) (m ((c.tc : Thread Cert.MidReferenceIdeal.nD Cert.MidReferenceIdeal.τ).loc Cert.MidReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9)
      ∧ r.2.mem ((c.tc : Thread Cert.Ffn.nD Cert.Ffn.τ).loc Cert.Ffn.main_arg10) = m ((c.tc : Thread Cert.Ffn.nD Cert.Ffn.τ).loc Cert.Ffn.main_arg10)
      ∧ r.2.mem ((c.tc : Thread Cert.Ffn.nD Cert.Ffn.τ).loc Cert.Ffn.main_arg11) = m ((c.tc : Thread Cert.Ffn.nD Cert.Ffn.τ).loc Cert.Ffn.main_arg11)
      ∧ r.2.mem ((c.tc : Thread Cert.Ffn.nD Cert.Ffn.τ).loc Cert.Ffn.main_arg12) = m ((c.tc : Thread Cert.Ffn.nD Cert.Ffn.τ).loc Cert.Ffn.main_arg12)
      ∧ r.2.mem ((c.tc : Thread Cert.Ffn.nD Cert.Ffn.τ).loc Cert.Ffn.main_arg13) = m ((c.tc : Thread Cert.Ffn.nD Cert.Ffn.τ).loc Cert.Ffn.main_arg13))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
      ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11)
      ∧ r.2.mem ((c.tc : Thread Cert.FfnIdeal.nD Cert.FfnIdeal.τ).loc Cert.FfnIdeal.main_arg12) = m ((c.tc : Thread Cert.FfnIdeal.nD Cert.FfnIdeal.τ).loc Cert.FfnIdeal.main_arg12)
      ∧ r.2.mem ((c.tc : Thread Cert.FfnIdeal.nD Cert.FfnIdeal.τ).loc Cert.FfnIdeal.main_arg13) = m ((c.tc : Thread Cert.FfnIdeal.nD Cert.FfnIdeal.τ).loc Cert.FfnIdeal.main_arg13))
      ∧ r.2.sem = fun _ => 0)

def quiescent_FfnIdeal_pre_finite_oc [hFfnIdeal : Cert.FfnIdeal.Facts] [hPre_finite_oc : Cert.Pre_finite_oc.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_oc m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
      ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11)
      ∧ r.2.mem ((c.tc : Thread Cert.FfnIdeal.nD Cert.FfnIdeal.τ).loc Cert.FfnIdeal.main_arg12) = m ((c.tc : Thread Cert.FfnIdeal.nD Cert.FfnIdeal.τ).loc Cert.FfnIdeal.main_arg12)
      ∧ r.2.mem ((c.tc : Thread Cert.FfnIdeal.nD Cert.FfnIdeal.τ).loc Cert.FfnIdeal.main_arg13) = m ((c.tc : Thread Cert.FfnIdeal.nD Cert.FfnIdeal.τ).loc Cert.FfnIdeal.main_arg13))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7)
      ∧ r.2.mem ((c.tc : Thread Cert.FfnReferenceIdeal.nD Cert.FfnReferenceIdeal.τ).loc Cert.FfnReferenceIdeal.main_arg8) = m ((c.tc : Thread Cert.FfnReferenceIdeal.nD Cert.FfnReferenceIdeal.τ).loc Cert.FfnReferenceIdeal.main_arg8)
      ∧ r.2.mem ((c.tc : Thread Cert.FfnReferenceIdeal.nD Cert.FfnReferenceIdeal.τ).loc Cert.FfnReferenceIdeal.main_arg9) = m ((c.tc : Thread Cert.FfnReferenceIdeal.nD Cert.FfnReferenceIdeal.τ).loc Cert.FfnReferenceIdeal.main_arg9)
      ∧ r.2.mem ((c.tc : Thread Cert.FfnReferenceIdeal.nD Cert.FfnReferenceIdeal.τ).loc Cert.FfnReferenceIdeal.main_arg10) = m ((c.tc : Thread Cert.FfnReferenceIdeal.nD Cert.FfnReferenceIdeal.τ).loc Cert.FfnReferenceIdeal.main_arg10)
      ∧ r.2.mem ((c.tc : Thread Cert.FfnReferenceIdeal.nD Cert.FfnReferenceIdeal.τ).loc Cert.FfnReferenceIdeal.main_arg11) = m ((c.tc : Thread Cert.FfnReferenceIdeal.nD Cert.FfnReferenceIdeal.τ).loc Cert.FfnReferenceIdeal.main_arg11)
      ∧ r.2.mem ((c.tc : Thread Cert.FfnReferenceIdeal.nD Cert.FfnReferenceIdeal.τ).loc Cert.FfnReferenceIdeal.main_arg12) = m ((c.tc : Thread Cert.FfnReferenceIdeal.nD Cert.FfnReferenceIdeal.τ).loc Cert.FfnReferenceIdeal.main_arg12)
      ∧ r.2.mem ((c.tc : Thread Cert.FfnReferenceIdeal.nD Cert.FfnReferenceIdeal.τ).loc Cert.FfnReferenceIdeal.main_arg13) = m ((c.tc : Thread Cert.FfnReferenceIdeal.nD Cert.FfnReferenceIdeal.τ).loc Cert.FfnReferenceIdeal.main_arg13))
      ∧ r.2.sem = fun _ => 0)

def quiescent_FfnReferenceIdeal_pre_finite_oc [hFfnReferenceIdeal : Cert.FfnReferenceIdeal.Facts] [hPre_finite_oc : Cert.Pre_finite_oc.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_finite_oc m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7)
      ∧ r.2.mem ((c.tc : Thread Cert.FfnReferenceIdeal.nD Cert.FfnReferenceIdeal.τ).loc Cert.FfnReferenceIdeal.main_arg8) = m ((c.tc : Thread Cert.FfnReferenceIdeal.nD Cert.FfnReferenceIdeal.τ).loc Cert.FfnReferenceIdeal.main_arg8)
      ∧ r.2.mem ((c.tc : Thread Cert.FfnReferenceIdeal.nD Cert.FfnReferenceIdeal.τ).loc Cert.FfnReferenceIdeal.main_arg9) = m ((c.tc : Thread Cert.FfnReferenceIdeal.nD Cert.FfnReferenceIdeal.τ).loc Cert.FfnReferenceIdeal.main_arg9)
      ∧ r.2.mem ((c.tc : Thread Cert.FfnReferenceIdeal.nD Cert.FfnReferenceIdeal.τ).loc Cert.FfnReferenceIdeal.main_arg10) = m ((c.tc : Thread Cert.FfnReferenceIdeal.nD Cert.FfnReferenceIdeal.τ).loc Cert.FfnReferenceIdeal.main_arg10)
      ∧ r.2.mem ((c.tc : Thread Cert.FfnReferenceIdeal.nD Cert.FfnReferenceIdeal.τ).loc Cert.FfnReferenceIdeal.main_arg11) = m ((c.tc : Thread Cert.FfnReferenceIdeal.nD Cert.FfnReferenceIdeal.τ).loc Cert.FfnReferenceIdeal.main_arg11)
      ∧ r.2.mem ((c.tc : Thread Cert.FfnReferenceIdeal.nD Cert.FfnReferenceIdeal.τ).loc Cert.FfnReferenceIdeal.main_arg12) = m ((c.tc : Thread Cert.FfnReferenceIdeal.nD Cert.FfnReferenceIdeal.τ).loc Cert.FfnReferenceIdeal.main_arg12)
      ∧ r.2.mem ((c.tc : Thread Cert.FfnReferenceIdeal.nD Cert.FfnReferenceIdeal.τ).loc Cert.FfnReferenceIdeal.main_arg13) = m ((c.tc : Thread Cert.FfnReferenceIdeal.nD Cert.FfnReferenceIdeal.τ).loc Cert.FfnReferenceIdeal.main_arg13))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6)
      ∧ r.2.mem ((c.tc : Thread Cert.Mid.nD Cert.Mid.τ).loc Cert.Mid.main_arg7) = m ((c.tc : Thread Cert.Mid.nD Cert.Mid.τ).loc Cert.Mid.main_arg7)
      ∧ r.2.mem ((c.tc : Thread Cert.Mid.nD Cert.Mid.τ).loc Cert.Mid.main_arg8) = m ((c.tc : Thread Cert.Mid.nD Cert.Mid.τ).loc Cert.Mid.main_arg8)
      ∧ r.2.mem ((c.tc : Thread Cert.Mid.nD Cert.Mid.τ).loc Cert.Mid.main_arg9) = m ((c.tc : Thread Cert.Mid.nD Cert.Mid.τ).loc Cert.Mid.main_arg9)
      ∧ r.2.mem ((c.tc : Thread Cert.Mid.nD Cert.Mid.τ).loc Cert.Mid.main_arg10) = m ((c.tc : Thread Cert.Mid.nD Cert.Mid.τ).loc Cert.Mid.main_arg10)
      ∧ r.2.mem ((c.tc : Thread Cert.Mid.nD Cert.Mid.τ).loc Cert.Mid.main_arg11) = m ((c.tc : Thread Cert.Mid.nD Cert.Mid.τ).loc Cert.Mid.main_arg11)
      ∧ r.2.mem ((c.tc : Thread Cert.Mid.nD Cert.Mid.τ).loc Cert.Mid.main_arg12) = m ((c.tc : Thread Cert.Mid.nD Cert.Mid.τ).loc Cert.Mid.main_arg12)
      ∧ r.2.mem ((c.tc : Thread Cert.Mid.nD Cert.Mid.τ).loc Cert.Mid.main_arg13) = m ((c.tc : Thread Cert.Mid.nD Cert.Mid.τ).loc Cert.Mid.main_arg13))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
      ∧ r.2.mem ((c.tc : Thread Cert.MidIdeal.nD Cert.MidIdeal.τ).loc Cert.MidIdeal.main_arg9) = m ((c.tc : Thread Cert.MidIdeal.nD Cert.MidIdeal.τ).loc Cert.MidIdeal.main_arg9)
      ∧ r.2.mem ((c.tc : Thread Cert.MidIdeal.nD Cert.MidIdeal.τ).loc Cert.MidIdeal.main_arg10) = m ((c.tc : Thread Cert.MidIdeal.nD Cert.MidIdeal.τ).loc Cert.MidIdeal.main_arg10)
      ∧ r.2.mem ((c.tc : Thread Cert.MidIdeal.nD Cert.MidIdeal.τ).loc Cert.MidIdeal.main_arg11) = m ((c.tc : Thread Cert.MidIdeal.nD Cert.MidIdeal.τ).loc Cert.MidIdeal.main_arg11)
      ∧ r.2.mem ((c.tc : Thread Cert.MidIdeal.nD Cert.MidIdeal.τ).loc Cert.MidIdeal.main_arg12) = m ((c.tc : Thread Cert.MidIdeal.nD Cert.MidIdeal.τ).loc Cert.MidIdeal.main_arg12)
      ∧ r.2.mem ((c.tc : Thread Cert.MidIdeal.nD Cert.MidIdeal.τ).loc Cert.MidIdeal.main_arg13) = m ((c.tc : Thread Cert.MidIdeal.nD Cert.MidIdeal.τ).loc Cert.MidIdeal.main_arg13))
      ∧ r.2.sem = fun _ => 0)

def quiescent_MidIdeal_pre_finite_oc [hMidIdeal : Cert.MidIdeal.Facts] [hPre_finite_oc : Cert.Pre_finite_oc.Facts] : Prop :=
  ∀ (m : (ℓ : Loc Cert.MidIdeal.nD Cert.MidIdeal.τ Cert.MidIdeal.sig) → Buf (Elt Ideal) ℓ) (g : Dev Cert.MidIdeal.nD → PrngReg), Pre_MidIdeal_finite_oc m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
      ∧ r.2.mem ((c.tc : Thread Cert.MidIdeal.nD Cert.MidIdeal.τ).loc Cert.MidIdeal.main_arg9) = m ((c.tc : Thread Cert.MidIdeal.nD Cert.MidIdeal.τ).loc Cert.MidIdeal.main_arg9)
      ∧ r.2.mem ((c.tc : Thread Cert.MidIdeal.nD Cert.MidIdeal.τ).loc Cert.MidIdeal.main_arg10) = m ((c.tc : Thread Cert.MidIdeal.nD Cert.MidIdeal.τ).loc Cert.MidIdeal.main_arg10)
      ∧ r.2.mem ((c.tc : Thread Cert.MidIdeal.nD Cert.MidIdeal.τ).loc Cert.MidIdeal.main_arg11) = m ((c.tc : Thread Cert.MidIdeal.nD Cert.MidIdeal.τ).loc Cert.MidIdeal.main_arg11)
      ∧ r.2.mem ((c.tc : Thread Cert.MidIdeal.nD Cert.MidIdeal.τ).loc Cert.MidIdeal.main_arg12) = m ((c.tc : Thread Cert.MidIdeal.nD Cert.MidIdeal.τ).loc Cert.MidIdeal.main_arg12)
      ∧ r.2.mem ((c.tc : Thread Cert.MidIdeal.nD Cert.MidIdeal.τ).loc Cert.MidIdeal.main_arg13) = m ((c.tc : Thread Cert.MidIdeal.nD Cert.MidIdeal.τ).loc Cert.MidIdeal.main_arg13))
      ∧ r.2.sem = fun _ => 0)

def quiescent_MidReferenceIdeal [hMidReferenceIdeal : Cert.MidReferenceIdeal.Facts] : Prop :=
  ∀ (m : (ℓ : Loc Cert.MidReferenceIdeal.nD Cert.MidReferenceIdeal.τ Cert.MidReferenceIdeal.sig) → Buf (Elt Ideal) ℓ) (g : Dev Cert.MidReferenceIdeal.nD → PrngReg), Pre_MidReferenceIdeal m →
    θ_run (Cert.MidReferenceIdeal.defs (F := Ideal)) (onTc (τ := Cert.MidReferenceIdeal.τ) (Cert.MidReferenceIdeal.main (F := Ideal))) ⟨m, fun _ => 0, g⟩ (fun r => (∀ c : Dev Cert.MidReferenceIdeal.nD,
      r.2.mem ((c.tc : Thread Cert.MidReferenceIdeal.nD Cert.MidReferenceIdeal.τ).loc Cert.MidReferenceIdeal.main_arg0) = m ((c.tc : Thread Cert.MidReferenceIdeal.nD Cert.MidReferenceIdeal.τ).loc Cert.MidReferenceIdeal.main_arg0)
      ∧ r.2.mem ((c.tc : Thread Cert.MidReferenceIdeal.nD Cert.MidReferenceIdeal.τ).loc Cert.MidReferenceIdeal.main_arg1) = m ((c.tc : Thread Cert.MidReferenceIdeal.nD Cert.MidReferenceIdeal.τ).loc Cert.MidReferenceIdeal.main_arg1)
      ∧ r.2.mem ((c.tc : Thread Cert.MidReferenceIdeal.nD Cert.MidReferenceIdeal.τ).loc Cert.MidReferenceIdeal.main_arg2) = m ((c.tc : Thread Cert.MidReferenceIdeal.nD Cert.MidReferenceIdeal.τ).loc Cert.MidReferenceIdeal.main_arg2)
      ∧ r.2.mem ((c.tc : Thread Cert.MidReferenceIdeal.nD Cert.MidReferenceIdeal.τ).loc Cert.MidReferenceIdeal.main_arg3) = m ((c.tc : Thread Cert.MidReferenceIdeal.nD Cert.MidReferenceIdeal.τ).loc Cert.MidReferenceIdeal.main_arg3)
      ∧ r.2.mem ((c.tc : Thread Cert.MidReferenceIdeal.nD Cert.MidReferenceIdeal.τ).loc Cert.MidReferenceIdeal.main_arg4) = m ((c.tc : Thread Cert.MidReferenceIdeal.nD Cert.MidReferenceIdeal.τ).loc Cert.MidReferenceIdeal.main_arg4)
      ∧ r.2.mem ((c.tc : Thread Cert.MidReferenceIdeal.nD Cert.MidReferenceIdeal.τ).loc Cert.MidReferenceIdeal.main_arg5) = m ((c.tc : Thread Cert.MidReferenceIdeal.nD Cert.MidReferenceIdeal.τ).loc Cert.MidReferenceIdeal.main_arg5)
      ∧ r.2.mem ((c.tc : Thread Cert.MidReferenceIdeal.nD Cert.MidReferenceIdeal.τ).loc Cert.MidReferenceIdeal.main_arg6) = m ((c.tc : Thread Cert.MidReferenceIdeal.nD Cert.MidReferenceIdeal.τ).loc Cert.MidReferenceIdeal.main_arg6)
      ∧ r.2.mem ((c.tc : Thread Cert.MidReferenceIdeal.nD Cert.MidReferenceIdeal.τ).loc Cert.MidReferenceIdeal.main_arg7) = m ((c.tc : Thread Cert.MidReferenceIdeal.nD Cert.MidReferenceIdeal.τ).loc Cert.MidReferenceIdeal.main_arg7)
      ∧ r.2.mem ((c.tc : Thread Cert.MidReferenceIdeal.nD Cert.MidReferenceIdeal.τ).loc Cert.MidReferenceIdeal.main_arg8) = m ((c.tc : Thread Cert.MidReferenceIdeal.nD Cert.MidReferenceIdeal.τ).loc Cert.MidReferenceIdeal.main_arg8)
      ∧ r.2.mem ((c.tc : Thread Cert.MidReferenceIdeal.nD Cert.MidReferenceIdeal.τ).loc Cert.MidReferenceIdeal.main_arg9) = m ((c.tc : Thread Cert.MidReferenceIdeal.nD Cert.MidReferenceIdeal.τ).loc Cert.MidReferenceIdeal.main_arg9)
      ∧ r.2.mem ((c.tc : Thread Cert.MidReferenceIdeal.nD Cert.MidReferenceIdeal.τ).loc Cert.MidReferenceIdeal.main_arg10) = m ((c.tc : Thread Cert.MidReferenceIdeal.nD Cert.MidReferenceIdeal.τ).loc Cert.MidReferenceIdeal.main_arg10)
      ∧ r.2.mem ((c.tc : Thread Cert.MidReferenceIdeal.nD Cert.MidReferenceIdeal.τ).loc Cert.MidReferenceIdeal.main_arg11) = m ((c.tc : Thread Cert.MidReferenceIdeal.nD Cert.MidReferenceIdeal.τ).loc Cert.MidReferenceIdeal.main_arg11)
      ∧ r.2.mem ((c.tc : Thread Cert.MidReferenceIdeal.nD Cert.MidReferenceIdeal.τ).loc Cert.MidReferenceIdeal.main_arg12) = m ((c.tc : Thread Cert.MidReferenceIdeal.nD Cert.MidReferenceIdeal.τ).loc Cert.MidReferenceIdeal.main_arg12)
      ∧ r.2.mem ((c.tc : Thread Cert.MidReferenceIdeal.nD Cert.MidReferenceIdeal.τ).loc Cert.MidReferenceIdeal.main_arg13) = m ((c.tc : Thread Cert.MidReferenceIdeal.nD Cert.MidReferenceIdeal.τ).loc Cert.MidReferenceIdeal.main_arg13))
      ∧ r.2.sem = fun _ => 0)

def quiescent_MidReferenceIdeal_pre_finite_oc [hMidReferenceIdeal : Cert.MidReferenceIdeal.Facts] [hPre_finite_oc : Cert.Pre_finite_oc.Facts] : Prop :=
  ∀ (m : (ℓ : Loc Cert.MidReferenceIdeal.nD Cert.MidReferenceIdeal.τ Cert.MidReferenceIdeal.sig) → Buf (Elt Ideal) ℓ) (g : Dev Cert.MidReferenceIdeal.nD → PrngReg), Pre_MidReferenceIdeal_finite_oc m →
    θ_run (Cert.MidReferenceIdeal.defs (F := Ideal)) (onTc (τ := Cert.MidReferenceIdeal.τ) (Cert.MidReferenceIdeal.main (F := Ideal))) ⟨m, fun _ => 0, g⟩ (fun r => (∀ c : Dev Cert.MidReferenceIdeal.nD,
      r.2.mem ((c.tc : Thread Cert.MidReferenceIdeal.nD Cert.MidReferenceIdeal.τ).loc Cert.MidReferenceIdeal.main_arg0) = m ((c.tc : Thread Cert.MidReferenceIdeal.nD Cert.MidReferenceIdeal.τ).loc Cert.MidReferenceIdeal.main_arg0)
      ∧ r.2.mem ((c.tc : Thread Cert.MidReferenceIdeal.nD Cert.MidReferenceIdeal.τ).loc Cert.MidReferenceIdeal.main_arg1) = m ((c.tc : Thread Cert.MidReferenceIdeal.nD Cert.MidReferenceIdeal.τ).loc Cert.MidReferenceIdeal.main_arg1)
      ∧ r.2.mem ((c.tc : Thread Cert.MidReferenceIdeal.nD Cert.MidReferenceIdeal.τ).loc Cert.MidReferenceIdeal.main_arg2) = m ((c.tc : Thread Cert.MidReferenceIdeal.nD Cert.MidReferenceIdeal.τ).loc Cert.MidReferenceIdeal.main_arg2)
      ∧ r.2.mem ((c.tc : Thread Cert.MidReferenceIdeal.nD Cert.MidReferenceIdeal.τ).loc Cert.MidReferenceIdeal.main_arg3) = m ((c.tc : Thread Cert.MidReferenceIdeal.nD Cert.MidReferenceIdeal.τ).loc Cert.MidReferenceIdeal.main_arg3)
      ∧ r.2.mem ((c.tc : Thread Cert.MidReferenceIdeal.nD Cert.MidReferenceIdeal.τ).loc Cert.MidReferenceIdeal.main_arg4) = m ((c.tc : Thread Cert.MidReferenceIdeal.nD Cert.MidReferenceIdeal.τ).loc Cert.MidReferenceIdeal.main_arg4)
      ∧ r.2.mem ((c.tc : Thread Cert.MidReferenceIdeal.nD Cert.MidReferenceIdeal.τ).loc Cert.MidReferenceIdeal.main_arg5) = m ((c.tc : Thread Cert.MidReferenceIdeal.nD Cert.MidReferenceIdeal.τ).loc Cert.MidReferenceIdeal.main_arg5)
      ∧ r.2.mem ((c.tc : Thread Cert.MidReferenceIdeal.nD Cert.MidReferenceIdeal.τ).loc Cert.MidReferenceIdeal.main_arg6) = m ((c.tc : Thread Cert.MidReferenceIdeal.nD Cert.MidReferenceIdeal.τ).loc Cert.MidReferenceIdeal.main_arg6)
      ∧ r.2.mem ((c.tc : Thread Cert.MidReferenceIdeal.nD Cert.MidReferenceIdeal.τ).loc Cert.MidReferenceIdeal.main_arg7) = m ((c.tc : Thread Cert.MidReferenceIdeal.nD Cert.MidReferenceIdeal.τ).loc Cert.MidReferenceIdeal.main_arg7)
      ∧ r.2.mem ((c.tc : Thread Cert.MidReferenceIdeal.nD Cert.MidReferenceIdeal.τ).loc Cert.MidReferenceIdeal.main_arg8) = m ((c.tc : Thread Cert.MidReferenceIdeal.nD Cert.MidReferenceIdeal.τ).loc Cert.MidReferenceIdeal.main_arg8)
      ∧ r.2.mem ((c.tc : Thread Cert.MidReferenceIdeal.nD Cert.MidReferenceIdeal.τ).loc Cert.MidReferenceIdeal.main_arg9) = m ((c.tc : Thread Cert.MidReferenceIdeal.nD Cert.MidReferenceIdeal.τ).loc Cert.MidReferenceIdeal.main_arg9)
      ∧ r.2.mem ((c.tc : Thread Cert.MidReferenceIdeal.nD Cert.MidReferenceIdeal.τ).loc Cert.MidReferenceIdeal.main_arg10) = m ((c.tc : Thread Cert.MidReferenceIdeal.nD Cert.MidReferenceIdeal.τ).loc Cert.MidReferenceIdeal.main_arg10)
      ∧ r.2.mem ((c.tc : Thread Cert.MidReferenceIdeal.nD Cert.MidReferenceIdeal.τ).loc Cert.MidReferenceIdeal.main_arg11) = m ((c.tc : Thread Cert.MidReferenceIdeal.nD Cert.MidReferenceIdeal.τ).loc Cert.MidReferenceIdeal.main_arg11)
      ∧ r.2.mem ((c.tc : Thread Cert.MidReferenceIdeal.nD Cert.MidReferenceIdeal.τ).loc Cert.MidReferenceIdeal.main_arg12) = m ((c.tc : Thread Cert.MidReferenceIdeal.nD Cert.MidReferenceIdeal.τ).loc Cert.MidReferenceIdeal.main_arg12)
      ∧ r.2.mem ((c.tc : Thread Cert.MidReferenceIdeal.nD Cert.MidReferenceIdeal.τ).loc Cert.MidReferenceIdeal.main_arg13) = m ((c.tc : Thread Cert.MidReferenceIdeal.nD Cert.MidReferenceIdeal.τ).loc Cert.MidReferenceIdeal.main_arg13))
      ∧ r.2.sem = fun _ => 0)

def preserves_Kernel_KernelIdeal : Prop :=
  IdealRules.named_const.Statement Cert.KernelIdeal.κ "scale" .f32 0x3E38AA3B#32 ((8⁻¹ * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v22_4)) (v2 : (c : Dev Cert.KernelIdeal.nD) → Buf (Elt Ideal) ((c.tc : Thread Cert.KernelIdeal.nD Cert.KernelIdeal.τ).loc Cert.KernelIdeal.main_v22_5)) (v3 : (c : Dev Cert.KernelIdeal.nD) → Buf (Elt Ideal) ((c.tc : Thread Cert.KernelIdeal.nD Cert.KernelIdeal.τ).loc Cert.KernelIdeal.main_v23_0)) (v4 : (c : Dev Cert.KernelIdeal.nD) → Buf (Elt Ideal) ((c.tc : Thread Cert.KernelIdeal.nD Cert.KernelIdeal.τ).loc Cert.KernelIdeal.main_v22_6)) (v5 : (c : Dev Cert.KernelIdeal.nD) → Buf (Elt Ideal) ((c.tc : Thread Cert.KernelIdeal.nD Cert.KernelIdeal.τ).loc Cert.KernelIdeal.main_v22_7)) (v6 : (c : Dev Cert.KernelIdeal.nD) → Buf (Elt Ideal) ((c.tc : Thread Cert.KernelIdeal.nD Cert.KernelIdeal.τ).loc Cert.KernelIdeal.main_v22_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v22_4) = v1 c
          ∧ r.2.mem ((c.tc : Thread Cert.KernelIdeal.nD Cert.KernelIdeal.τ).loc Cert.KernelIdeal.main_v22_5) = v2 c
          ∧ r.2.mem ((c.tc : Thread Cert.KernelIdeal.nD Cert.KernelIdeal.τ).loc Cert.KernelIdeal.main_v23_0) = v3 c
          ∧ r.2.mem ((c.tc : Thread Cert.KernelIdeal.nD Cert.KernelIdeal.τ).loc Cert.KernelIdeal.main_v22_6) = v4 c
          ∧ r.2.mem ((c.tc : Thread Cert.KernelIdeal.nD Cert.KernelIdeal.τ).loc Cert.KernelIdeal.main_v22_7) = v5 c
          ∧ r.2.mem ((c.tc : Thread Cert.KernelIdeal.nD Cert.KernelIdeal.τ).loc Cert.KernelIdeal.main_v22_8) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_v26) = v3 c
          ∧ r.2.mem ((c.tc : Thread Cert.ReferenceIdeal.nD Cert.ReferenceIdeal.τ).loc Cert.ReferenceIdeal.main_v74) = v4 c
          ∧ r.2.mem ((c.tc : Thread Cert.ReferenceIdeal.nD Cert.ReferenceIdeal.τ).loc Cert.ReferenceIdeal.main_v75) = v5 c
          ∧ r.2.mem ((c.tc : Thread Cert.ReferenceIdeal.nD Cert.ReferenceIdeal.τ).loc Cert.ReferenceIdeal.main_v76) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn_FfnIdeal : Prop :=
  True

def algebraic_FfnIdeal_FfnReferenceIdeal_pre_finite_oc [hFfnIdeal : Cert.FfnIdeal.Facts] [hFfnReferenceIdeal : Cert.FfnReferenceIdeal.Facts] [hPre_finite_oc : Cert.Pre_finite_oc.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal_finite_oc m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)
      ∧ m' ((c.tc : Thread Cert.FfnReferenceIdeal.nD Cert.FfnReferenceIdeal.τ).loc Cert.FfnReferenceIdeal.main_arg8) = m ((c.tc : Thread Cert.FfnIdeal.nD Cert.FfnIdeal.τ).loc Cert.FfnIdeal.main_arg8)
      ∧ m' ((c.tc : Thread Cert.FfnReferenceIdeal.nD Cert.FfnReferenceIdeal.τ).loc Cert.FfnReferenceIdeal.main_arg9) = m ((c.tc : Thread Cert.FfnIdeal.nD Cert.FfnIdeal.τ).loc Cert.FfnIdeal.main_arg9)
      ∧ m' ((c.tc : Thread Cert.FfnReferenceIdeal.nD Cert.FfnReferenceIdeal.τ).loc Cert.FfnReferenceIdeal.main_arg10) = m ((c.tc : Thread Cert.FfnIdeal.nD Cert.FfnIdeal.τ).loc Cert.FfnIdeal.main_arg10)
      ∧ m' ((c.tc : Thread Cert.FfnReferenceIdeal.nD Cert.FfnReferenceIdeal.τ).loc Cert.FfnReferenceIdeal.main_arg11) = m ((c.tc : Thread Cert.FfnIdeal.nD Cert.FfnIdeal.τ).loc Cert.FfnIdeal.main_arg11)
      ∧ m' ((c.tc : Thread Cert.FfnReferenceIdeal.nD Cert.FfnReferenceIdeal.τ).loc Cert.FfnReferenceIdeal.main_arg12) = m ((c.tc : Thread Cert.FfnIdeal.nD Cert.FfnIdeal.τ).loc Cert.FfnIdeal.main_arg12)
      ∧ m' ((c.tc : Thread Cert.FfnReferenceIdeal.nD Cert.FfnReferenceIdeal.τ).loc Cert.FfnReferenceIdeal.main_arg13) = m ((c.tc : Thread Cert.FfnIdeal.nD Cert.FfnIdeal.τ).loc Cert.FfnIdeal.main_arg13)) →
    ∃ (v0 : (c : Dev Cert.FfnIdeal.nD) → Buf (Elt Ideal) ((c.tc : Thread Cert.FfnIdeal.nD Cert.FfnIdeal.τ).loc Cert.FfnIdeal.main_v13)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v13) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
          ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
          ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11)
          ∧ r.2.mem ((c.tc : Thread Cert.FfnIdeal.nD Cert.FfnIdeal.τ).loc Cert.FfnIdeal.main_arg12) = m ((c.tc : Thread Cert.FfnIdeal.nD Cert.FfnIdeal.τ).loc Cert.FfnIdeal.main_arg12)
          ∧ r.2.mem ((c.tc : Thread Cert.FfnIdeal.nD Cert.FfnIdeal.τ).loc Cert.FfnIdeal.main_arg13) = m ((c.tc : Thread Cert.FfnIdeal.nD Cert.FfnIdeal.τ).loc Cert.FfnIdeal.main_arg13))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v82) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7)
          ∧ r.2.mem ((c.tc : Thread Cert.FfnReferenceIdeal.nD Cert.FfnReferenceIdeal.τ).loc Cert.FfnReferenceIdeal.main_arg8) = m' ((c.tc : Thread Cert.FfnReferenceIdeal.nD Cert.FfnReferenceIdeal.τ).loc Cert.FfnReferenceIdeal.main_arg8)
          ∧ r.2.mem ((c.tc : Thread Cert.FfnReferenceIdeal.nD Cert.FfnReferenceIdeal.τ).loc Cert.FfnReferenceIdeal.main_arg9) = m' ((c.tc : Thread Cert.FfnReferenceIdeal.nD Cert.FfnReferenceIdeal.τ).loc Cert.FfnReferenceIdeal.main_arg9)
          ∧ r.2.mem ((c.tc : Thread Cert.FfnReferenceIdeal.nD Cert.FfnReferenceIdeal.τ).loc Cert.FfnReferenceIdeal.main_arg10) = m' ((c.tc : Thread Cert.FfnReferenceIdeal.nD Cert.FfnReferenceIdeal.τ).loc Cert.FfnReferenceIdeal.main_arg10)
          ∧ r.2.mem ((c.tc : Thread Cert.FfnReferenceIdeal.nD Cert.FfnReferenceIdeal.τ).loc Cert.FfnReferenceIdeal.main_arg11) = m' ((c.tc : Thread Cert.FfnReferenceIdeal.nD Cert.FfnReferenceIdeal.τ).loc Cert.FfnReferenceIdeal.main_arg11)
          ∧ r.2.mem ((c.tc : Thread Cert.FfnReferenceIdeal.nD Cert.FfnReferenceIdeal.τ).loc Cert.FfnReferenceIdeal.main_arg12) = m' ((c.tc : Thread Cert.FfnReferenceIdeal.nD Cert.FfnReferenceIdeal.τ).loc Cert.FfnReferenceIdeal.main_arg12)
          ∧ r.2.mem ((c.tc : Thread Cert.FfnReferenceIdeal.nD Cert.FfnReferenceIdeal.τ).loc Cert.FfnReferenceIdeal.main_arg13) = m' ((c.tc : Thread Cert.FfnReferenceIdeal.nD Cert.FfnReferenceIdeal.τ).loc Cert.FfnReferenceIdeal.main_arg13))

def preserves_Mid_MidIdeal : Prop :=
  True

def algebraic_MidIdeal_MidReferenceIdeal_pre_finite_oc [hMidIdeal : Cert.MidIdeal.Facts] [hMidReferenceIdeal : Cert.MidReferenceIdeal.Facts] [hPre_finite_oc : Cert.Pre_finite_oc.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidReferenceIdeal.nD Cert.MidReferenceIdeal.τ Cert.MidReferenceIdeal.sig) → Buf (Elt Ideal) ℓ) (g' : Dev Cert.MidReferenceIdeal.nD → PrngReg), Pre_MidIdeal_finite_oc m →
    (∀ c : Dev Cert.MidIdeal.nD,
      m' ((c.tc : Thread Cert.MidReferenceIdeal.nD Cert.MidReferenceIdeal.τ).loc Cert.MidReferenceIdeal.main_arg0) = m ((c.tc : Thread Cert.MidIdeal.nD Cert.MidIdeal.τ).loc Cert.MidIdeal.main_arg0)
      ∧ m' ((c.tc : Thread Cert.MidReferenceIdeal.nD Cert.MidReferenceIdeal.τ).loc Cert.MidReferenceIdeal.main_arg1) = m ((c.tc : Thread Cert.MidIdeal.nD Cert.MidIdeal.τ).loc Cert.MidIdeal.main_arg1)
      ∧ m' ((c.tc : Thread Cert.MidReferenceIdeal.nD Cert.MidReferenceIdeal.τ).loc Cert.MidReferenceIdeal.main_arg2) = m ((c.tc : Thread Cert.MidIdeal.nD Cert.MidIdeal.τ).loc Cert.MidIdeal.main_arg2)
      ∧ m' ((c.tc : Thread Cert.MidReferenceIdeal.nD Cert.MidReferenceIdeal.τ).loc Cert.MidReferenceIdeal.main_arg3) = m ((c.tc : Thread Cert.MidIdeal.nD Cert.MidIdeal.τ).loc Cert.MidIdeal.main_arg3)
      ∧ m' ((c.tc : Thread Cert.MidReferenceIdeal.nD Cert.MidReferenceIdeal.τ).loc Cert.MidReferenceIdeal.main_arg4) = m ((c.tc : Thread Cert.MidIdeal.nD Cert.MidIdeal.τ).loc Cert.MidIdeal.main_arg4)
      ∧ m' ((c.tc : Thread Cert.MidReferenceIdeal.nD Cert.MidReferenceIdeal.τ).loc Cert.MidReferenceIdeal.main_arg5) = m ((c.tc : Thread Cert.MidIdeal.nD Cert.MidIdeal.τ).loc Cert.MidIdeal.main_arg5)
      ∧ m' ((c.tc : Thread Cert.MidReferenceIdeal.nD Cert.MidReferenceIdeal.τ).loc Cert.MidReferenceIdeal.main_arg6) = m ((c.tc : Thread Cert.MidIdeal.nD Cert.MidIdeal.τ).loc Cert.MidIdeal.main_arg6)
      ∧ m' ((c.tc : Thread Cert.MidReferenceIdeal.nD Cert.MidReferenceIdeal.τ).loc Cert.MidReferenceIdeal.main_arg7) = m ((c.tc : Thread Cert.MidIdeal.nD Cert.MidIdeal.τ).loc Cert.MidIdeal.main_arg7)
      ∧ m' ((c.tc : Thread Cert.MidReferenceIdeal.nD Cert.MidReferenceIdeal.τ).loc Cert.MidReferenceIdeal.main_arg8) = m ((c.tc : Thread Cert.MidIdeal.nD Cert.MidIdeal.τ).loc Cert.MidIdeal.main_arg8)
      ∧ m' ((c.tc : Thread Cert.MidReferenceIdeal.nD Cert.MidReferenceIdeal.τ).loc Cert.MidReferenceIdeal.main_arg9) = m ((c.tc : Thread Cert.MidIdeal.nD Cert.MidIdeal.τ).loc Cert.MidIdeal.main_arg9)
      ∧ m' ((c.tc : Thread Cert.MidReferenceIdeal.nD Cert.MidReferenceIdeal.τ).loc Cert.MidReferenceIdeal.main_arg10) = m ((c.tc : Thread Cert.MidIdeal.nD Cert.MidIdeal.τ).loc Cert.MidIdeal.main_arg10)
      ∧ m' ((c.tc : Thread Cert.MidReferenceIdeal.nD Cert.MidReferenceIdeal.τ).loc Cert.MidReferenceIdeal.main_arg11) = m ((c.tc : Thread Cert.MidIdeal.nD Cert.MidIdeal.τ).loc Cert.MidIdeal.main_arg11)
      ∧ m' ((c.tc : Thread Cert.MidReferenceIdeal.nD Cert.MidReferenceIdeal.τ).loc Cert.MidReferenceIdeal.main_arg12) = m ((c.tc : Thread Cert.MidIdeal.nD Cert.MidIdeal.τ).loc Cert.MidIdeal.main_arg12)
      ∧ m' ((c.tc : Thread Cert.MidReferenceIdeal.nD Cert.MidReferenceIdeal.τ).loc Cert.MidReferenceIdeal.main_arg13) = m ((c.tc : Thread Cert.MidIdeal.nD Cert.MidIdeal.τ).loc Cert.MidIdeal.main_arg13)) →
    ∃ (v0 : (c : Dev Cert.MidIdeal.nD) → Buf (Elt Ideal) ((c.tc : Thread Cert.MidIdeal.nD Cert.MidIdeal.τ).loc Cert.MidIdeal.main_v13)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v13) = v0 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
          ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
          ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
          ∧ r.2.mem ((c.tc : Thread Cert.MidIdeal.nD Cert.MidIdeal.τ).loc Cert.MidIdeal.main_arg9) = m ((c.tc : Thread Cert.MidIdeal.nD Cert.MidIdeal.τ).loc Cert.MidIdeal.main_arg9)
          ∧ r.2.mem ((c.tc : Thread Cert.MidIdeal.nD Cert.MidIdeal.τ).loc Cert.MidIdeal.main_arg10) = m ((c.tc : Thread Cert.MidIdeal.nD Cert.MidIdeal.τ).loc Cert.MidIdeal.main_arg10)
          ∧ r.2.mem ((c.tc : Thread Cert.MidIdeal.nD Cert.MidIdeal.τ).loc Cert.MidIdeal.main_arg11) = m ((c.tc : Thread Cert.MidIdeal.nD Cert.MidIdeal.τ).loc Cert.MidIdeal.main_arg11)
          ∧ r.2.mem ((c.tc : Thread Cert.MidIdeal.nD Cert.MidIdeal.τ).loc Cert.MidIdeal.main_arg12) = m ((c.tc : Thread Cert.MidIdeal.nD Cert.MidIdeal.τ).loc Cert.MidIdeal.main_arg12)
          ∧ r.2.mem ((c.tc : Thread Cert.MidIdeal.nD Cert.MidIdeal.τ).loc Cert.MidIdeal.main_arg13) = m ((c.tc : Thread Cert.MidIdeal.nD Cert.MidIdeal.τ).loc Cert.MidIdeal.main_arg13))
      ∧ θ_run (Cert.MidReferenceIdeal.defs (F := Ideal)) (onTc (τ := Cert.MidReferenceIdeal.τ) (Cert.MidReferenceIdeal.main (F := Ideal))) ⟨m', fun _ => 0, g'⟩ (fun r => ∀ c : Dev Cert.MidReferenceIdeal.nD,
          r.2.mem ((c.tc : Thread Cert.MidReferenceIdeal.nD Cert.MidReferenceIdeal.τ).loc Cert.MidReferenceIdeal.main_v69) = v0 c
          ∧ r.2.mem ((c.tc : Thread Cert.MidReferenceIdeal.nD Cert.MidReferenceIdeal.τ).loc Cert.MidReferenceIdeal.main_arg0) = m' ((c.tc : Thread Cert.MidReferenceIdeal.nD Cert.MidReferenceIdeal.τ).loc Cert.MidReferenceIdeal.main_arg0)
          ∧ r.2.mem ((c.tc : Thread Cert.MidReferenceIdeal.nD Cert.MidReferenceIdeal.τ).loc Cert.MidReferenceIdeal.main_arg1) = m' ((c.tc : Thread Cert.MidReferenceIdeal.nD Cert.MidReferenceIdeal.τ).loc Cert.MidReferenceIdeal.main_arg1)
          ∧ r.2.mem ((c.tc : Thread Cert.MidReferenceIdeal.nD Cert.MidReferenceIdeal.τ).loc Cert.MidReferenceIdeal.main_arg2) = m' ((c.tc : Thread Cert.MidReferenceIdeal.nD Cert.MidReferenceIdeal.τ).loc Cert.MidReferenceIdeal.main_arg2)
          ∧ r.2.mem ((c.tc : Thread Cert.MidReferenceIdeal.nD Cert.MidReferenceIdeal.τ).loc Cert.MidReferenceIdeal.main_arg3) = m' ((c.tc : Thread Cert.MidReferenceIdeal.nD Cert.MidReferenceIdeal.τ).loc Cert.MidReferenceIdeal.main_arg3)
          ∧ r.2.mem ((c.tc : Thread Cert.MidReferenceIdeal.nD Cert.MidReferenceIdeal.τ).loc Cert.MidReferenceIdeal.main_arg4) = m' ((c.tc : Thread Cert.MidReferenceIdeal.nD Cert.MidReferenceIdeal.τ).loc Cert.MidReferenceIdeal.main_arg4)
          ∧ r.2.mem ((c.tc : Thread Cert.MidReferenceIdeal.nD Cert.MidReferenceIdeal.τ).loc Cert.MidReferenceIdeal.main_arg5) = m' ((c.tc : Thread Cert.MidReferenceIdeal.nD Cert.MidReferenceIdeal.τ).loc Cert.MidReferenceIdeal.main_arg5)
          ∧ r.2.mem ((c.tc : Thread Cert.MidReferenceIdeal.nD Cert.MidReferenceIdeal.τ).loc Cert.MidReferenceIdeal.main_arg6) = m' ((c.tc : Thread Cert.MidReferenceIdeal.nD Cert.MidReferenceIdeal.τ).loc Cert.MidReferenceIdeal.main_arg6)
          ∧ r.2.mem ((c.tc : Thread Cert.MidReferenceIdeal.nD Cert.MidReferenceIdeal.τ).loc Cert.MidReferenceIdeal.main_arg7) = m' ((c.tc : Thread Cert.MidReferenceIdeal.nD Cert.MidReferenceIdeal.τ).loc Cert.MidReferenceIdeal.main_arg7)
          ∧ r.2.mem ((c.tc : Thread Cert.MidReferenceIdeal.nD Cert.MidReferenceIdeal.τ).loc Cert.MidReferenceIdeal.main_arg8) = m' ((c.tc : Thread Cert.MidReferenceIdeal.nD Cert.MidReferenceIdeal.τ).loc Cert.MidReferenceIdeal.main_arg8)
          ∧ r.2.mem ((c.tc : Thread Cert.MidReferenceIdeal.nD Cert.MidReferenceIdeal.τ).loc Cert.MidReferenceIdeal.main_arg9) = m' ((c.tc : Thread Cert.MidReferenceIdeal.nD Cert.MidReferenceIdeal.τ).loc Cert.MidReferenceIdeal.main_arg9)
          ∧ r.2.mem ((c.tc : Thread Cert.MidReferenceIdeal.nD Cert.MidReferenceIdeal.τ).loc Cert.MidReferenceIdeal.main_arg10) = m' ((c.tc : Thread Cert.MidReferenceIdeal.nD Cert.MidReferenceIdeal.τ).loc Cert.MidReferenceIdeal.main_arg10)
          ∧ r.2.mem ((c.tc : Thread Cert.MidReferenceIdeal.nD Cert.MidReferenceIdeal.τ).loc Cert.MidReferenceIdeal.main_arg11) = m' ((c.tc : Thread Cert.MidReferenceIdeal.nD Cert.MidReferenceIdeal.τ).loc Cert.MidReferenceIdeal.main_arg11)
          ∧ r.2.mem ((c.tc : Thread Cert.MidReferenceIdeal.nD Cert.MidReferenceIdeal.τ).loc Cert.MidReferenceIdeal.main_arg12) = m' ((c.tc : Thread Cert.MidReferenceIdeal.nD Cert.MidReferenceIdeal.τ).loc Cert.MidReferenceIdeal.main_arg12)
          ∧ r.2.mem ((c.tc : Thread Cert.MidReferenceIdeal.nD Cert.MidReferenceIdeal.τ).loc Cert.MidReferenceIdeal.main_arg13) = m' ((c.tc : Thread Cert.MidReferenceIdeal.nD Cert.MidReferenceIdeal.τ).loc Cert.MidReferenceIdeal.main_arg13))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMid : Cert.Mid.Facts) (hMidIdeal : Cert.MidIdeal.Facts) (hMidReferenceIdeal : Cert.MidReferenceIdeal.Facts) (hPre_finite : Cert.Pre_finite.Facts) (hPre_finite_oc : Cert.Pre_finite_oc.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnIdeal_pre_finite_oc (hFfnIdeal := hFfnIdeal) (hPre_finite_oc := hPre_finite_oc)
    ∧ quiescent_FfnReferenceIdeal (hFfnReferenceIdeal := hFfnReferenceIdeal)
    ∧ quiescent_FfnReferenceIdeal_pre_finite_oc (hFfnReferenceIdeal := hFfnReferenceIdeal) (hPre_finite_oc := hPre_finite_oc)
    ∧ quiescent_Mid (hMid := hMid)
    ∧ quiescent_MidIdeal (hMidIdeal := hMidIdeal)
    ∧ quiescent_MidIdeal_pre_finite_oc (hMidIdeal := hMidIdeal) (hPre_finite_oc := hPre_finite_oc)
    ∧ quiescent_MidReferenceIdeal (hMidReferenceIdeal := hMidReferenceIdeal)
    ∧ quiescent_MidReferenceIdeal_pre_finite_oc (hMidReferenceIdeal := hMidReferenceIdeal) (hPre_finite_oc := hPre_finite_oc)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal_pre_finite_oc (hFfnIdeal := hFfnIdeal) (hFfnReferenceIdeal := hFfnReferenceIdeal) (hPre_finite_oc := hPre_finite_oc)
    ∧ preserves_Mid_MidIdeal
    ∧ algebraic_MidIdeal_MidReferenceIdeal_pre_finite_oc (hMidIdeal := hMidIdeal) (hMidReferenceIdeal := hMidReferenceIdeal) (hPre_finite_oc := hPre_finite_oc)
-- ==== Pre_finite.lean ====
abbrev S8x2064x1024 : Shape := ⟨3, ![8, 2064, 1024]⟩
abbrev S1024 : Shape := ⟨1, ![1024]⟩
abbrev S1024x3088 : Shape := ⟨2, ![1024, 3088]⟩
abbrev S3088 : Shape := ⟨1, ![3088]⟩
abbrev S_ : Shape := ⟨0, ![]⟩

class Facts : Prop where
  bcast_S_S1024 : S_.BroadcastsInDim S1024 (![] : Fin 0 → Fin S1024.rank)
  bcast_S_S1024x3088 : S_.BroadcastsInDim S1024x3088 (![] : Fin 0 → Fin S1024x3088.rank)
  bcast_S_S3088 : S_.BroadcastsInDim S3088 (![] : Fin 0 → Fin S3088.rank)

variable [Facts]

def fn {F : FTy → Type} [FloatOps F] (main_arg0 : FVec F S8x2064x1024 .f32) (main_arg1 : FVec F S1024 .f32) (main_arg2 : FVec F S1024x3088 .f32) (main_arg3 : FVec F S3088 .f32) : IVec S1024 1 × IVec S1024x3088 1 × IVec S3088 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x3088 .f32 := Host.absf main_arg2
  let main_cst_0 : FVec F S_ .f32 := constant S_ .f32 0x7F800000#32
  let main_v4 : FVec F S1024x3088 .f32 := broadcastInDim S1024x3088 ![] bcast_S_S1024x3088 main_cst_0
  let main_v5 : IVec S1024x3088 1 := cmpf .olt main_v3 main_v4
  let main_v6 : FVec F S3088 .f32 := Host.absf main_arg3
  let main_cst_1 : FVec F S_ .f32 := constant S_ .f32 0x7F800000#32
  let main_v7 : FVec F S3088 .f32 := broadcastInDim S3088 ![] bcast_S_S3088 main_cst_1
  let main_v8 : IVec S3088 1 := cmpf .olt main_v6 main_v7
  (main_v2, main_v5, main_v8)
-- ==== Pre_finite_oc.lean ====
abbrev S8x2064x1024 : Shape := ⟨3, ![8, 2064, 1024]⟩
abbrev S4x16512x128 : Shape := ⟨3, ![4, 16512, 128]⟩
abbrev S16512x256 : Shape := ⟨2, ![16512, 256]⟩
abbrev S512 : Shape := ⟨1, ![512]⟩
abbrev S256 : Shape := ⟨1, ![256]⟩
abbrev S64 : Shape := ⟨1, ![64]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S16512x256 : S_.BroadcastsInDim S16512x256 (![] : Fin 0 → Fin S16512x256.rank)

variable [Facts]

def fn {F : FTy → Type} [FloatOps F] (main_arg0 : FVec F S8x2064x1024 .f32) (main_arg1 : FVec F S4x16512x128 .f32) (main_arg2 : FVec F S16512x256 .f32) (main_arg3 : FVec F S16512x256 .f32) (main_arg4 : FVec F S16512x256 .f32) (main_arg5 : FVec F S512 .f32) (main_arg6 : FVec F S256 .f32) (main_arg7 : FVec F S64 .f32) (main_arg8 : FVec F S1024x1024 .f32) (main_arg9 : FVec F S1024 .f32) (main_arg10 : FVec F S1024x2816 .f32) (main_arg11 : FVec F S1024x2816 .f32) (main_arg12 : FVec F S2816x1024 .f32) (main_arg13 : FVec F S1024 .f32) : IVec S16512x256 1 :=
  let main_v0 : FVec F S16512x256 .f32 := Host.absf main_arg3
  let main_cst : FVec F S_ .f32 := constant S_ .f32 0x7F800000#32
  let main_v1 : FVec F S16512x256 .f32 := broadcastInDim S16512x256 ![] bcast_S_S16512x256 main_cst
  let main_v2 : IVec S16512x256 1 := cmpf .olt main_v0 main_v1
  main_v2
-- ==== Kernel.lean ====
abbrev S8x2064x1024 : Shape := ⟨3, ![8, 2064, 1024]⟩
abbrev S1024 : Shape := ⟨1, ![1024]⟩
abbrev S1024x3088 : Shape := ⟨2, ![1024, 3088]⟩
abbrev S3088 : Shape := ⟨1, ![3088]⟩
abbrev S1024x1536 : Shape := ⟨2, ![1024, 1536]⟩
abbrev S1024x512 : Shape := ⟨2, ![1024, 512]⟩
abbrev S1024x768 : Shape := ⟨2, ![1024, 768]⟩
abbrev S1024x256 : Shape := ⟨2, ![1024, 256]⟩
abbrev S1024x8 : Shape := ⟨2, ![1024, 8]⟩
abbrev S1024x4 : Shape := ⟨2, ![1024, 4]⟩
abbrev S_ : Shape := ⟨0, ![]⟩
abbrev S1024x3200 : Shape := ⟨2, ![1024, 3200]⟩
abbrev S1536 : Shape := ⟨1, ![1536]⟩
abbrev S512 : Shape := ⟨1, ![512]⟩
abbrev S768 : Shape := ⟨1, ![768]⟩
abbrev S256 : Shape := ⟨1, ![256]⟩
abbrev S8 : Shape := ⟨1, ![8]⟩
abbrev S4 : Shape := ⟨1, ![4]⟩
abbrev S3200 : Shape := ⟨1, ![3200]⟩
abbrev S16512x1024 : Shape := ⟨2, ![16512, 1024]⟩
abbrev S1x1024 : Shape := ⟨2, ![1, 1024]⟩
abbrev S1x3200 : Shape := ⟨2, ![1, 3200]⟩
abbrev S4x16512x128 : Shape := ⟨3, ![4, 16512, 128]⟩
abbrev S16512x512 : Shape := ⟨2, ![16512, 512]⟩
abbrev S16512x256 : Shape := ⟨2, ![16512, 256]⟩
abbrev S16512x768 : Shape := ⟨2, ![16512, 768]⟩
abbrev S16512x128 : Shape := ⟨2, ![16512, 128]⟩
abbrev S384x1024 : Shape := ⟨2, ![384, 1024]⟩
abbrev S4x384x128 : Shape := ⟨3, ![4, 384, 128]⟩
abbrev S384x512 : Shape := ⟨2, ![384, 512]⟩
abbrev S384x256 : Shape := ⟨2, ![384, 256]⟩
abbrev S384x768 : Shape := ⟨2, ![384, 768]⟩
abbrev S384x128 : Shape := ⟨2, ![384, 128]⟩
abbrev S384 : Shape := ⟨1, ![384]⟩
abbrev S384x1 : Shape := ⟨2, ![384, 1]⟩
abbrev S1x512 : Shape := ⟨2, ![1, 512]⟩
abbrev S1x384x128 : Shape := ⟨3, ![1, 384, 128]⟩
abbrev S1x768 : Shape := ⟨2, ![1, 768]⟩
abbrev S1x256 : Shape := ⟨2, ![1, 256]⟩
abbrev S1024x128 : Shape := ⟨2, ![1024, 128]⟩
abbrev S1x128 : Shape := ⟨2, ![1, 128]⟩
abbrev S8x2064x8 : Shape := ⟨3, ![8, 2064, 8]⟩
abbrev S2064x128 : Shape := ⟨2, ![2064, 128]⟩
abbrev S1x2064x8 : Shape := ⟨3, ![1, 2064, 8]⟩
abbrev S4x2064x128 : Shape := ⟨3, ![4, 2064, 128]⟩
abbrev S2064x8 : Shape := ⟨2, ![2064, 8]⟩
abbrev S128x128 : Shape := ⟨2, ![128, 128]⟩
abbrev S16x16 : Shape := ⟨2, ![16, 16]⟩
abbrev S16x128 : Shape := ⟨2, ![16, 128]⟩
abbrev S1x2064x128 : Shape := ⟨3, ![1, 2064, 128]⟩
abbrev S2064x256 : Shape := ⟨2, ![2064, 256]⟩
abbrev S1x512x128 : Shape := ⟨3, ![1, 512, 128]⟩
abbrev S512x128 : Shape := ⟨2, ![512, 128]⟩
abbrev S512x512 : Shape := ⟨2, ![512, 512]⟩
abbrev S512x256 : Shape := ⟨2, ![512, 256]⟩
abbrev S512x1 : Shape := ⟨2, ![512, 1]⟩
abbrev S512x1024 : Shape := ⟨2, ![512, 1024]⟩
abbrev S1536x256 : Shape := ⟨2, ![1536, 256]⟩
abbrev S512x1536 : Shape := ⟨2, ![512, 1536]⟩
abbrev S1536x128 : Shape := ⟨2, ![1536, 128]⟩
abbrev S1x16x128 : Shape := ⟨3, ![1, 16, 128]⟩
abbrev S16x256 : Shape := ⟨2, ![16, 256]⟩
abbrev S16 : Shape := ⟨1, ![16]⟩
abbrev S16x1 : Shape := ⟨2, ![16, 1]⟩
abbrev S2048x256 : Shape := ⟨2, ![2048, 256]⟩
abbrev S16x2048 : Shape := ⟨2, ![16, 2048]⟩
abbrev S2048x128 : Shape := ⟨2, ![2048, 128]⟩

abbrev nBuf : Space → Nat
  | .hbm => 44
  | .vmem => 49
  | .smem => 0
  | _ => 0

abbrev bufTy : (tb : Table) → Fin (tcTables nBuf tb) → BufTy
  | .hbm, ⟨0, _⟩ => ⟨S8x2064x1024, .f32⟩
  | .hbm, ⟨1, _⟩ => ⟨S1024, .f32⟩
  | .hbm, ⟨2, _⟩ => ⟨S1024x3088, .f32⟩
  | .hbm, ⟨3, _⟩ => ⟨S3088, .f32⟩
  | .hbm, ⟨4, _⟩ => ⟨S1024x3088, .bf16⟩
  | .hbm, ⟨5, _⟩ => ⟨S1024x1536, .bf16⟩
  | .hbm, ⟨6, _⟩ => ⟨S1024x512, .bf16⟩
  | .hbm, ⟨7, _⟩ => ⟨S1024x768, .bf16⟩
  | .hbm, ⟨8, _⟩ => ⟨S1024x256, .bf16⟩
  | .hbm, ⟨9, _⟩ => ⟨S1024x8, .bf16⟩
  | .hbm, ⟨10, _⟩ => ⟨S1024x4, .bf16⟩
  | .hbm, ⟨11, _⟩ => ⟨S1024x4, .bf16⟩
  | .hbm, ⟨12, _⟩ => ⟨S1024x3088, .bf16⟩
  | .hbm, ⟨13, _⟩ => ⟨S_, .i32⟩
  | .hbm, ⟨14, _⟩ => ⟨S_, .bf16⟩
  | .hbm, ⟨15, _⟩ => ⟨S1024x3200, .bf16⟩
  | .hbm, ⟨16, _⟩ => ⟨S1536, .f32⟩
  | .hbm, ⟨17, _⟩ => ⟨S512, .f32⟩
  | .hbm, ⟨18, _⟩ => ⟨S768, .f32⟩
  | .hbm, ⟨19, _⟩ => ⟨S256, .f32⟩
  | .hbm, ⟨20, _⟩ => ⟨S8, .f32⟩
  | .hbm, ⟨21, _⟩ => ⟨S4, .f32⟩
  | .hbm, ⟨22, _⟩ => ⟨S4, .f32⟩
  | .hbm, ⟨23, _⟩ => ⟨S3088, .f32⟩
  | .hbm, ⟨24, _⟩ => ⟨S_, .i32⟩
  | .hbm, ⟨25, _⟩ => ⟨S_, .f32⟩
  | .hbm, ⟨26, _⟩ => ⟨S3200, .f32⟩
  | .hbm, ⟨27, _⟩ => ⟨S16512x1024, .f32⟩
  | .hbm, ⟨28, _⟩ => ⟨S1x1024, .f32⟩
  | .hbm, ⟨29, _⟩ => ⟨S1x3200, .f32⟩
  | .hbm, ⟨30, _⟩ => ⟨S4x16512x128, .bf16⟩
  | .hbm, ⟨31, _⟩ => ⟨S4x16512x128, .bf16⟩
  | .hbm, ⟨32, _⟩ => ⟨S4x16512x128, .bf16⟩
  | .hbm, ⟨33, _⟩ => ⟨S16512x512, .f32⟩
  | .hbm, ⟨34, _⟩ => ⟨S16512x512, .f32⟩
  | .hbm, ⟨35, _⟩ => ⟨S16512x512, .f32⟩
  | .hbm, ⟨36, _⟩ => ⟨S16512x256, .f32⟩
  | .hbm, ⟨37, _⟩ => ⟨S16512x768, .f32⟩
  | .hbm, ⟨38, _⟩ => ⟨S16512x256, .f32⟩
  | .hbm, ⟨39, _⟩ => ⟨S16512x128, .f32⟩
  | .hbm, ⟨40, _⟩ => ⟨S8x2064x8, .f32⟩
  | .hbm, ⟨41, _⟩ => ⟨S4x16512x128, .bf16⟩
  | .hbm, ⟨42, _⟩ => ⟨S4x16512x128, .bf16⟩
  | .hbm, ⟨43, _⟩ => ⟨S4x16512x128, .f32⟩
  | .local _ .vmem, ⟨0, _⟩ => ⟨S384x1024, .f32⟩
  | .local _ .vmem, ⟨1, _⟩ => ⟨S384x1024, .f32⟩
  | .local _ .vmem, ⟨2, _⟩ => ⟨S1x1024, .f32⟩
  | .local _ .vmem, ⟨3, _⟩ => ⟨S1024x3200, .bf16⟩
  | .local _ .vmem, ⟨4, _⟩ => ⟨S1x3200, .f32⟩
  | .local _ .vmem, ⟨5, _⟩ => ⟨S4x384x128, .bf16⟩
  | .local _ .vmem, ⟨6, _⟩ => ⟨S4x384x128, .bf16⟩
  | .local _ .vmem, ⟨7, _⟩ => ⟨S4x384x128, .bf16⟩
  | .local _ .vmem, ⟨8, _⟩ => ⟨S4x384x128, .bf16⟩
  | .local _ .vmem, ⟨9, _⟩ => ⟨S4x384x128, .bf16⟩
  | .local _ .vmem, ⟨10, _⟩ => ⟨S4x384x128, .bf16⟩
  | .local _ .vmem, ⟨11, _⟩ => ⟨S384x512, .f32⟩
  | .local _ .vmem, ⟨12, _⟩ => ⟨S384x512, .f32⟩
  | .local _ .vmem, ⟨13, _⟩ => ⟨S384x512, .f32⟩
  | .local _ .vmem, ⟨14, _⟩ => ⟨S384x512, .f32⟩
  | .local _ .vmem, ⟨15, _⟩ => ⟨S384x512, .f32⟩
  | .local _ .vmem, ⟨16, _⟩ => ⟨S384x512, .f32⟩
  | .local _ .vmem, ⟨17, _⟩ => ⟨S384x256, .f32⟩
  | .local _ .vmem, ⟨18, _⟩ => ⟨S384x256, .f32⟩
  | .local _ .vmem, ⟨19, _⟩ => ⟨S384x768, .f32⟩
  | .local _ .vmem, ⟨20, _⟩ => ⟨S384x768, .f32⟩
  | .local _ .vmem, ⟨21, _⟩ => ⟨S384x256, .f32⟩
  | .local _ .vmem, ⟨22, _⟩ => ⟨S384x256, .f32⟩
  | .local _ .vmem, ⟨23, _⟩ => ⟨S384x128, .f32⟩
  | .local _ .vmem, ⟨24, _⟩ => ⟨S384x128, .f32⟩
  | .local _ .vmem, ⟨25, _⟩ => ⟨S2064x128, .f32⟩
  | .local _ .vmem, ⟨26, _⟩ => ⟨S2064x128, .f32⟩
  | .local _ .vmem, ⟨27, _⟩ => ⟨S1x2064x8, .f32⟩
  | .local _ .vmem, ⟨28, _⟩ => ⟨S1x2064x8, .f32⟩
  | .local _ .vmem, ⟨29, _⟩ => ⟨S4x2064x128, .bf16⟩
  | .local _ .vmem, ⟨30, _⟩ => ⟨S4x2064x128, .bf16⟩
  | .local _ .vmem, ⟨31, _⟩ => ⟨S4x2064x128, .bf16⟩
  | .local _ .vmem, ⟨32, _⟩ => ⟨S4x2064x128, .bf16⟩
  | .local _ .vmem, ⟨33, _⟩ => ⟨S2064x128, .f32⟩
  | .local _ .vmem, ⟨34, _⟩ => ⟨S1x2064x128, .bf16⟩
  | .local _ .vmem, ⟨35, _⟩ => ⟨S1x2064x128, .bf16⟩
  | .local _ .vmem, ⟨36, _⟩ => ⟨S1x2064x128, .bf16⟩
  | .local _ .vmem, ⟨37, _⟩ => ⟨S1x2064x128, .bf16⟩
  | .local _ .vmem, ⟨38, _⟩ => ⟨S1x2064x128, .bf16⟩
  | .local _ .vmem, ⟨39, _⟩ => ⟨S1x2064x128, .bf16⟩
  | .local _ .vmem, ⟨40, _⟩ => ⟨S1x2064x128, .bf16⟩
  | .local _ .vmem, ⟨41, _⟩ => ⟨S1x2064x128, .bf16⟩
  | .local _ .vmem, ⟨42, _⟩ => ⟨S1x2064x128, .bf16⟩
  | .local _ .vmem, ⟨43, _⟩ => ⟨S1x2064x128, .bf16⟩
  | .local _ .vmem, ⟨44, _⟩ => ⟨S1x2064x128, .f32⟩
  | .local _ .vmem, ⟨45, _⟩ => ⟨S1x2064x128, .f32⟩
  | .local _ .vmem, ⟨46, _⟩ => ⟨S2064x256, .bf16⟩
  | .local _ .vmem, ⟨47, _⟩ => ⟨S2064x128, .bf16⟩
  | .local _ .vmem, ⟨48, _⟩ => ⟨S2064x128, .bf16⟩
  | _, _ => ⟨S8x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_call0_v0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_0 : Ref sig .tc := ⟨.hbm, 24, rfl⟩
abbrev main_call1_v0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22_0 : Ref sig .tc := ⟨.hbm, 30, rfl⟩
abbrev main_v22_1 : Ref sig .tc := ⟨.hbm, 31, rfl⟩
abbrev main_v22_2 : Ref sig .tc := ⟨.hbm, 32, rfl⟩
abbrev main_v22_3 : Ref sig .tc := ⟨.hbm, 33, rfl⟩
abbrev main_v22_4 : Ref sig .tc := ⟨.hbm, 34, rfl⟩
abbrev main_v22_5 : Ref sig .tc := ⟨.hbm, 35, rfl⟩
abbrev main_v22_6 : Ref sig .tc := ⟨.hbm, 36, rfl⟩
abbrev main_v22_7 : Ref sig .tc := ⟨.hbm, 37, rfl⟩
abbrev main_v22_8 : Ref sig .tc := ⟨.hbm, 38, rfl⟩
abbrev main_v22_9 : Ref sig .tc := ⟨.hbm, 39, rfl⟩
abbrev main_v23_0 : Ref sig .tc := ⟨.hbm, 40, rfl⟩
abbrev main_v23_1 : Ref sig .tc := ⟨.hbm, 41, rfl⟩
abbrev main_v23_2 : Ref sig .tc := ⟨.hbm, 42, rfl⟩
abbrev main_v24 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc1_stg0_0 : Ref sig .tc := ⟨.vmem, 25, rfl⟩
abbrev cc1_stg0_1 : Ref sig .tc := ⟨.vmem, 26, rfl⟩
abbrev cc1_stg1_0 : Ref sig .tc := ⟨.vmem, 27, rfl⟩
abbrev cc1_stg1_1 : Ref sig .tc := ⟨.vmem, 28, rfl⟩
abbrev cc1_stg2_0 : Ref sig .tc := ⟨.vmem, 29, rfl⟩
abbrev cc1_stg2_1 : Ref sig .tc := ⟨.vmem, 30, rfl⟩
abbrev cc1_stg3_0 : Ref sig .tc := ⟨.vmem, 31, rfl⟩
abbrev cc1_stg3_1 : Ref sig .tc := ⟨.vmem, 32, rfl⟩
abbrev cc1_scratch0 : Ref sig .tc := ⟨.vmem, 33, rfl⟩
abbrev cc2_stg0_0 : Ref sig .tc := ⟨.vmem, 34, rfl⟩
abbrev cc2_stg0_1 : Ref sig .tc := ⟨.vmem, 35, rfl⟩
abbrev cc2_stg1_0 : Ref sig .tc := ⟨.vmem, 36, rfl⟩
abbrev cc2_stg1_1 : Ref sig .tc := ⟨.vmem, 37, rfl⟩
abbrev cc2_stg2_0 : Ref sig .tc := ⟨.vmem, 38, rfl⟩
abbrev cc2_stg2_1 : Ref sig .tc := ⟨.vmem, 39, rfl⟩
abbrev cc2_stg3_0 : Ref sig .tc := ⟨.vmem, 40, rfl⟩
abbrev cc2_stg3_1 : Ref sig .tc := ⟨.vmem, 41, rfl⟩
abbrev cc2_stg4_0 : Ref sig .tc := ⟨.vmem, 42, rfl⟩
abbrev cc2_stg4_1 : Ref sig .tc := ⟨.vmem, 43, rfl⟩
abbrev cc2_stg5_0 : Ref sig .tc := ⟨.vmem, 44, rfl⟩
abbrev cc2_stg5_1 : Ref sig .tc := ⟨.vmem, 45, rfl⟩
abbrev cc2_scratch0 : Ref sig .tc := ⟨.vmem, 46, rfl⟩
abbrev cc2_scratch1 : Ref sig .tc := ⟨.vmem, 47, rfl⟩
abbrev cc2_scratch2 : Ref sig .tc := ⟨.vmem, 48, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc1_sem0_0 : DmaSem sig := 25
abbrev cc1_sem0_1 : DmaSem sig := 26
abbrev cc1_sem1_0 : DmaSem sig := 27
abbrev cc1_sem1_1 : DmaSem sig := 28
abbrev cc1_sem2_0 : DmaSem sig := 29
abbrev cc1_sem2_1 : DmaSem sig := 30
abbrev cc1_sem3_0 : DmaSem sig := 31
abbrev cc1_sem3_1 : DmaSem sig := 32
abbrev cc2_sem0_0 : DmaSem sig := 33
abbrev cc2_sem0_1 : DmaSem sig := 34
abbrev cc2_sem1_0 : DmaSem sig := 35
abbrev cc2_sem1_1 : DmaSem sig := 36
abbrev cc2_sem2_0 : DmaSem sig := 37
abbrev cc2_sem2_1 : DmaSem sig := 38
abbrev cc2_sem3_0 : DmaSem sig := 39
abbrev cc2_sem3_1 : DmaSem sig := 40
abbrev cc2_sem4_0 : DmaSem sig := 41
abbrev cc2_sem4_1 : DmaSem sig := 42
abbrev cc2_sem5_0 : DmaSem sig := 43
abbrev cc2_sem5_1 : DmaSem sig := 44

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3200 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x384x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x384x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x384x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S384x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S384x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S384x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S384x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S2064x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2064x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4x2064x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4x2064x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![8, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage2_0 : Fin 2 → Memref sig .tc .vmem S1x2064x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x2064x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x2064x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x2064x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x2064x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x2064x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "scale" => some ((8⁻¹ * (Real.log 2)⁻¹ : ℝ) : EReal)
  | _ => none
-- ==== ReferenceIdeal.lean ====
abbrev S8x2064x1024 : Shape := ⟨3, ![8, 2064, 1024]⟩
abbrev S1024 : Shape := ⟨1, ![1024]⟩
abbrev S1024x3088 : Shape := ⟨2, ![1024, 3088]⟩
abbrev S3088 : Shape := ⟨1, ![3088]⟩
abbrev S_ : Shape := ⟨0, ![]⟩
abbrev S8x2064 : Shape := ⟨2, ![8, 2064]⟩
abbrev S8x2064x1 : Shape := ⟨3, ![8, 2064, 1]⟩
abbrev S1x1x1024 : Shape := ⟨3, ![1, 1, 1024]⟩
abbrev S8x2064x3088 : Shape := ⟨3, ![8, 2064, 3088]⟩
abbrev S1x1x3088 : Shape := ⟨3, ![1, 1, 3088]⟩
abbrev S8x2064x512 : Shape := ⟨3, ![8, 2064, 512]⟩
abbrev S8x2064x8 : Shape := ⟨3, ![8, 2064, 8]⟩
abbrev S8x2064x768 : Shape := ⟨3, ![8, 2064, 768]⟩
abbrev S8x2064x4 : Shape := ⟨3, ![8, 2064, 4]⟩
abbrev S8x2064x256 : Shape := ⟨3, ![8, 2064, 256]⟩
abbrev S8x8x2064 : Shape := ⟨3, ![8, 8, 2064]⟩
abbrev S8x2064x8x64 : Shape := ⟨4, ![8, 2064, 8, 64]⟩
abbrev S8x8x2064x2064 : Shape := ⟨4, ![8, 8, 2064, 2064]⟩
abbrev S8x8x2064x1 : Shape := ⟨4, ![8, 8, 2064, 1]⟩
abbrev S8x8x1x2064 : Shape := ⟨4, ![8, 8, 1, 2064]⟩
abbrev S2064 : Shape := ⟨1, ![2064]⟩
abbrev S2064x1 : Shape := ⟨2, ![2064, 1]⟩
abbrev S1x2064 : Shape := ⟨2, ![1, 2064]⟩
abbrev S2064x2064 : Shape := ⟨2, ![2064, 2064]⟩
abbrev S8x8x64x2064 : Shape := ⟨4, ![8, 8, 64, 2064]⟩
abbrev S16512x4x128 : Shape := ⟨3, ![16512, 4, 128]⟩
abbrev S4x16512x128 : Shape := ⟨3, ![4, 16512, 128]⟩
abbrev S16512x512 : Shape := ⟨2, ![16512, 512]⟩
abbrev S16512x256 : Shape := ⟨2, ![16512, 256]⟩
abbrev S16512x768 : Shape := ⟨2, ![16512, 768]⟩

abbrev nBuf : Space → Nat
  | .hbm => 111
  | .vmem => 0
  | .smem => 0
  | _ => 0

abbrev bufTy : (tb : Table) → Fin (tcTables nBuf tb) → BufTy
  | .hbm, ⟨0, _⟩ => ⟨S8x2064x1024, .f32⟩
  | .hbm, ⟨1, _⟩ => ⟨S1024, .f32⟩
  | .hbm, ⟨2, _⟩ => ⟨S1024x3088, .f32⟩
  | .hbm, ⟨3, _⟩ => ⟨S3088, .f32⟩
  | .hbm, ⟨4, _⟩ => ⟨S8x2064x1024, .f32⟩
  | .hbm, ⟨5, _⟩ => ⟨S_, .f32⟩
  | .hbm, ⟨6, _⟩ => ⟨S8x2064, .f32⟩
  | .hbm, ⟨7, _⟩ => ⟨S8x2064x1, .f32⟩
  | .hbm, ⟨8, _⟩ => ⟨S_, .f32⟩
  | .hbm, ⟨9, _⟩ => ⟨S8x2064x1, .f32⟩
  | .hbm, ⟨10, _⟩ => ⟨S8x2064x1, .f32⟩
  | .hbm, ⟨11, _⟩ => ⟨S_, .f32⟩
  | .hbm, ⟨12, _⟩ => ⟨S8x2064x1, .f32⟩
  | .hbm, ⟨13, _⟩ => ⟨S8x2064x1, .f32⟩
  | .hbm, ⟨14, _⟩ => ⟨S8x2064x1, .f32⟩
  | .hbm, ⟨15, _⟩ => ⟨S8x2064x1024, .f32⟩
  | .hbm, ⟨16, _⟩ => ⟨S8x2064x1024, .f32⟩
  | .hbm, ⟨17, _⟩ => ⟨S1x1x1024, .f32⟩
  | .hbm, ⟨18, _⟩ => ⟨S8x2064x1024, .f32⟩
  | .hbm, ⟨19, _⟩ => ⟨S8x2064x1024, .f32⟩
  | .hbm, ⟨20, _⟩ => ⟨S8x2064x3088, .f32⟩
  | .hbm, ⟨21, _⟩ => ⟨S1x1x3088, .f32⟩
  | .hbm, ⟨22, _⟩ => ⟨S8x2064x3088, .f32⟩
  | .hbm, ⟨23, _⟩ => ⟨S8x2064x3088, .f32⟩
  | .hbm, ⟨24, _⟩ => ⟨S8x2064x512, .f32⟩
  | .hbm, ⟨25, _⟩ => ⟨S8x2064x512, .f32⟩
  | .hbm, ⟨26, _⟩ => ⟨S8x2064x512, .f32⟩
  | .hbm, ⟨27, _⟩ => ⟨S8x2064x8, .f32⟩
  | .hbm, ⟨28, _⟩ => ⟨S8x2064x512, .f32⟩
  | .hbm, ⟨29, _⟩ => ⟨S8x2064x768, .f32⟩
  | .hbm, ⟨30, _⟩ => ⟨S8x2064x4, .f32⟩
  | .hbm, ⟨31, _⟩ => ⟨S8x2064x4, .f32⟩
  | .hbm, ⟨32, _⟩ => ⟨S8x2064x256, .f32⟩
  | .hbm, ⟨33, _⟩ => ⟨S8x2064x8, .f32⟩
  | .hbm, ⟨34, _⟩ => ⟨S_, .f32⟩
  | .hbm, ⟨35, _⟩ => ⟨S8x2064x8, .f32⟩
  | .hbm, ⟨36, _⟩ => ⟨S8x2064x8, .f32⟩
  | .hbm, ⟨37, _⟩ => ⟨S8x2064x8, .f32⟩
  | .hbm, ⟨38, _⟩ => ⟨S8x2064x8, .f32⟩
  | .hbm, ⟨39, _⟩ => ⟨S8x2064x8, .i1⟩
  | .hbm, ⟨40, _⟩ => ⟨S8x2064x8, .f32⟩
  | .hbm, ⟨41, _⟩ => ⟨S8x2064x8, .f32⟩
  | .hbm, ⟨42, _⟩ => ⟨S8x2064x8, .f32⟩
  | .hbm, ⟨43, _⟩ => ⟨S8x2064x8, .f32⟩
  | .hbm, ⟨44, _⟩ => ⟨S8x2064x8, .f32⟩
  | .hbm, ⟨45, _⟩ => ⟨S8x2064x8, .f32⟩
  | .hbm, ⟨46, _⟩ => ⟨S8x2064x8, .f32⟩
  | .hbm, ⟨47, _⟩ => ⟨S8x2064x8, .f32⟩
  | .hbm, ⟨48, _⟩ => ⟨S8x2064x8, .f32⟩
  | .hbm, ⟨49, _⟩ => ⟨S_, .f32⟩
  | .hbm, ⟨50, _⟩ => ⟨S_, .f32⟩
  | .hbm, ⟨51, _⟩ => ⟨S8x2064x8, .f32⟩
  | .hbm, ⟨52, _⟩ => ⟨S8x8x2064, .f32⟩
  | .hbm, ⟨53, _⟩ => ⟨S8x2064x8x64, .f32⟩
  | .hbm, ⟨54, _⟩ => ⟨S8x2064x8x64, .f32⟩
  | .hbm, ⟨55, _⟩ => ⟨S8x8x2064x2064, .f32⟩
  | .hbm, ⟨56, _⟩ => ⟨S_, .f32⟩
  | .hbm, ⟨57, _⟩ => ⟨S8x8x2064x2064, .f32⟩
  | .hbm, ⟨58, _⟩ => ⟨S8x8x2064x2064, .f32⟩
  | .hbm, ⟨59, _⟩ => ⟨S8x8x2064x1, .f32⟩
  | .hbm, ⟨60, _⟩ => ⟨S8x8x2064x2064, .f32⟩
  | .hbm, ⟨61, _⟩ => ⟨S8x8x2064x2064, .f32⟩
  | .hbm, ⟨62, _⟩ => ⟨S8x8x1x2064, .f32⟩
  | .hbm, ⟨63, _⟩ => ⟨S8x8x2064x2064, .f32⟩
  | .hbm, ⟨64, _⟩ => ⟨S8x8x2064x2064, .f32⟩
  | .hbm, ⟨65, _⟩ => ⟨S2064, .i32⟩
  | .hbm, ⟨66, _⟩ => ⟨S2064x1, .i32⟩
  | .hbm, ⟨67, _⟩ => ⟨S1x2064, .i32⟩
  | .hbm, ⟨68, _⟩ => ⟨S2064x2064, .i32⟩
  | .hbm, ⟨69, _⟩ => ⟨S2064x2064, .i32⟩
  | .hbm, ⟨70, _⟩ => ⟨S2064x2064, .i1⟩
  | .hbm, ⟨71, _⟩ => ⟨S_, .f32⟩
  | .hbm, ⟨72, _⟩ => ⟨S_, .f32⟩
  | .hbm, ⟨73, _⟩ => ⟨S8x8x2064x2064, .i1⟩
  | .hbm, ⟨74, _⟩ => ⟨S8x8x2064x2064, .f32⟩
  | .hbm, ⟨75, _⟩ => ⟨S8x8x2064x2064, .f32⟩
  | .hbm, ⟨76, _⟩ => ⟨S_, .f32⟩
  | .hbm, ⟨77, _⟩ => ⟨S8x8x2064, .f32⟩
  | .hbm, ⟨78, _⟩ => ⟨S_, .f32⟩
  | .hbm, ⟨79, _⟩ => ⟨S8x8x2064, .f32⟩
  | .hbm, ⟨80, _⟩ => ⟨S8x8x2064, .f32⟩
  | .hbm, ⟨81, _⟩ => ⟨S8x8x2064x1, .f32⟩
  | .hbm, ⟨82, _⟩ => ⟨S8x8x2064x2064, .f32⟩
  | .hbm, ⟨83, _⟩ => ⟨S8x8x2064x2064, .f32⟩
  | .hbm, ⟨84, _⟩ => ⟨S8x8x2064x2064, .f32⟩
  | .hbm, ⟨85, _⟩ => ⟨S_, .f32⟩
  | .hbm, ⟨86, _⟩ => ⟨S8x8x2064, .f32⟩
  | .hbm, ⟨87, _⟩ => ⟨S8x8x2064x1, .f32⟩
  | .hbm, ⟨88, _⟩ => ⟨S8x8x2064x2064, .f32⟩
  | .hbm, ⟨89, _⟩ => ⟨S8x8x2064x2064, .f32⟩
  | .hbm, ⟨90, _⟩ => ⟨S8x2064x8x64, .f32⟩
  | .hbm, ⟨91, _⟩ => ⟨S8x8x64x2064, .f32⟩
  | .hbm, ⟨92, _⟩ => ⟨S8x2064x8x64, .f32⟩
  | .hbm, ⟨93, _⟩ => ⟨S16512x4x128, .f32⟩
  | .hbm, ⟨94, _⟩ => ⟨S4x16512x128, .f32⟩
  | .hbm, ⟨95, _⟩ => ⟨S8x2064x256, .f32⟩
  | .hbm, ⟨96, _⟩ => ⟨S8x2064x256, .f32⟩
  | .hbm, ⟨97, _⟩ => ⟨S16512x512, .f32⟩
  | .hbm, ⟨98, _⟩ => ⟨S16512x512, .f32⟩
  | .hbm, ⟨99, _⟩ => ⟨S8x2064x256, .f32⟩
  | .hbm, ⟨100, _⟩ => ⟨S8x2064x256, .f32⟩
  | .hbm, ⟨101, _⟩ => ⟨S_, .f32⟩
  | .hbm, ⟨102, _⟩ => ⟨S8x2064x256, .f32⟩
  | .hbm, ⟨103, _⟩ => ⟨S8x2064x256, .f32⟩
  | .hbm, ⟨104, _⟩ => ⟨S_, .f32⟩
  | .hbm, ⟨105, _⟩ => ⟨S8x2064x256, .f32⟩
  | .hbm, ⟨106, _⟩ => ⟨S8x2064x256, .f32⟩
  | .hbm, ⟨107, _⟩ => ⟨S8x2064x256, .f32⟩
  | .hbm, ⟨108, _⟩ => ⟨S16512x256, .f32⟩
  | .hbm, ⟨109, _⟩ => ⟨S16512x768, .f32⟩
  | .hbm, ⟨110, _⟩ => ⟨S16512x256, .f32⟩
  | _, _ => ⟨S8x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_call0_v0 : Ref sig .tc := ⟨.hbm, 33, rfl⟩
abbrev main_call0_call0_cst : Ref sig .tc := ⟨.hbm, 34, rfl⟩
abbrev main_call0_call0_v0 : Ref sig .tc := ⟨.hbm, 35, rfl⟩
abbrev main_call0_call0_v1 : Ref sig .tc := ⟨.hbm, 36, rfl⟩
abbrev main_call0_call0_v2 : Ref sig .tc := ⟨.hbm, 37, rfl⟩
abbrev main_call0_call0_v3 : Ref sig .tc := ⟨.hbm, 38, rfl⟩
abbrev main_call0_call0_v4 : Ref sig .tc := ⟨.hbm, 39, rfl⟩
abbrev main_call0_call0_v5 : Ref sig .tc := ⟨.hbm, 40, rfl⟩
abbrev main_call0_call0_v6 : Ref sig .tc := ⟨.hbm, 41, rfl⟩
abbrev main_call0_call0_v7 : Ref sig .tc := ⟨.hbm, 42, rfl⟩
abbrev main_call0_call0_v8 : Ref sig .tc := ⟨.hbm, 43, rfl⟩
abbrev main_call0_call0_v9 : Ref sig .tc := ⟨.hbm, 44, rfl⟩
abbrev main_call0_call0_v10 : Ref sig .tc := ⟨.hbm, 45, rfl⟩
abbrev main_call0_call0_v11 : Ref sig .tc := ⟨.hbm, 46, rfl⟩
abbrev main_call0_v1 : Ref sig .tc := ⟨.hbm, 47, rfl⟩
abbrev main_v26 : Ref sig .tc := ⟨.hbm, 48, rfl⟩
abbrev main_call1_call0_cst : Ref sig .tc := ⟨.hbm, 49, rfl⟩
abbrev main_call1_call0_v0 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_2 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_3 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_v46 : Ref sig .tc := ⟨.hbm, 75, rfl⟩
abbrev main_cst_4 : Ref sig .tc := ⟨.hbm, 76, rfl⟩
abbrev main_v47 : Ref sig .tc := ⟨.hbm, 77, rfl⟩
abbrev main_cst_5 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_6 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_7 : Ref sig .tc := ⟨.hbm, 101, rfl⟩
abbrev main_v69 : Ref sig .tc := ⟨.hbm, 102, rfl⟩
abbrev main_v70 : Ref sig .tc := ⟨.hbm, 103, rfl⟩
abbrev main_cst_8 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩

abbrev nD : Nat := 1
abbrev τ : Topo := Topo.v7x

variable {F : FTy → Type} [FloatOps F]
-- ==== Ffn.lean ====
abbrev S8x2064x1024 : Shape := ⟨3, ![8, 2064, 1024]⟩
abbrev S4x16512x128 : Shape := ⟨3, ![4, 16512, 128]⟩
abbrev S16512x256 : Shape := ⟨2, ![16512, 256]⟩
abbrev S512 : Shape := ⟨1, ![512]⟩
abbrev S256 : Shape := ⟨1, ![256]⟩
abbrev S64 : Shape := ⟨1, ![64]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x64 : Shape := ⟨2, ![1, 64]⟩
abbrev S4x64 : Shape := ⟨2, ![4, 64]⟩
abbrev S1x256 : Shape := ⟨2, ![1, 256]⟩
abbrev S16512x1024 : Shape := ⟨2, ![16512, 1024]⟩
abbrev S1x512 : Shape := ⟨2, ![1, 512]⟩
abbrev S1x1024 : Shape := ⟨2, ![1, 1024]⟩
abbrev S8x2048x1024 : Shape := ⟨3, ![8, 2048, 1024]⟩
abbrev S512x1024 : Shape := ⟨2, ![512, 1024]⟩
abbrev S4x512x128 : Shape := ⟨3, ![4, 512, 128]⟩
abbrev S512x256 : Shape := ⟨2, ![512, 256]⟩
abbrev S1x512x1024 : Shape := ⟨3, ![1, 512, 1024]⟩
abbrev S1x512x128 : Shape := ⟨3, ![1, 512, 128]⟩
abbrev S512x128 : Shape := ⟨2, ![512, 128]⟩
abbrev S512x512 : Shape := ⟨2, ![512, 512]⟩
abbrev S256x256 : Shape := ⟨2, ![256, 256]⟩
abbrev S512x1 : Shape := ⟨2, ![512, 1]⟩
abbrev S512x2816 : Shape := ⟨2, ![512, 2816]⟩

abbrev nBuf : Space → Nat
  | .hbm => 28
  | .vmem => 21
  | .smem => 0
  | _ => 0

abbrev bufTy : (tb : Table) → Fin (tcTables nBuf tb) → BufTy
  | .hbm, ⟨0, _⟩ => ⟨S8x2064x1024, .f32⟩
  | .hbm, ⟨1, _⟩ => ⟨S4x16512x128, .f32⟩
  | .hbm, ⟨2, _⟩ => ⟨S16512x256, .f32⟩
  | .hbm, ⟨3, _⟩ => ⟨S16512x256, .f32⟩
  | .hbm, ⟨4, _⟩ => ⟨S16512x256, .f32⟩
  | .hbm, ⟨5, _⟩ => ⟨S512, .f32⟩
  | .hbm, ⟨6, _⟩ => ⟨S256, .f32⟩
  | .hbm, ⟨7, _⟩ => ⟨S64, .f32⟩
  | .hbm, ⟨8, _⟩ => ⟨S1024x1024, .f32⟩
  | .hbm, ⟨9, _⟩ => ⟨S1024, .f32⟩
  | .hbm, ⟨10, _⟩ => ⟨S1024x2816, .f32⟩
  | .hbm, ⟨11, _⟩ => ⟨S1024x2816, .f32⟩
  | .hbm, ⟨12, _⟩ => ⟨S2816x1024, .f32⟩
  | .hbm, ⟨13, _⟩ => ⟨S1024, .f32⟩
  | .hbm, ⟨14, _⟩ => ⟨S1x64, .f32⟩
  | .hbm, ⟨15, _⟩ => ⟨S4x64, .f32⟩
  | .hbm, ⟨16, _⟩ => ⟨S256, .f32⟩
  | .hbm, ⟨17, _⟩ => ⟨S1x256, .f32⟩
  | .hbm, ⟨18, _⟩ => ⟨S16512x1024, .f32⟩
  | .hbm, ⟨19, _⟩ => ⟨S1x512, .f32⟩
  | .hbm, ⟨20, _⟩ => ⟨S1x256, .f32⟩
  | .hbm, ⟨21, _⟩ => ⟨S1024x1024, .bf16⟩
  | .hbm, ⟨22, _⟩ => ⟨S1x1024, .f32⟩
  | .hbm, ⟨23, _⟩ => ⟨S1024x2816, .bf16⟩
  | .hbm, ⟨24, _⟩ => ⟨S1024x2816, .bf16⟩
  | .hbm, ⟨25, _⟩ => ⟨S2816x1024, .bf16⟩
  | .hbm, ⟨26, _⟩ => ⟨S1x1024, .f32⟩
  | .hbm, ⟨27, _⟩ => ⟨S8x2048x1024, .f32⟩
  | .local _ .vmem, ⟨0, _⟩ => ⟨S512x1024, .f32⟩
  | .local _ .vmem, ⟨1, _⟩ => ⟨S512x1024, .f32⟩
  | .local _ .vmem, ⟨2, _⟩ => ⟨S4x512x128, .f32⟩
  | .local _ .vmem, ⟨3, _⟩ => ⟨S4x512x128, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S1x512, .f32⟩
  | .local _ .vmem, ⟨11, _⟩ => ⟨S1x256, .f32⟩
  | .local _ .vmem, ⟨12, _⟩ => ⟨S1x256, .f32⟩
  | .local _ .vmem, ⟨13, _⟩ => ⟨S1024x1024, .bf16⟩
  | .local _ .vmem, ⟨14, _⟩ => ⟨S1x1024, .f32⟩
  | .local _ .vmem, ⟨15, _⟩ => ⟨S1024x2816, .bf16⟩
  | .local _ .vmem, ⟨16, _⟩ => ⟨S1024x2816, .bf16⟩
  | .local _ .vmem, ⟨17, _⟩ => ⟨S2816x1024, .bf16⟩
  | .local _ .vmem, ⟨18, _⟩ => ⟨S1x1024, .f32⟩
  | .local _ .vmem, ⟨19, _⟩ => ⟨S1x512x1024, .f32⟩
  | .local _ .vmem, ⟨20, _⟩ => ⟨S1x512x1024, .f32⟩
  | _, _ => ⟨S8x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg0 : BitVec 32 := BitVec.ofNat 32 (i 0).val
  let c2064_i32 : BitVec 32 := 2064#32
  let v0 : BitVec 32 := Scalar.muli arg0 c2064_i32
  let c16_i32 : BitVec 32 := 16#32
  let v1 : BitVec 32 := Scalar.addi v0 c16_i32
  let arg1 : BitVec 32 := BitVec.ofNat 32 (i 1).val
  let c512_i32 : BitVec 32 := 512#32
  let v2 : BitVec 32 := Scalar.muli arg1 c512_i32
  let v3 : BitVec 32 := Scalar.addi v1 v2
  v3
def k0_mult2 (i : grid0.Coords) : BitVec 32 :=
  let arg0 : BitVec 32 := BitVec.ofNat 32 (i 0).val
  let c2064_i32 : BitVec 32 := 2064#32
  let v0 : BitVec 32 := Scalar.muli arg0 c2064_i32
  let c16_i32 : BitVec 32 := 16#32
  let v1 : BitVec 32 := Scalar.addi v0 c16_i32
  let arg1 : BitVec 32 := BitVec.ofNat 32 (i 1).val
  let c512_i32 : BitVec 32 := 512#32
  let v2 : BitVec 32 := Scalar.muli arg1 c512_i32
  let v3 : BitVec 32 := Scalar.addi v1 v2
  v3
def k0_mult3 (i : grid0.Coords) : BitVec 32 :=
  let arg0 : BitVec 32 := BitVec.ofNat 32 (i 0).val
  let c2064_i32 : BitVec 32 := 2064#32
  let v0 : BitVec 32 := Scalar.muli arg0 c2064_i32
  let c16_i32 : BitVec 32 := 16#32
  let v1 : BitVec 32 := Scalar.addi v0 c16_i32
  let arg1 : BitVec 32 := BitVec.ofNat 32 (i 1).val
  let c512_i32 : BitVec 32 := 512#32
  let v2 : BitVec 32 := Scalar.muli arg1 c512_i32
  let v3 : BitVec 32 := Scalar.addi v1 v2
  v3
def k0_mult4 (i : grid0.Coords) : BitVec 32 :=
  let arg0 : BitVec 32 := BitVec.ofNat 32 (i 0).val
  let c2064_i32 : BitVec 32 := 2064#32
  let v0 : BitVec 32 := Scalar.muli arg0 c2064_i32
  let c16_i32 : BitVec 32 := 16#32
  let v1 : BitVec 32 := Scalar.addi v0 c16_i32
  let arg1 : BitVec 32 := BitVec.ofNat 32 (i 1).val
  let c512_i32 : BitVec 32 := 512#32
  let v2 : BitVec 32 := Scalar.muli arg1 c512_i32
  let v3 : BitVec 32 := Scalar.addi v1 v2
  v3
def k0_mult5 (i : grid0.Coords) : BitVec 32 :=
  let arg0 : BitVec 32 := BitVec.ofNat 32 (i 0).val
  let c2064_i32 : BitVec 32 := 2064#32
  let v0 : BitVec 32 := Scalar.muli arg0 c2064_i32
  let c16_i32 : BitVec 32 := 16#32
  let v1 : BitVec 32 := Scalar.addi v0 c16_i32
  let arg1 : BitVec 32 := BitVec.ofNat 32 (i 1).val
  let c512_i32 : BitVec 32 := 512#32
  let v2 : BitVec 32 := Scalar.muli arg1 c512_i32
  let v3 : BitVec 32 := Scalar.addi v1 v2
  v3
def cc0_transform_0 (i : grid0.Coords) : Fin 2 → Nat :=
  let arg0 : BitVec 32 := BitVec.ofNat 32 (i 0).val
  let arg1 : BitVec 32 := BitVec.ofNat 32 (i 1).val
  let c2064_i32 : BitVec 32 := 2064#32
  let v0 : BitVec 32 := Scalar.muli arg0 c2064_i32
  let c16_i32 : BitVec 32 := 16#32
  let v1 : BitVec 32 := Scalar.addi v0 c16_i32
  let c512_i32 : BitVec 32 := 512#32
  let v2 : BitVec 32 := Scalar.muli arg1 c512_i32
  let v3 : BitVec 32 := Scalar.addi v1 v2
  let v4 : BitVec 32 := v3
  let c0_i32 : BitVec 32 := 0#32
  let c0_i32_0 : BitVec 32 := 0#32
  ![v4.toNat, c0_i32.toNat]

def cc0_transform_1 (i : grid0.Coords) : Fin 3 → Nat :=
  let arg0 : BitVec 32 := BitVec.ofNat 32 (i 0).val
  let arg1 : BitVec 32 := BitVec.ofNat 32 (i 1).val
  let c2064_i32 : BitVec 32 := 2064#32
  let v0 : BitVec 32 := Scalar.muli arg0 c2064_i32
  let c16_i32 : BitVec 32 := 16#32
  let v1 : BitVec 32 := Scalar.addi v0 c16_i32
  let c512_i32 : BitVec 32 := 512#32
  let v2 : BitVec 32 := Scalar.muli arg1 c512_i32
  let v3 : BitVec 32 := Scalar.addi v1 v2
  let v4 : BitVec 32 := v3
  let c0_i32 : BitVec 32 := 0#32
  let c0_i32_0 : BitVec 32 := 0#32
  let c0_i32_1 : BitVec 32 := 0#32
  ![c0_i32.toNat, v4.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2064_i32 : BitVec 32 := 2064#32
  let v0 : BitVec 32 := Scalar.muli arg0 c2064_i32
  let c16_i32 : BitVec 32 := 16#32
  let v1 : BitVec 32 := Scalar.addi v0 c16_i32
  let c512_i32 : BitVec 32 := 512#32
  let v2 : BitVec 32 := Scalar.muli arg1 c512_i32
  let v3 : BitVec 32 := Scalar.addi v1 v2
  let v4 : BitVec 32 := v3
  let c0_i32 : BitVec 32 := 0#32
  let c0_i32_0 : BitVec 32 := 0#32
  ![v4.toNat, c0_i32.toNat]

def cc0_transform_3 (i : grid0.Coords) : Fin 2 → Nat :=
  let arg0 : BitVec 32 := BitVec.ofNat 32 (i 0).val
  let arg1 : BitVec 32 := BitVec.ofNat 32 (i 1).val
  let c2064_i32 : BitVec 32 := 2064#32
  let v0 : BitVec 32 := Scalar.muli arg0 c2064_i32
  let c16_i32 : BitVec 32 := 16#32
  let v1 : BitVec 32 := Scalar.addi v0 c16_i32
  let c512_i32 : BitVec 32 := 512#32
  let v2 : BitVec 32 := Scalar.muli arg1 c512_i32
  let v3 : BitVec 32 := Scalar.addi v1 v2
  let v4 : BitVec 32 := v3
  let c0_i32 : BitVec 32 := 0#32
  let c0_i32_0 : BitVec 32 := 0#32
  ![v4.toNat, c0_i32.toNat]

def cc0_transform_4 (i : grid0.Coords) : Fin 2 → Nat :=
  let arg0 : BitVec 32 := BitVec.ofNat 32 (i 0).val
  let arg1 : BitVec 32 := BitVec.ofNat 32 (i 1).val
  let c2064_i32 : BitVec 32 := 2064#32
  let v0 : BitVec 32 := Scalar.muli arg0 c2064_i32
  let c16_i32 : BitVec 32 := 16#32
  let v1 : BitVec 32 := Scalar.addi v0 c16_i32
  let c512_i32 : BitVec 32 := 512#32
  let v2 : BitVec 32 := Scalar.muli arg1 c512_i32
  let v3 : BitVec 32 := Scalar.addi v1 v2
  let v4 : BitVec 32 := v3
  let c0_i32 : BitVec 32 := 0#32
  let c0_i32_0 : BitVec 32 := 0#32
  ![v4.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== FfnReferenceIdeal.lean ====
abbrev S8x2064x1024 : Shape := ⟨3, ![8, 2064, 1024]⟩
abbrev S4x16512x128 : Shape := ⟨3, ![4, 16512, 128]⟩
abbrev S16512x256 : Shape := ⟨2, ![16512, 256]⟩
abbrev S512 : Shape := ⟨1, ![512]⟩
abbrev S256 : Shape := ⟨1, ![256]⟩
abbrev S64 : Shape := ⟨1, ![64]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S16512x4x128 : Shape := ⟨3, ![16512, 4, 128]⟩
abbrev S8x2064x512 : Shape := ⟨3, ![8, 2064, 512]⟩
abbrev S8x2064x256 : Shape := ⟨3, ![8, 2064, 256]⟩
abbrev S8x2064x4x64 : Shape := ⟨4, ![8, 2064, 4, 64]⟩
abbrev S_ : Shape := ⟨0, ![]⟩
abbrev S8x2064x4 : Shape := ⟨3, ![8, 2064, 4]⟩
abbrev S8x2064x4x1 : Shape := ⟨4, ![8, 2064, 4, 1]⟩
abbrev S1x1x1x64 : Shape := ⟨4, ![1, 1, 1, 64]⟩
abbrev S8x2064 : Shape := ⟨2, ![8, 2064]⟩
abbrev S8x2064x1 : Shape := ⟨3, ![8, 2064, 1]⟩
abbrev S1x1x512 : Shape := ⟨3, ![1, 1, 512]⟩
abbrev S1x1x256 : Shape := ⟨3, ![1, 1, 256]⟩
abbrev S1x1x1024 : Shape := ⟨3, ![1, 1, 1024]⟩
abbrev S8x2064x2816 : Shape := ⟨3, ![8, 2064, 2816]⟩
abbrev S8x2048x1024 : Shape := ⟨3, ![8, 2048, 1024]⟩

abbrev nBuf : Space → Nat
  | .hbm => 128
  | .vmem => 0
  | .smem => 0
  | _ => 0

abbrev bufTy : (tb : Table) → Fin (tcTables nBuf tb) → BufTy
  | .hbm, ⟨0, _⟩ => ⟨S8x2064x1024, .f32⟩
  | .hbm, ⟨1, _⟩ => ⟨S4x16512x128, .f32⟩
  | .hbm, ⟨2, _⟩ => ⟨S16512x256, .f32⟩
  | .hbm, ⟨3, _⟩ => ⟨S16512x256, .f32⟩
  | .hbm, ⟨4, _⟩ => ⟨S16512x256, .f32⟩
  | .hbm, ⟨5, _⟩ => ⟨S512, .f32⟩
  | .hbm, ⟨6, _⟩ => ⟨S256, .f32⟩
  | .hbm, ⟨7, _⟩ => ⟨S64, .f32⟩
  | .hbm, ⟨8, _⟩ => ⟨S1024x1024, .f32⟩
  | .hbm, ⟨9, _⟩ => ⟨S1024, .f32⟩
  | .hbm, ⟨10, _⟩ => ⟨S1024x2816, .f32⟩
  | .hbm, ⟨11, _⟩ => ⟨S1024x2816, .f32⟩
  | .hbm, ⟨12, _⟩ => ⟨S2816x1024, .f32⟩
  | .hbm, ⟨13, _⟩ => ⟨S1024, .f32⟩
  | .hbm, ⟨14, _⟩ => ⟨S16512x4x128, .f32⟩
  | .hbm, ⟨15, _⟩ => ⟨S8x2064x512, .f32⟩
  | .hbm, ⟨16, _⟩ => ⟨S8x2064x256, .f32⟩
  | .hbm, ⟨17, _⟩ => ⟨S8x2064x4x64, .f32⟩
  | .hbm, ⟨18, _⟩ => ⟨S8x2064x4x64, .f32⟩
  | .hbm, ⟨19, _⟩ => ⟨S_, .f32⟩
  | .hbm, ⟨20, _⟩ => ⟨S8x2064x4, .f32⟩
  | .hbm, ⟨21, _⟩ => ⟨S8x2064x4x1, .f32⟩
  | .hbm, ⟨22, _⟩ => ⟨S_, .f32⟩
  | .hbm, ⟨23, _⟩ => ⟨S8x2064x4x1, .f32⟩
  | .hbm, ⟨24, _⟩ => ⟨S8x2064x4x1, .f32⟩
  | .hbm, ⟨25, _⟩ => ⟨S_, .f32⟩
  | .hbm, ⟨26, _⟩ => ⟨S8x2064x4x1, .f32⟩
  | .hbm, ⟨27, _⟩ => ⟨S8x2064x4x1, .f32⟩
  | .hbm, ⟨28, _⟩ => ⟨S8x2064x4x1, .f32⟩
  | .hbm, ⟨29, _⟩ => ⟨S8x2064x4x64, .f32⟩
  | .hbm, ⟨30, _⟩ => ⟨S8x2064x4x64, .f32⟩
  | .hbm, ⟨31, _⟩ => ⟨S1x1x1x64, .f32⟩
  | .hbm, ⟨32, _⟩ => ⟨S8x2064x4x64, .f32⟩
  | .hbm, ⟨33, _⟩ => ⟨S8x2064x4x64, .f32⟩
  | .hbm, ⟨34, _⟩ => ⟨S8x2064x4x64, .f32⟩
  | .hbm, ⟨35, _⟩ => ⟨S8x2064x4x64, .f32⟩
  | .hbm, ⟨36, _⟩ => ⟨S8x2064x4x64, .f32⟩
  | .hbm, ⟨37, _⟩ => ⟨S_, .f32⟩
  | .hbm, ⟨38, _⟩ => ⟨S8x2064x4x64, .f32⟩
  | .hbm, ⟨39, _⟩ => ⟨S8x2064x4x64, .f32⟩
  | .hbm, ⟨40, _⟩ => ⟨S_, .f32⟩
  | .hbm, ⟨41, _⟩ => ⟨S8x2064x4x64, .f32⟩
  | .hbm, ⟨42, _⟩ => ⟨S8x2064x4x64, .f32⟩
  | .hbm, ⟨43, _⟩ => ⟨S8x2064x4x64, .f32⟩
  | .hbm, ⟨44, _⟩ => ⟨S8x2064x4x64, .f32⟩
  | .hbm, ⟨45, _⟩ => ⟨S8x2064x512, .f32⟩
  | .hbm, ⟨46, _⟩ => ⟨S_, .f32⟩
  | .hbm, ⟨47, _⟩ => ⟨S8x2064, .f32⟩
  | .hbm, ⟨48, _⟩ => ⟨S8x2064x1, .f32⟩
  | .hbm, ⟨49, _⟩ => ⟨S_, .f32⟩
  | .hbm, ⟨50, _⟩ => ⟨S8x2064x1, .f32⟩
  | .hbm, ⟨51, _⟩ => ⟨S8x2064x1, .f32⟩
  | .hbm, ⟨52, _⟩ => ⟨S_, .f32⟩
  | .hbm, ⟨53, _⟩ => ⟨S8x2064x1, .f32⟩
  | .hbm, ⟨54, _⟩ => ⟨S8x2064x1, .f32⟩
  | .hbm, ⟨55, _⟩ => ⟨S8x2064x1, .f32⟩
  | .hbm, ⟨56, _⟩ => ⟨S8x2064x512, .f32⟩
  | .hbm, ⟨57, _⟩ => ⟨S8x2064x512, .f32⟩
  | .hbm, ⟨58, _⟩ => ⟨S1x1x512, .f32⟩
  | .hbm, ⟨59, _⟩ => ⟨S8x2064x512, .f32⟩
  | .hbm, ⟨60, _⟩ => ⟨S8x2064x512, .f32⟩
  | .hbm, ⟨61, _⟩ => ⟨S8x2064x256, .f32⟩
  | .hbm, ⟨62, _⟩ => ⟨S_, .f32⟩
  | .hbm, ⟨63, _⟩ => ⟨S8x2064, .f32⟩
  | .hbm, ⟨64, _⟩ => ⟨S8x2064x1, .f32⟩
  | .hbm, ⟨65, _⟩ => ⟨S_, .f32⟩
  | .hbm, ⟨66, _⟩ => ⟨S8x2064x1, .f32⟩
  | .hbm, ⟨67, _⟩ => ⟨S8x2064x1, .f32⟩
  | .hbm, ⟨68, _⟩ => ⟨S_, .f32⟩
  | .hbm, ⟨69, _⟩ => ⟨S8x2064x1, .f32⟩
  | .hbm, ⟨70, _⟩ => ⟨S8x2064x1, .f32⟩
  | .hbm, ⟨71, _⟩ => ⟨S8x2064x1, .f32⟩
  | .hbm, ⟨72, _⟩ => ⟨S8x2064x256, .f32⟩
  | .hbm, ⟨73, _⟩ => ⟨S8x2064x256, .f32⟩
  | .hbm, ⟨74, _⟩ => ⟨S1x1x256, .f32⟩
  | .hbm, ⟨75, _⟩ => ⟨S8x2064x256, .f32⟩
  | .hbm, ⟨76, _⟩ => ⟨S8x2064x256, .f32⟩
  | .hbm, ⟨77, _⟩ => ⟨S8x2064x256, .f32⟩
  | .hbm, ⟨78, _⟩ => ⟨S8x2064x1024, .f32⟩
  | .hbm, ⟨79, _⟩ => ⟨S8x2064x1024, .f32⟩
  | .hbm, ⟨80, _⟩ => ⟨S8x2064x1024, .f32⟩
  | .hbm, ⟨81, _⟩ => ⟨S8x2064x1024, .f32⟩
  | .hbm, ⟨82, _⟩ => ⟨S_, .f32⟩
  | .hbm, ⟨83, _⟩ => ⟨S8x2064, .f32⟩
  | .hbm, ⟨84, _⟩ => ⟨S8x2064x1, .f32⟩
  | .hbm, ⟨85, _⟩ => ⟨S_, .f32⟩
  | .hbm, ⟨86, _⟩ => ⟨S8x2064x1, .f32⟩
  | .hbm, ⟨87, _⟩ => ⟨S8x2064x1, .f32⟩
  | .hbm, ⟨88, _⟩ => ⟨S_, .f32⟩
  | .hbm, ⟨89, _⟩ => ⟨S8x2064x1, .f32⟩
  | .hbm, ⟨90, _⟩ => ⟨S8x2064x1, .f32⟩
  | .hbm, ⟨91, _⟩ => ⟨S8x2064x1, .f32⟩
  | .hbm, ⟨92, _⟩ => ⟨S8x2064x1024, .f32⟩
  | .hbm, ⟨93, _⟩ => ⟨S8x2064x1024, .f32⟩
  | .hbm, ⟨94, _⟩ => ⟨S1x1x1024, .f32⟩
  | .hbm, ⟨95, _⟩ => ⟨S8x2064x1024, .f32⟩
  | .hbm, ⟨96, _⟩ => ⟨S8x2064x1024, .f32⟩
  | .hbm, ⟨97, _⟩ => ⟨S8x2064x2816, .f32⟩
  | .hbm, ⟨98, _⟩ => ⟨S8x2064x2816, .f32⟩
  | .hbm, ⟨99, _⟩ => ⟨S8x2064x2816, .f32⟩
  | .hbm, ⟨100, _⟩ => ⟨S_, .f32⟩
  | .hbm, ⟨101, _⟩ => ⟨S8x2064x2816, .f32⟩
  | .hbm, ⟨102, _⟩ => ⟨S8x2064x2816, .f32⟩
  | .hbm, ⟨103, _⟩ => ⟨S_, .f32⟩
  | .hbm, ⟨104, _⟩ => ⟨S8x2064x2816, .f32⟩
  | .hbm, ⟨105, _⟩ => ⟨S8x2064x2816, .f32⟩
  | .hbm, ⟨106, _⟩ => ⟨S8x2064x2816, .f32⟩
  | .hbm, ⟨107, _⟩ => ⟨S8x2064x2816, .f32⟩
  | .hbm, ⟨108, _⟩ => ⟨S8x2064x2816, .f32⟩
  | .hbm, ⟨109, _⟩ => ⟨S8x2064x1024, .f32⟩
  | .hbm, ⟨110, _⟩ => ⟨S8x2064x1024, .f32⟩
  | .hbm, ⟨111, _⟩ => ⟨S8x2064x1024, .f32⟩
  | .hbm, ⟨112, _⟩ => ⟨S_, .f32⟩
  | .hbm, ⟨113, _⟩ => ⟨S8x2064, .f32⟩
  | .hbm, ⟨114, _⟩ => ⟨S8x2064x1, .f32⟩
  | .hbm, ⟨115, _⟩ => ⟨S_, .f32⟩
  | .hbm, ⟨116, _⟩ => ⟨S8x2064x1, .f32⟩
  | .hbm, ⟨117, _⟩ => ⟨S8x2064x1, .f32⟩
  | .hbm, ⟨118, _⟩ => ⟨S_, .f32⟩
  | .hbm, ⟨119, _⟩ => ⟨S8x2064x1, .f32⟩
  | .hbm, ⟨120, _⟩ => ⟨S8x2064x1, .f32⟩
  | .hbm, ⟨121, _⟩ => ⟨S8x2064x1, .f32⟩
  | .hbm, ⟨122, _⟩ => ⟨S8x2064x1024, .f32⟩
  | .hbm, ⟨123, _⟩ => ⟨S8x2064x1024, .f32⟩
  | .hbm, ⟨124, _⟩ => ⟨S1x1x1024, .f32⟩
  | .hbm, ⟨125, _⟩ => ⟨S8x2064x1024, .f32⟩
  | .hbm, ⟨126, _⟩ => ⟨S8x2064x1024, .f32⟩
  | .hbm, ⟨127, _⟩ => ⟨S8x2048x1024, .f32⟩
  | _, _ => ⟨S8x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_cst_2 : Ref sig .tc := ⟨.hbm, 46, rfl⟩
abbrev main_v21 : Ref sig .tc := ⟨.hbm, 47, rfl⟩
abbrev main_v22 : Ref sig .tc := ⟨.hbm, 48, rfl⟩
abbrev main_cst_3 : Ref sig .tc := ⟨.hbm, 49, rfl⟩
abbrev main_v23 : Ref sig .tc := ⟨.hbm, 50, rfl⟩
abbrev main_v24 : Ref sig .tc := ⟨.hbm, 51, rfl⟩
abbrev main_cst_4 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_5 : Ref sig .tc := ⟨.hbm, 62, rfl⟩
abbrev main_v34 : Ref sig .tc := ⟨.hbm, 63, rfl⟩
abbrev main_v35 : Ref sig .tc := ⟨.hbm, 64, rfl⟩
abbrev main_cst_6 : Ref sig .tc := ⟨.hbm, 65, rfl⟩
abbrev main_v36 : Ref sig .tc := ⟨.hbm, 66, rfl⟩
abbrev main_v37 : Ref sig .tc := ⟨.hbm, 67, rfl⟩
abbrev main_cst_7 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_8 : Ref sig .tc := ⟨.hbm, 82, rfl⟩
abbrev main_v51 : Ref sig .tc := ⟨.hbm, 83, rfl⟩
abbrev main_v52 : Ref sig .tc := ⟨.hbm, 84, rfl⟩
abbrev main_cst_9 : Ref sig .tc := ⟨.hbm, 85, rfl⟩
abbrev main_v53 : Ref sig .tc := ⟨.hbm, 86, rfl⟩
abbrev main_v54 : Ref sig .tc := ⟨.hbm, 87, rfl⟩
abbrev main_cst_10 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_call1_v0 : Ref sig .tc := ⟨.hbm, 98, rfl⟩
abbrev main_call1_v1 : Ref sig .tc := ⟨.hbm, 99, rfl⟩
abbrev main_call1_cst : Ref sig .tc := ⟨.hbm, 100, rfl⟩
abbrev main_call1_v2 : Ref sig .tc := ⟨.hbm, 101, rfl⟩
abbrev main_call1_v3 : Ref sig .tc := ⟨.hbm, 102, rfl⟩
abbrev main_call1_cst_0 : Ref sig .tc := ⟨.hbm, 103, rfl⟩
abbrev main_call1_v4 : Ref sig .tc := ⟨.hbm, 104, rfl⟩
abbrev main_call1_v5 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_11 : Ref sig .tc := ⟨.hbm, 112, rfl⟩
abbrev main_v70 : Ref sig .tc := ⟨.hbm, 113, rfl⟩
abbrev main_v71 : Ref sig .tc := ⟨.hbm, 114, rfl⟩
abbrev main_cst_12 : Ref sig .tc := ⟨.hbm, 115, rfl⟩
abbrev main_v72 : Ref sig .tc := ⟨.hbm, 116, rfl⟩
abbrev main_v73 : Ref sig .tc := ⟨.hbm, 117, rfl⟩
abbrev main_cst_13 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩

abbrev nD : Nat := 1
abbrev τ : Topo := Topo.v7x

variable {F : FTy → Type} [FloatOps F]
-- ==== Mid.lean ====
abbrev S8x2064x1024 : Shape := ⟨3, ![8, 2064, 1024]⟩
abbrev S4x16512x128 : Shape := ⟨3, ![4, 16512, 128]⟩
abbrev S16512x256 : Shape := ⟨2, ![16512, 256]⟩
abbrev S512 : Shape := ⟨1, ![512]⟩
abbrev S256 : Shape := ⟨1, ![256]⟩
abbrev S64 : Shape := ⟨1, ![64]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x64 : Shape := ⟨2, ![1, 64]⟩
abbrev S4x64 : Shape := ⟨2, ![4, 64]⟩
abbrev S1x256 : Shape := ⟨2, ![1, 256]⟩
abbrev S16512x1024 : Shape := ⟨2, ![16512, 1024]⟩
abbrev S1x512 : Shape := ⟨2, ![1, 512]⟩
abbrev S1x1024 : Shape := ⟨2, ![1, 1024]⟩
abbrev S384x1024 : Shape := ⟨2, ![384, 1024]⟩
abbrev S4x384x128 : Shape := ⟨3, ![4, 384, 128]⟩
abbrev S384x256 : Shape := ⟨2, ![384, 256]⟩
abbrev S1x384x128 : Shape := ⟨3, ![1, 384, 128]⟩
abbrev S384x128 : Shape := ⟨2, ![384, 128]⟩
abbrev S384x512 : Shape := ⟨2, ![384, 512]⟩
abbrev S256x256 : Shape := ⟨2, ![256, 256]⟩
abbrev S384 : Shape := ⟨1, ![384]⟩
abbrev S384x1 : Shape := ⟨2, ![384, 1]⟩
abbrev S384x2816 : Shape := ⟨2, ![384, 2816]⟩

abbrev nBuf : Space → Nat
  | .hbm => 28
  | .vmem => 21
  | .smem => 0
  | _ => 0

abbrev bufTy : (tb : Table) → Fin (tcTables nBuf tb) → BufTy
  | .hbm, ⟨0, _⟩ => ⟨S8x2064x1024, .f32⟩
  | .hbm, ⟨1, _⟩ => ⟨S4x16512x128, .f32⟩
  | .hbm, ⟨2, _⟩ => ⟨S16512x256, .f32⟩
  | .hbm, ⟨3, _⟩ => ⟨S16512x256, .f32⟩
  | .hbm, ⟨4, _⟩ => ⟨S16512x256, .f32⟩
  | .hbm, ⟨5, _⟩ => ⟨S512, .f32⟩
  | .hbm, ⟨6, _⟩ => ⟨S256, .f32⟩
  | .hbm, ⟨7, _⟩ => ⟨S64, .f32⟩
  | .hbm, ⟨8, _⟩ => ⟨S1024x1024, .f32⟩
  | .hbm, ⟨9, _⟩ => ⟨S1024, .f32⟩
  | .hbm, ⟨10, _⟩ => ⟨S1024x2816, .f32⟩
  | .hbm, ⟨11, _⟩ => ⟨S1024x2816, .f32⟩
  | .hbm, ⟨12, _⟩ => ⟨S2816x1024, .f32⟩
  | .hbm, ⟨13, _⟩ => ⟨S1024, .f32⟩
  | .hbm, ⟨14, _⟩ => ⟨S1x64, .f32⟩
  | .hbm, ⟨15, _⟩ => ⟨S4x64, .f32⟩
  | .hbm, ⟨16, _⟩ => ⟨S256, .f32⟩
  | .hbm, ⟨17, _⟩ => ⟨S1x256, .f32⟩
  | .hbm, ⟨18, _⟩ => ⟨S16512x1024, .f32⟩
  | .hbm, ⟨19, _⟩ => ⟨S1x512, .f32⟩
  | .hbm, ⟨20, _⟩ => ⟨S1x256, .f32⟩
  | .hbm, ⟨21, _⟩ => ⟨S1024x1024, .bf16⟩
  | .hbm, ⟨22, _⟩ => ⟨S1x1024, .f32⟩
  | .hbm, ⟨23, _⟩ => ⟨S1024x2816, .bf16⟩
  | .hbm, ⟨24, _⟩ => ⟨S1024x2816, .bf16⟩
  | .hbm, ⟨25, _⟩ => ⟨S2816x1024, .bf16⟩
  | .hbm, ⟨26, _⟩ => ⟨S1x1024, .f32⟩
  | .hbm, ⟨27, _⟩ => ⟨S16512x1024, .f32⟩
  | .local _ .vmem, ⟨0, _⟩ => ⟨S384x1024, .f32⟩
  | .local _ .vmem, ⟨1, _⟩ => ⟨S384x1024, .f32⟩
  | .local _ .vmem, ⟨2, _⟩ => ⟨S4x384x128, .f32⟩
  | .local _ .vmem, ⟨3, _⟩ => ⟨S4x384x128, .f32⟩
  | .local _ .vmem, ⟨4, _⟩ => ⟨S384x256, .f32⟩
  | .local _ .vmem, ⟨5, _⟩ => ⟨S384x256, .f32⟩
  | .local _ .vmem, ⟨6, _⟩ => ⟨S384x256, .f32⟩
  | .local _ .vmem, ⟨7, _⟩ => ⟨S384x256, .f32⟩
  | .local _ .vmem, ⟨8, _⟩ => ⟨S384x256, .f32⟩
  | .local _ .vmem, ⟨9, _⟩ => ⟨S384x256, .f32⟩
  | .local _ .vmem, ⟨10, _⟩ => ⟨S1x512, .f32⟩
  | .local _ .vmem, ⟨11, _⟩ => ⟨S1x256, .f32⟩
  | .local _ .vmem, ⟨12, _⟩ => ⟨S1x256, .f32⟩
  | .local _ .vmem, ⟨13, _⟩ => ⟨S1024x1024, .bf16⟩
  | .local _ .vmem, ⟨14, _⟩ => ⟨S1x1024, .f32⟩
  | .local _ .vmem, ⟨15, _⟩ => ⟨S1024x2816, .bf16⟩
  | .local _ .vmem, ⟨16, _⟩ => ⟨S1024x2816, .bf16⟩
  | .local _ .vmem, ⟨17, _⟩ => ⟨S2816x1024, .bf16⟩
  | .local _ .vmem, ⟨18, _⟩ => ⟨S1x1024, .f32⟩
  | .local _ .vmem, ⟨19, _⟩ => ⟨S384x1024, .f32⟩
  | .local _ .vmem, ⟨20, _⟩ => ⟨S384x1024, .f32⟩
  | _, _ => ⟨S8x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S384x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MidReferenceIdeal.lean ====
abbrev S8x2064x1024 : Shape := ⟨3, ![8, 2064, 1024]⟩
abbrev S4x16512x128 : Shape := ⟨3, ![4, 16512, 128]⟩
abbrev S16512x256 : Shape := ⟨2, ![16512, 256]⟩
abbrev S512 : Shape := ⟨1, ![512]⟩
abbrev S256 : Shape := ⟨1, ![256]⟩
abbrev S64 : Shape := ⟨1, ![64]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S16512x4x128 : Shape := ⟨3, ![16512, 4, 128]⟩
abbrev S8x2064x512 : Shape := ⟨3, ![8, 2064, 512]⟩
abbrev S8x2064x256 : Shape := ⟨3, ![8, 2064, 256]⟩
abbrev S8x2064x4x64 : Shape := ⟨4, ![8, 2064, 4, 64]⟩
abbrev S_ : Shape := ⟨0, ![]⟩
abbrev S8x2064x4 : Shape := ⟨3, ![8, 2064, 4]⟩
abbrev S8x2064x4x1 : Shape := ⟨4, ![8, 2064, 4, 1]⟩
abbrev S1x1x1x64 : Shape := ⟨4, ![1, 1, 1, 64]⟩
abbrev S8x2064 : Shape := ⟨2, ![8, 2064]⟩
abbrev S8x2064x1 : Shape := ⟨3, ![8, 2064, 1]⟩
abbrev S1x1x512 : Shape := ⟨3, ![1, 1, 512]⟩
abbrev S1x1x256 : Shape := ⟨3, ![1, 1, 256]⟩
abbrev S1x1x1024 : Shape := ⟨3, ![1, 1, 1024]⟩
abbrev S8x2064x2816 : Shape := ⟨3, ![8, 2064, 2816]⟩
abbrev S16512x1024 : Shape := ⟨2, ![16512, 1024]⟩

abbrev nBuf : Space → Nat
  | .hbm => 112
  | .vmem => 0
  | .smem => 0
  | _ => 0

abbrev bufTy : (tb : Table) → Fin (tcTables nBuf tb) → BufTy
  | .hbm, ⟨0, _⟩ => ⟨S8x2064x1024, .f32⟩
  | .hbm, ⟨1, _⟩ => ⟨S4x16512x128, .f32⟩
  | .hbm, ⟨2, _⟩ => ⟨S16512x256, .f32⟩
  | .hbm, ⟨3, _⟩ => ⟨S16512x256, .f32⟩
  | .hbm, ⟨4, _⟩ => ⟨S16512x256, .f32⟩
  | .hbm, ⟨5, _⟩ => ⟨S512, .f32⟩
  | .hbm, ⟨6, _⟩ => ⟨S256, .f32⟩
  | .hbm, ⟨7, _⟩ => ⟨S64, .f32⟩
  | .hbm, ⟨8, _⟩ => ⟨S1024x1024, .f32⟩
  | .hbm, ⟨9, _⟩ => ⟨S1024, .f32⟩
  | .hbm, ⟨10, _⟩ => ⟨S1024x2816, .f32⟩
  | .hbm, ⟨11, _⟩ => ⟨S1024x2816, .f32⟩
  | .hbm, ⟨12, _⟩ => ⟨S2816x1024, .f32⟩
  | .hbm, ⟨13, _⟩ => ⟨S1024, .f32⟩
  | .hbm, ⟨14, _⟩ => ⟨S16512x4x128, .f32⟩
  | .hbm, ⟨15, _⟩ => ⟨S8x2064x512, .f32⟩
  | .hbm, ⟨16, _⟩ => ⟨S8x2064x256, .f32⟩
  | .hbm, ⟨17, _⟩ => ⟨S8x2064x4x64, .f32⟩
  | .hbm, ⟨18, _⟩ => ⟨S8x2064x4x64, .f32⟩
  | .hbm, ⟨19, _⟩ => ⟨S_, .f32⟩
  | .hbm, ⟨20, _⟩ => ⟨S8x2064x4, .f32⟩
  | .hbm, ⟨21, _⟩ => ⟨S8x2064x4x1, .f32⟩
  | .hbm, ⟨22, _⟩ => ⟨S_, .f32⟩
  | .hbm, ⟨23, _⟩ => ⟨S8x2064x4x1, .f32⟩
  | .hbm, ⟨24, _⟩ => ⟨S8x2064x4x1, .f32⟩
  | .hbm, ⟨25, _⟩ => ⟨S_, .f32⟩
  | .hbm, ⟨26, _⟩ => ⟨S8x2064x4x1, .f32⟩
  | .hbm, ⟨27, _⟩ => ⟨S8x2064x4x1, .f32⟩
  | .hbm, ⟨28, _⟩ => ⟨S8x2064x4x1, .f32⟩
  | .hbm, ⟨29, _⟩ => ⟨S8x2064x4x64, .f32⟩
  | .hbm, ⟨30, _⟩ => ⟨S8x2064x4x64, .f32⟩
  | .hbm, ⟨31, _⟩ => ⟨S1x1x1x64, .f32⟩
  | .hbm, ⟨32, _⟩ => ⟨S8x2064x4x64, .f32⟩
  | .hbm, ⟨33, _⟩ => ⟨S8x2064x4x64, .f32⟩
  | .hbm, ⟨34, _⟩ => ⟨S8x2064x4x64, .f32⟩
  | .hbm, ⟨35, _⟩ => ⟨S8x2064x4x64, .f32⟩
  | .hbm, ⟨36, _⟩ => ⟨S8x2064x4x64, .f32⟩
  | .hbm, ⟨37, _⟩ => ⟨S_, .f32⟩
  | .hbm, ⟨38, _⟩ => ⟨S8x2064x4x64, .f32⟩
  | .hbm, ⟨39, _⟩ => ⟨S8x2064x4x64, .f32⟩
  | .hbm, ⟨40, _⟩ => ⟨S_, .f32⟩
  | .hbm, ⟨41, _⟩ => ⟨S8x2064x4x64, .f32⟩
  | .hbm, ⟨42, _⟩ => ⟨S8x2064x4x64, .f32⟩
  | .hbm, ⟨43, _⟩ => ⟨S8x2064x4x64, .f32⟩
  | .hbm, ⟨44, _⟩ => ⟨S8x2064x4x64, .f32⟩
  | .hbm, ⟨45, _⟩ => ⟨S8x2064x512, .f32⟩
  | .hbm, ⟨46, _⟩ => ⟨S_, .f32⟩
  | .hbm, ⟨47, _⟩ => ⟨S8x2064, .f32⟩
  | .hbm, ⟨48, _⟩ => ⟨S8x2064x1, .f32⟩
  | .hbm, ⟨49, _⟩ => ⟨S_, .f32⟩
  | .hbm, ⟨50, _⟩ => ⟨S8x2064x1, .f32⟩
  | .hbm, ⟨51, _⟩ => ⟨S8x2064x1, .f32⟩
  | .hbm, ⟨52, _⟩ => ⟨S_, .f32⟩
  | .hbm, ⟨53, _⟩ => ⟨S8x2064x1, .f32⟩
  | .hbm, ⟨54, _⟩ => ⟨S8x2064x1, .f32⟩
  | .hbm, ⟨55, _⟩ => ⟨S8x2064x1, .f32⟩
  | .hbm, ⟨56, _⟩ => ⟨S8x2064x512, .f32⟩
  | .hbm, ⟨57, _⟩ => ⟨S8x2064x512, .f32⟩
  | .hbm, ⟨58, _⟩ => ⟨S1x1x512, .f32⟩
  | .hbm, ⟨59, _⟩ => ⟨S8x2064x512, .f32⟩
  | .hbm, ⟨60, _⟩ => ⟨S8x2064x512, .f32⟩
  | .hbm, ⟨61, _⟩ => ⟨S8x2064x256, .f32⟩
  | .hbm, ⟨62, _⟩ => ⟨S_, .f32⟩
  | .hbm, ⟨63, _⟩ => ⟨S8x2064, .f32⟩
  | .hbm, ⟨64, _⟩ => ⟨S8x2064x1, .f32⟩
  | .hbm, ⟨65, _⟩ => ⟨S_, .f32⟩
  | .hbm, ⟨66, _⟩ => ⟨S8x2064x1, .f32⟩
  | .hbm, ⟨67, _⟩ => ⟨S8x2064x1, .f32⟩
  | .hbm, ⟨68, _⟩ => ⟨S_, .f32⟩
  | .hbm, ⟨69, _⟩ => ⟨S8x2064x1, .f32⟩
  | .hbm, ⟨70, _⟩ => ⟨S8x2064x1, .f32⟩
  | .hbm, ⟨71, _⟩ => ⟨S8x2064x1, .f32⟩
  | .hbm, ⟨72, _⟩ => ⟨S8x2064x256, .f32⟩
  | .hbm, ⟨73, _⟩ => ⟨S8x2064x256, .f32⟩
  | .hbm, ⟨74, _⟩ => ⟨S1x1x256, .f32⟩
  | .hbm, ⟨75, _⟩ => ⟨S8x2064x256, .f32⟩
  | .hbm, ⟨76, _⟩ => ⟨S8x2064x256, .f32⟩
  | .hbm, ⟨77, _⟩ => ⟨S8x2064x256, .f32⟩
  | .hbm, ⟨78, _⟩ => ⟨S8x2064x1024, .f32⟩
  | .hbm, ⟨79, _⟩ => ⟨S8x2064x1024, .f32⟩
  | .hbm, ⟨80, _⟩ => ⟨S8x2064x1024, .f32⟩
  | .hbm, ⟨81, _⟩ => ⟨S8x2064x1024, .f32⟩
  | .hbm, ⟨82, _⟩ => ⟨S_, .f32⟩
  | .hbm, ⟨83, _⟩ => ⟨S8x2064, .f32⟩
  | .hbm, ⟨84, _⟩ => ⟨S8x2064x1, .f32⟩
  | .hbm, ⟨85, _⟩ => ⟨S_, .f32⟩
  | .hbm, ⟨86, _⟩ => ⟨S8x2064x1, .f32⟩
  | .hbm, ⟨87, _⟩ => ⟨S8x2064x1, .f32⟩
  | .hbm, ⟨88, _⟩ => ⟨S_, .f32⟩
  | .hbm, ⟨89, _⟩ => ⟨S8x2064x1, .f32⟩
  | .hbm, ⟨90, _⟩ => ⟨S8x2064x1, .f32⟩
  | .hbm, ⟨91, _⟩ => ⟨S8x2064x1, .f32⟩
  | .hbm, ⟨92, _⟩ => ⟨S8x2064x1024, .f32⟩
  | .hbm, ⟨93, _⟩ => ⟨S8x2064x1024, .f32⟩
  | .hbm, ⟨94, _⟩ => ⟨S1x1x1024, .f32⟩
  | .hbm, ⟨95, _⟩ => ⟨S8x2064x1024, .f32⟩
  | .hbm, ⟨96, _⟩ => ⟨S8x2064x1024, .f32⟩
  | .hbm, ⟨97, _⟩ => ⟨S8x2064x2816, .f32⟩
  | .hbm, ⟨98, _⟩ => ⟨S8x2064x2816, .f32⟩
  | .hbm, ⟨99, _⟩ => ⟨S8x2064x2816, .f32⟩
  | .hbm, ⟨100, _⟩ => ⟨S_, .f32⟩
  | .hbm, ⟨101, _⟩ => ⟨S8x2064x2816, .f32⟩
  | .hbm, ⟨102, _⟩ => ⟨S8x2064x2816, .f32⟩
  | .hbm, ⟨103, _⟩ => ⟨S_, .f32⟩
  | .hbm, ⟨104, _⟩ => ⟨S8x2064x2816, .f32⟩
  | .hbm, ⟨105, _⟩ => ⟨S8x2064x2816, .f32⟩
  | .hbm, ⟨106, _⟩ => ⟨S8x2064x2816, .f32⟩
  | .hbm, ⟨107, _⟩ => ⟨S8x2064x2816, .f32⟩
  | .hbm, ⟨108, _⟩ => ⟨S8x2064x2816, .f32⟩
  | .hbm, ⟨109, _⟩ => ⟨S8x2064x1024, .f32⟩
  | .hbm, ⟨110, _⟩ => ⟨S8x2064x1024, .f32⟩
  | .hbm, ⟨111, _⟩ => ⟨S16512x1024, .f32⟩
  | _, _ => ⟨S8x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_cst_2 : Ref sig .tc := ⟨.hbm, 46, rfl⟩
abbrev main_v21 : Ref sig .tc := ⟨.hbm, 47, rfl⟩
abbrev main_v22 : Ref sig .tc := ⟨.hbm, 48, rfl⟩
abbrev main_cst_3 : Ref sig .tc := ⟨.hbm, 49, rfl⟩
abbrev main_v23 : Ref sig .tc := ⟨.hbm, 50, rfl⟩
abbrev main_v24 : Ref sig .tc := ⟨.hbm, 51, rfl⟩
abbrev main_cst_4 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_5 : Ref sig .tc := ⟨.hbm, 62, rfl⟩
abbrev main_v34 : Ref sig .tc := ⟨.hbm, 63, rfl⟩
abbrev main_v35 : Ref sig .tc := ⟨.hbm, 64, rfl⟩
abbrev main_cst_6 : Ref sig .tc := ⟨.hbm, 65, rfl⟩
abbrev main_v36 : Ref sig .tc := ⟨.hbm, 66, rfl⟩
abbrev main_v37 : Ref sig .tc := ⟨.hbm, 67, rfl⟩
abbrev main_cst_7 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_8 : Ref sig .tc := ⟨.hbm, 82, rfl⟩
abbrev main_v51 : Ref sig .tc := ⟨.hbm, 83, rfl⟩
abbrev main_v52 : Ref sig .tc := ⟨.hbm, 84, rfl⟩
abbrev main_cst_9 : Ref sig .tc := ⟨.hbm, 85, rfl⟩
abbrev main_v53 : Ref sig .tc := ⟨.hbm, 86, rfl⟩
abbrev main_v54 : Ref sig .tc := ⟨.hbm, 87, rfl⟩
abbrev main_cst_10 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_call1_v0 : Ref sig .tc := ⟨.hbm, 98, rfl⟩
abbrev main_call1_v1 : Ref sig .tc := ⟨.hbm, 99, rfl⟩
abbrev main_call1_cst : Ref sig .tc := ⟨.hbm, 100, rfl⟩
abbrev main_call1_v2 : Ref sig .tc := ⟨.hbm, 101, rfl⟩
abbrev main_call1_v3 : Ref sig .tc := ⟨.hbm, 102, rfl⟩
abbrev main_call1_cst_0 : Ref sig .tc := ⟨.hbm, 103, rfl⟩
abbrev main_call1_v4 : Ref sig .tc := ⟨.hbm, 104, rfl⟩
abbrev main_call1_v5 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩

abbrev nD : Nat := 1
abbrev τ : Topo := Topo.v7x

variable {F : FTy → Type} [FloatOps F]
-- ==== Proof.FfnRow.lean ====
module

public import Idealize.ShloMosaic.Lib.Pointwise

@[expose] public section

set_option maxRecDepth 16384

noncomputable section

open Idealize.ShloMosaic Idealize.ShloMosaic.TcCoe Idealize.SL.Sem

namespace Cert.FfnRow

/-- The stabiliser every root-mean-square norm of the layer adds (1e-6 in binary32). -/
abbrev eps : EReal := Ideal.ofBits .f32 0x358637BD#32
/-- The count 1024 as the programs write it. -/
abbrev c1024 : EReal := Ideal.ofBits .f32 0x44800000#32
/-- The count 512 as the programs write it. -/
abbrev c512 : EReal := Ideal.ofBits .f32 0x44000000#32
/-- The count 256 as the programs write it. -/
abbrev c256 : EReal := Ideal.ofBits .f32 0x43800000#32
/-- The count 64 as the reference writes it. -/
abbrev c64 : EReal := Ideal.ofBits .f32 0x42800000#32

/-- One entry of a root-mean-square normalised row with gain `g`; `w` is the row's length. -/
def rms {n : Nat} (w : EReal) (v g : Fin n → EReal) (j : Fin n) : EReal :=
  v j * Ideal.rsqrt (Ideal.div (∑ k, v k * v k) w + eps) * g j

/-- `x · sigmoid x`. -/
def silu (x : EReal) : EReal := x * Ideal.div 1 (1 + Ideal.exp (-x))

/-- The delta mixer's row, normalised within each 64-lane head, with the head's gain, gated by `silu z`. -/
def headNorm (oc z : Fin 256 → EReal) (g : Fin 64 → EReal) (l : Fin 256) : EReal :=
  oc l * Ideal.rsqrt (Ideal.div (∑ k : Fin 64, oc ⟨64 * (l.val / 64) + k.val, by omega⟩ * oc ⟨64 * (l.val / 64) + k.val, by omega⟩) c64 + eps)
    * g ⟨l.val % 64, by omega⟩ * silu (z l)

/-- The three mixers' rows, each normalised, side by side. -/
def mixed (oa : Fin 512 → EReal) (ob oc z : Fin 256 → EReal) (ga : Fin 512 → EReal) (gb : Fin 256 → EReal) (gc : Fin 64 → EReal)
    (j : Fin 1024) : EReal :=
  if h : j.val < 512 then rms c512 oa ga ⟨j.val, h⟩
  else if h' : j.val - 512 < 256 then rms c256 ob gb ⟨j.val - 512, h'⟩
  else headNorm oc z gc ⟨j.val - 512 - 256, by omega⟩

/-- The row after the output projection: `x + mixed · W_out`. -/
def afterMix (x mix : Fin 1024 → EReal) (wo : Fin 1024 → Fin 1024 → EReal) (j : Fin 1024) : EReal :=
  x j + ∑ k, mix k * wo k j

/-- The row after the SwiGLU block. -/
def afterFfn (x : Fin 1024 → EReal) (nf : Fin 1024 → EReal) (wg wu : Fin 1024 → Fin 2816 → EReal) (wd : Fin 2816 → Fin 1024 → EReal)
    (j : Fin 1024) : EReal :=
  x j + ∑ k, silu (∑ i, rms c1024 x nf i * wg i k) * (∑ i, rms c1024 x nf i * wu i k) * wd k j

/-- One row of the layer's end: output projection, SwiGLU block, final norm. -/
def out (x : Fin 1024 → EReal) (oa : Fin 512 → EReal) (ob oc z : Fin 256 → EReal) (ga : Fin 512 → EReal) (gb : Fin 256 → EReal)
    (gc : Fin 64 → EReal) (wo : Fin 1024 → Fin 1024 → EReal) (nf : Fin 1024 → EReal) (wg wu : Fin 1024 → Fin 2816 → EReal)
    (wd : Fin 2816 → Fin 1024 → EReal) (fin : Fin 1024 → EReal) : Fin 1024 → EReal :=
  rms c1024 (afterFfn (afterMix x (mixed oa ob oc z ga gb gc) wo) nf wg wu wd) fin

/-- Multiplying by the kernel's 1/64 is dividing by the reference's 64. -/
theorem mul_inv64 (s : EReal) : s * Ideal.ofBits .f32 0x3C800000#32 = Ideal.div s c64 := by
  have h1 : Ideal.ofBits .f32 0x3C800000#32 = ((1 / 64 : ℝ) : EReal) := by
    simp [Ideal.ofBits, Ideal.ieee, -EReal.coe_mul]; norm_num
  have h2 : c64 = ((64 : ℝ) : EReal) := by
    simp [c64, Ideal.ofBits, Ideal.ieee, -EReal.coe_mul]; norm_num
  rw [h1, h2, Ideal.div_coe (by norm_num)]

/-- The row number, rounded down to its head, as the kernel computes it on 32-bit words. -/
def headWord (n : BitVec 32) : BitVec 32 :=
  Scalar.select
    (IntOp.andi
      (IntOp.cmpi CmpIPredicate.ne
        (IntOp.subi (BitVec.setWidth 32 (IntOp.cmpi CmpIPredicate.sgt n 0#32)) (BitVec.setWidth 32 (IntOp.cmpi CmpIPredicate.slt n 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector n 64#32) 0#32))
    (IntOp.subi (IntOp.divsi ArithUnit.vector n 64#32) 1#32)
    (IntOp.divsi ArithUnit.vector n 64#32)

/-- It is the number divided by 64. -/
theorem headWord_eq : ∀ n : Fin 256, headWord (BitVec.ofNat 32 n.val) = BitVec.ofNat 32 (n.val / 64) := by
  decide +kernel

/-- The head matrix's entry: 1 where row and column lie in the same head, 0 elsewhere. -/
theorem headEntry (a b : Fin 256) :
    (FloatOps.sitofp (F := Ideal) FTy.f32 (BitVec.setWidth 32 (IntOp.cmpi CmpIPredicate.eq (headWord (BitVec.ofNat 32 a.val)) (headWord (BitVec.ofNat 32 b.val)))) : EReal)
      = if a.val / 64 = b.val / 64 then 1 else 0 := by
  rw [headWord_eq, headWord_eq]
  have h : ∀ x y : Fin 4, IntOp.cmpi CmpIPredicate.eq (BitVec.ofNat 32 x.val) (BitVec.ofNat 32 y.val) = if x.val = y.val then 1#1 else 0#1 := by decide +kernel
  have := h ⟨a.val / 64, by omega⟩ ⟨b.val / 64, by omega⟩
  simp only at this
  rw [this]
  split_ifs
  · show ((((BitVec.setWidth 32 1#1).toInt : ℝ)) : EReal) = 1
    norm_num
  · show ((((BitVec.setWidth 32 0#1).toInt : ℝ)) : EReal) = 0
    norm_num

/-- A sum weighted by the head matrix's column is the sum over that column's head. -/
theorem headSum (v : Fin 256 → EReal) (l : Fin 256) :
    (∑ x, v x * (if x.val / 64 = l.val / 64 then 1 else 0 : EReal)) = ∑ k : Fin 64, v ⟨64 * (l.val / 64) + k.val, by omega⟩ := by
  simp only [mul_ite, mul_one, mul_zero]
  rw [← Finset.sum_filter]
  refine (Finset.sum_bij' (fun k _ => (⟨64 * (l.val / 64) + k.val, by omega⟩ : Fin 256)) (fun x _ => (⟨x.val % 64, by omega⟩ : Fin 64)) ?_ ?_ ?_ ?_ ?_).symm
  · intro k _; simp only [Finset.mem_filter, Finset.mem_univ, true_and]; omega
  · intro x _; simp
  · intro k _; ext; simp only; omega
  · intro x hx; simp only [Finset.mem_filter, Finset.mem_univ, true_and] at hx; ext; simp only; omega
  · intro k _; rfl

end Cert.FfnRow
-- ==== Proof.FfnBody.lean ====
module

public import proofs.«01_k».proof.Proof.FfnRow
public import proofs.«01_k».proof.Proof.Gen.FfnIdeal.Skeleton

@[expose] public section

set_option maxRecDepth 16384

noncomputable section

open Idealize.ShloMosaic Idealize.ShloMosaic.TcCoe Idealize.SL.Sem

namespace Cert.FfnIdeal.Body

open Cert.FfnIdeal Cert.FfnIdeal.Gen Cert.FfnRow

/-- The last step of the block: the final norm of each row. -/
theorem pay1_at (y : FVec Ideal S512x1024 .f32) (g : FVec Ideal S1x1024 .f32) (i : Fin 512) (j : Fin 1024) :
    k0_pay1 (F := Ideal) y g (ix3 0 i j) = rms c1024 (fun k => y (ix2 i k)) (fun k => g (ix2 0 k)) j := by
  pointwise [k0_pay1]
  rfl

/-- The four lane groups of the attention output, joined. -/
theorem pay2_at (x : FVec Ideal S4x512x128 .f32) (a b c d : FVec Ideal S1x512x128 .f32)
    (ha : ∀ i j, a (ix3 0 i j) = x (ix3 0 i j)) (hb : ∀ i j, b (ix3 0 i j) = x (ix3 1 i j))
    (hc : ∀ i j, c (ix3 0 i j) = x (ix3 2 i j)) (hd : ∀ i j, d (ix3 0 i j) = x (ix3 3 i j))
    (i : Fin 512) (j : Fin 512) :
    k0_pay2 (F := Ideal) a b c d (ix2 i j) = x (ix3 ⟨j.val / 128, by omega⟩ i ⟨j.val % 128, by omega⟩) := by
  pointwise [k0_pay2]
  by_cases h1 : j.val < 128
  · rw [dif_pos h1, ha]; congr 2 <;> (apply Fin.ext; simp only [Fin.val_zero, Fin.val_one, Fin.val_two]; omega)
  rw [dif_neg h1]
  by_cases h2 : j.val - 128 < 128
  · rw [dif_pos h2, hb]; congr 2 <;> (apply Fin.ext; simp only [Fin.val_zero, Fin.val_one, Fin.val_two]; omega)
  rw [dif_neg h2]
  by_cases h3 : j.val - 128 - 128 < 128
  · rw [dif_pos h3, hc]; congr 2 <;> (apply Fin.ext; simp only [Fin.val_zero, Fin.val_one, Fin.val_two]; omega)
  rw [dif_neg h3, hd]; congr 2 <;> (apply Fin.ext; simp only []; omega)

/-- The word of the head that a row of the block matrix belongs to. -/
theorem pay3_at (a b : Fin 256) : k0_pay3 (ix2 a b) = headWord (BitVec.ofNat 32 a.val) := by
  pointwise [k0_pay3]
  rfl

/-- The delta mixer's head norm, for finite rows: the remainder of a square after its leading part is 0. -/
theorem pay4_at (o : FVec Ideal S512x256 .f32) (g : FVec Ideal S1x256 .f32)  (i : Fin 512) (j : Fin 256)
    (ho : ∀ k : Fin 256, ∃ r : ℝ, o (ix2 i k) = (r : EReal)) :
    k0_pay4 (F := Ideal) o k0_pay3 (iota .tc S256x256 32 [1] iota_S256x256_d1_w32) 64#32 g (ix2 i j)
      = o (ix2 i j) * Ideal.rsqrt (Ideal.div (∑ k : Fin 64, o (ix2 i ⟨64 * (j.val / 64) + k.val, by omega⟩) * o (ix2 i ⟨64 * (j.val / 64) + k.val, by omega⟩)) c64 + eps)
          * g (ix2 0 j) := by
  pointwise [k0_pay4]
  have h0 : ∀ k : Fin 256, o (ix2 i k) * o (ix2 i k) - o (ix2 i k) * o (ix2 i k) = 0 := fun k => by
    obtain ⟨r, hr⟩ := ho k
    rw [hr, ← EReal.coe_mul, ← EReal.coe_sub, sub_self, EReal.coe_zero]
  simp only [h0, zero_mul, Finset.sum_const_zero, add_zero, pay3_at]
  rw [← mul_inv64]
  congr 5
  refine Eq.trans (Finset.sum_congr rfl fun x _ => congrArg (_ * ·) (headEntry x j)) ?_
  exact headSum (fun x => o (ix2 i x) * o (ix2 i x)) j

/-- The three mixers' rows side by side. -/
theorem pay6_at (a : FVec Ideal S512x512 .f32) (b c : FVec Ideal S512x256 .f32) (d : FVec Ideal S1x512 .f32) (e : FVec Ideal S512x256 .f32) (f : FVec Ideal S1x256 .f32) (i : Fin 512) (j : Fin 1024) :
    k0_pay6 (F := Ideal) a b c d e f (ix2 i j) =
      if h : j.val < 512 then rms c512 (fun k => a (ix2 i k)) (fun k => d (ix2 0 k)) ⟨j.val, h⟩
      else if h' : j.val - 512 < 256 then rms c256 (fun k => e (ix2 i k)) (fun k => f (ix2 0 k)) ⟨j.val - 512, h'⟩
      else b (ix2 i ⟨j.val - 512 - 256, by omega⟩) * silu (c (ix2 i ⟨j.val - 512 - 256, by omega⟩)) := by
  pointwise [k0_pay6]
  simp only [zero_sub]
  rfl

/-- The residual stream after the SwiGLU block, from the mixed row. -/
theorem pay7_at (x : FVec Ideal S512x1024 .f32) (mix : FVec Ideal S512x1024 .bf16) (wo : FVec Ideal S1024x1024 .bf16) (nf : FVec Ideal S1x1024 .f32)
    (wg wu : FVec Ideal S1024x2816 .bf16) (wd : FVec Ideal S2816x1024 .bf16) (i : Fin 512) (j : Fin 1024) :
    k0_pay7 (F := Ideal) (k0_pay5 x) mix wo nf wg wu wd (ix2 i j)
      = afterFfn (afterMix (fun k => x (ix2 i k)) (fun k => mix (ix2 i k)) (fun k l => wo (ix2 k l))) (fun k => nf (ix2 0 k))
          (fun k l => wg (ix2 k l)) (fun k l => wu (ix2 k l)) (fun k l => wd (ix2 k l)) j := by
  pointwise [k0_pay7, k0_pay5]
  simp only [zero_sub]
  rfl

/-- What one block stores, row by row, when the delta mixer's block is finite. -/
theorem block_at (x0 : FVec Ideal S512x1024 .f32) (x1 : FVec Ideal S4x512x128 .f32) (a b c d : FVec Ideal S1x512x128 .f32)
    (ha : ∀ i j, a (ix3 0 i j) = x1 (ix3 0 i j)) (hb : ∀ i j, b (ix3 0 i j) = x1 (ix3 1 i j))
    (hc : ∀ i j, c (ix3 0 i j) = x1 (ix3 2 i j)) (hd : ∀ i j, d (ix3 0 i j) = x1 (ix3 3 i j))
    (x2 x3 x4 : FVec Ideal S512x256 .f32) (x5 : FVec Ideal S1x512 .f32) (x6 x7 : FVec Ideal S1x256 .f32) (x8 : FVec Ideal S1024x1024 .bf16)
    (x9 : FVec Ideal S1x1024 .f32) (x10 x11 : FVec Ideal S1024x2816 .bf16) (x12 : FVec Ideal S2816x1024 .bf16) (x13 : FVec Ideal S1x1024 .f32)
    (gc : Fin 64 → EReal) (hgc : ∀ l : Fin 256, x7 (ix2 0 l) = gc ⟨l.val % 64, by omega⟩)
    (h3 : ∀ i k, ∃ r : ℝ, x3 (ix2 i k) = (r : EReal)) (i : Fin 512) (j : Fin 1024) :
    k0_pay1 (F := Ideal) (k0_pay7 (k0_pay5 x0) (k0_pay6 (k0_pay2 a b c d) (k0_pay4 x3 k0_pay3 (iota .tc S256x256 32 [1] iota_S256x256_d1_w32) 64#32 x7)
        x4 x5 x2 x6) x8 x9 x10 x11 x12) x13 (ix3 0 i j)
      = out (fun k => x0 (ix2 i k)) (fun k => x1 (ix3 ⟨k.val / 128, by omega⟩ i ⟨k.val % 128, by omega⟩)) (fun k => x2 (ix2 i k))
          (fun k => x3 (ix2 i k)) (fun k => x4 (ix2 i k)) (fun k => x5 (ix2 0 k)) (fun k => x6 (ix2 0 k)) gc (fun k l => x8 (ix2 k l))
          (fun k => x9 (ix2 0 k)) (fun k l => x10 (ix2 k l)) (fun k l => x11 (ix2 k l)) (fun k l => x12 (ix2 k l)) (fun k => x13 (ix2 0 k)) j := by
  rw [pay1_at]
  simp only [pay7_at, pay6_at, pay2_at x1 a b c d ha hb hc hd, pay4_at x3 x7 i _ (h3 i), hgc]
  rfl

end Cert.FfnIdeal.Body
-- ==== Proof.FfnReference.lean ====
module

public import proofs.«01_k».proof.Proof.FfnRow
public import proofs.«01_k».proof.Proof.Gen.FfnReferenceIdeal.Read

@[expose] public section

set_option maxRecDepth 16384

noncomputable section

open Idealize.ShloMosaic Idealize.ShloMosaic.TcCoe Idealize.SL.Sem

namespace Cert.FfnReferenceIdeal.Rows

open Cert.FfnReferenceIdeal Cert.FfnReferenceIdeal.Read Cert.FfnRow

/-- The row of the flattened batch that batch element `b`, position `t` sits at. -/
abbrev row (b : Fin 8) (t : Fin 2064) : Fin 16512 := ⟨b.val * 2064 + t.val, by omega⟩

/-- The attention rows of the reference, gathered from their head pairs. -/
theorem v1_at (x1 : FVec Ideal S4x16512x128 .f32) (b : Fin 8) (t : Fin 2064) (j : Fin 512) :
    val_main_v1 (F := Ideal) x1 (ix3 b t j) = x1 (ix3 ⟨j.val / 128, by omega⟩ (row b t) ⟨j.val % 128, by omega⟩) := by
  pointwise [val_main_v1, val_main_v0]

/-- The convolution rows of the reference, by batch element and position. -/
theorem v2_at (x2 : FVec Ideal S16512x256 .f32) (b : Fin 8) (t : Fin 2064) (j : Fin 256) :
    val_main_v2 (F := Ideal) x2 (ix3 b t j) = x2 (ix2 (row b t) j) := by
  pointwise [val_main_v2]

/-- The recurrence rows of the reference, by head. -/
theorem v3_at (x3 : FVec Ideal S16512x256 .f32) (b : Fin 8) (t : Fin 2064) (h : Fin 4) (d : Fin 64) :
    val_main_v3 (F := Ideal) x3 (ix4 b t h d) = x3 (ix2 (row b t) ⟨64 * h.val + d.val, by omega⟩) := by
  pointwise [val_main_v3]
  simp only [mul_comm h.val 64]

/-- The recurrence rows of the reference after their head's norm. -/
theorem v17_at (x3 : FVec Ideal S16512x256 .f32) (b : Fin 8) (t : Fin 2064) (h : Fin 4) (d : Fin 64) :
    val_main_v17 (F := Ideal) x3 (ix4 b t h d) = x3 (ix2 (row b t) ⟨64 * h.val + d.val, by omega⟩) := v3_at x3 b t h d

/-- The attention part of the mixed row. -/
theorem v32_at (x1 : FVec Ideal S4x16512x128 .f32) (x5 : FVec Ideal S512 .f32) (b : Fin 8) (t : Fin 2064) (j : Fin 512) :
    val_main_v32 (F := Ideal) x1 x5 (ix3 b t j)
      = rms c512 (fun k => x1 (ix3 ⟨k.val / 128, by omega⟩ (row b t) ⟨k.val % 128, by omega⟩)) (fun k => x5 (ix1 k)) j := by
  pointwise [val_main_v20, val_main_v21, val_main_v22, val_main_v23, val_main_v24, val_main_v25, val_main_v26, val_main_v27, val_main_v28, val_main_v29, val_main_v30, val_main_v31, val_main_v32, val_main_cst_2, val_main_cst_3, val_main_cst_4]
  simp only [v1_at, zero_add]
  rfl

/-- The conformer part of the mixed row. -/
theorem v45_at (x2 : FVec Ideal S16512x256 .f32) (x6 : FVec Ideal S256 .f32) (b : Fin 8) (t : Fin 2064) (j : Fin 256) :
    val_main_v45 (F := Ideal) x2 x6 (ix3 b t j) = rms c256 (fun k => x2 (ix2 (row b t) k)) (fun k => x6 (ix1 k)) j := by
  pointwise [val_main_v33, val_main_v34, val_main_v35, val_main_v36, val_main_v37, val_main_v38, val_main_v39, val_main_v40, val_main_v41, val_main_v42, val_main_v43, val_main_v44, val_main_v45, val_main_cst_5, val_main_cst_6, val_main_cst_7]
  simp only [v2_at, zero_add]
  rfl

/-- The delta mixer's part of the mixed row. -/
theorem v46_at (x3 : FVec Ideal S16512x256 .f32) (x4 : FVec Ideal S16512x256 .f32) (x7 : FVec Ideal S64 .f32) (b : Fin 8) (t : Fin 2064) (j : Fin 256) :
    val_main_v46 (F := Ideal) x3 x4 x7 (ix3 b t j)
      = headNorm (fun k => x3 (ix2 (row b t) k)) (fun k => x4 (ix2 (row b t) k)) (fun k => x7 (ix1 k)) j := by
  pointwise [val_main_v46, val_main_v19, val_main_v4, val_main_v5, val_main_v6, val_main_v7, val_main_v8, val_main_v9, val_main_v10, val_main_v11, val_main_v12, val_main_v13, val_main_v14, val_main_v15, val_main_v16, val_main_v18, val_main_cst, val_main_cst_0, val_main_cst_1, val_main_call0_v0, val_main_call0_v1, val_main_call0_v2, val_main_call0_v3, val_main_call0_v4, val_main_call0_v5, val_main_call0_cst, val_main_call0_cst_0]
  have e : 64 * (j.val / 64) + j.val % 64 = j.val := Nat.div_add_mod j.val 64
  simp only [v3_at, v17_at, e]
  rfl

/-- The three parts side by side. -/
theorem v47_at (x1 : FVec Ideal S4x16512x128 .f32) (x2 : FVec Ideal S16512x256 .f32) (x3 : FVec Ideal S16512x256 .f32) (x4 : FVec Ideal S16512x256 .f32) (x5 : FVec Ideal S512 .f32) (x6 : FVec Ideal S256 .f32) (x7 : FVec Ideal S64 .f32) (b : Fin 8) (t : Fin 2064) (j : Fin 1024) :
    val_main_v47 (F := Ideal) x1 x2 x3 x4 x5 x6 x7 (ix3 b t j)
      = mixed (fun k => x1 (ix3 ⟨k.val / 128, by omega⟩ (row b t) ⟨k.val % 128, by omega⟩)) (fun k => x2 (ix2 (row b t) k))
          (fun k => x3 (ix2 (row b t) k)) (fun k => x4 (ix2 (row b t) k)) (fun k => x5 (ix1 k)) (fun k => x6 (ix1 k)) (fun k => x7 (ix1 k)) j := by
  pointwise [val_main_v47]
  simp only [v32_at, v45_at, v46_at]
  rfl

/-- The residual stream after the output projection. -/
theorem v49_at (x0 : FVec Ideal S8x2064x1024 .f32) (x1 : FVec Ideal S4x16512x128 .f32) (x2 : FVec Ideal S16512x256 .f32) (x3 : FVec Ideal S16512x256 .f32) (x4 : FVec Ideal S16512x256 .f32) (x5 : FVec Ideal S512 .f32) (x6 : FVec Ideal S256 .f32) (x7 : FVec Ideal S64 .f32) (x8 : FVec Ideal S1024x1024 .f32) (b : Fin 8) (t : Fin 2064) (j : Fin 1024) :
    val_main_v49 (F := Ideal) x0 x1 x2 x3 x4 x5 x6 x7 x8 (ix3 b t j)
      = afterMix (fun k => x0 (ix3 b t k)) (mixed (fun k => x1 (ix3 ⟨k.val / 128, by omega⟩ (row b t) ⟨k.val % 128, by omega⟩)) (fun k => x2 (ix2 (row b t) k))
          (fun k => x3 (ix2 (row b t) k)) (fun k => x4 (ix2 (row b t) k)) (fun k => x5 (ix1 k)) (fun k => x6 (ix1 k)) (fun k => x7 (ix1 k)))
          (fun k l => x8 (ix2 k l)) j := by
  pointwise [val_main_v49, val_main_v48]
  simp only [v47_at]
  rfl

/-- The normalised residual stream, before the SwiGLU block. -/
theorem v62_at (x0 : FVec Ideal S8x2064x1024 .f32) (x1 : FVec Ideal S4x16512x128 .f32) (x2 : FVec Ideal S16512x256 .f32) (x3 : FVec Ideal S16512x256 .f32) (x4 : FVec Ideal S16512x256 .f32) (x5 : FVec Ideal S512 .f32) (x6 : FVec Ideal S256 .f32) (x7 : FVec Ideal S64 .f32) (x8 : FVec Ideal S1024x1024 .f32) (x9 : FVec Ideal S1024 .f32) (b : Fin 8) (t : Fin 2064) (j : Fin 1024) :
    val_main_v62 (F := Ideal) x0 x1 x2 x3 x4 x5 x6 x7 x8 x9 (ix3 b t j)
      = rms c1024 (fun k => val_main_v49 (F := Ideal) x0 x1 x2 x3 x4 x5 x6 x7 x8 (ix3 b t k)) (fun k => x9 (ix1 k)) j := by
  pointwise [val_main_v50, val_main_v51, val_main_v52, val_main_v53, val_main_v54, val_main_v55, val_main_v56, val_main_v57, val_main_v58, val_main_v59, val_main_v60, val_main_v61, val_main_v62, val_main_cst_8, val_main_cst_9, val_main_cst_10]
  rfl

/-- The residual stream after the SwiGLU block. -/
theorem v68_at (x0 : FVec Ideal S8x2064x1024 .f32) (x1 : FVec Ideal S4x16512x128 .f32) (x2 : FVec Ideal S16512x256 .f32) (x3 : FVec Ideal S16512x256 .f32) (x4 : FVec Ideal S16512x256 .f32) (x5 : FVec Ideal S512 .f32) (x6 : FVec Ideal S256 .f32) (x7 : FVec Ideal S64 .f32) (x8 : FVec Ideal S1024x1024 .f32) (x9 : FVec Ideal S1024 .f32) (x10 : FVec Ideal S1024x2816 .f32) (x11 : FVec Ideal S1024x2816 .f32) (x12 : FVec Ideal S2816x1024 .f32) (b : Fin 8) (t : Fin 2064) (j : Fin 1024) :
    val_main_v68 (F := Ideal) x0 x1 x2 x3 x4 x5 x6 x7 x8 x9 x10 x11 x12 (ix3 b t j)
      = afterFfn (fun k => val_main_v49 (F := Ideal) x0 x1 x2 x3 x4 x5 x6 x7 x8 (ix3 b t k)) (fun k => x9 (ix1 k))
          (fun k l => x10 (ix2 k l)) (fun k l => x11 (ix2 k l)) (fun k l => x12 (ix2 k l)) j := by
  pointwise [val_main_v63, val_main_v64, val_main_v65, val_main_v66, val_main_v67, val_main_v68, val_main_call1_v0, val_main_call1_v1, val_main_call1_v2, val_main_call1_v3, val_main_call1_v4, val_main_call1_v5, val_main_call1_cst, val_main_call1_cst_0]
  simp only [v62_at]
  rfl

/-- The reference's result, row by row. -/
theorem v82_at (x0 : FVec Ideal S8x2064x1024 .f32) (x1 : FVec Ideal S4x16512x128 .f32) (x2 : FVec Ideal S16512x256 .f32) (x3 : FVec Ideal S16512x256 .f32) (x4 : FVec Ideal S16512x256 .f32) (x5 : FVec Ideal S512 .f32) (x6 : FVec Ideal S256 .f32) (x7 : FVec Ideal S64 .f32) (x8 : FVec Ideal S1024x1024 .f32) (x9 : FVec Ideal S1024 .f32) (x10 : FVec Ideal S1024x2816 .f32) (x11 : FVec Ideal S1024x2816 .f32) (x12 : FVec Ideal S2816x1024 .f32) (x13 : FVec Ideal S1024 .f32) (b : Fin 8) (t : Fin 2048) (j : Fin 1024) :
    val_main_v82 (F := Ideal) x0 x1 x2 x3 x4 x5 x6 x7 x8 x9 x10 x11 x12 x13 (ix3 b t j)
      = out (fun k => x0 (ix3 b ⟨16 + t.val, by omega⟩ k)) (fun k => x1 (ix3 ⟨k.val / 128, by omega⟩ (row b ⟨16 + t.val, by omega⟩) ⟨k.val % 128, by omega⟩))
          (fun k => x2 (ix2 (row b ⟨16 + t.val, by omega⟩) k)) (fun k => x3 (ix2 (row b ⟨16 + t.val, by omega⟩) k)) (fun k => x4 (ix2 (row b ⟨16 + t.val, by omega⟩) k))
          (fun k => x5 (ix1 k)) (fun k => x6 (ix1 k)) (fun k => x7 (ix1 k)) (fun k l => x8 (ix2 k l)) (fun k => x9 (ix1 k))
          (fun k l => x10 (ix2 k l)) (fun k l => x11 (ix2 k l)) (fun k l => x12 (ix2 k l)) (fun k => x13 (ix1 k)) j := by
  pointwise [val_main_v69, val_main_v70, val_main_v71, val_main_v72, val_main_v73, val_main_v74, val_main_v75, val_main_v76, val_main_v77, val_main_v78, val_main_v79, val_main_v80, val_main_v81, val_main_v82, val_main_cst_11, val_main_cst_12, val_main_cst_13]
  simp only [v68_at, v49_at, zero_add]
  rfl

end Cert.FfnReferenceIdeal.Rows
-- ==== Proof.FfnValue.lean ====
module

public import proofs.«01_k».proof.Proof.FfnBody
public import proofs.«01_k».proof.Proof.FfnReference
public import proofs.«01_k».proof.Proof.Gen.FfnIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnIdeal.Whole

open Cert.FfnIdeal Cert.FfnIdeal.Gen Cert.FfnRow

variable (m : (ℓ : Loc nD τ sig) → Buf (Elt Ideal) ℓ)

/-- Where each window's block starts, at every grid point. -/
theorem idx : ∀ t : Fin cfg0.N, win0_0.index t = ![t.val / 4 * 2064 + 16 + t.val % 4 * 512, 0]
    ∧ win0_1.index t = ![0, t.val / 4 * 2064 + 16 + t.val % 4 * 512, 0]
    ∧ win0_2.index t = ![t.val / 4 * 2064 + 16 + t.val % 4 * 512, 0]
    ∧ win0_3.index t = ![t.val / 4 * 2064 + 16 + t.val % 4 * 512, 0]
    ∧ win0_4.index t = ![t.val / 4 * 2064 + 16 + t.val % 4 * 512, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0]
    ∧ win0_13.index t = ![0, 0] ∧ win0_14.index t = ![t.val / 4, t.val % 4, 0] ∧ t.val < 32 :=
  (by decide +kernel : ∀ t : Fin grid0.N, _)

/-- The first row of the flattened batch that a grid point's block holds. -/
def gridRow (t : Fin cfg0.N) : Fin 16001 := ⟨t.val / 4 * 2064 + 16 + t.val % 4 * 512, by have := (idx t).2.2.2.2.2.2.2.2.2.2.2.2.2.2.2; omega⟩

/-- The first row of the block at a grid point: past the meta tokens of its batch element. -/
theorem gridRow_val (t : Fin cfg0.N) : (gridRow t).val = t.val / 4 * 2064 + 16 + t.val % 4 * 512 := rfl

/-- Where an entry of the block of window 0 lies in its array. -/
theorem emb0 (t : Fin cfg0.N) (y) (a) : ((((View.whole main_v4).slice (win0_0.rect t)).emb y a : Fin _) : ℕ) = win0_0.index t a + (y a).val :=
  ValueKit.view_emb_slice_whole_unit_val main_v4 (win0_0.index t) _ _ y a

/-- Where an entry of the block of window 1 lies in its array. -/
theorem emb1 (t : Fin cfg0.N) (y) (a) : ((((View.whole main_arg1).slice (win0_1.rect t)).emb y a : Fin _) : ℕ) = win0_1.index t a + (y a).val :=
  ValueKit.view_emb_slice_whole_unit_val main_arg1 (win0_1.index t) _ _ y a

/-- Where an entry of the block of window 2 lies in its array. -/
theorem emb2 (t : Fin cfg0.N) (y) (a) : ((((View.whole main_arg2).slice (win0_2.rect t)).emb y a : Fin _) : ℕ) = win0_2.index t a + (y a).val :=
  ValueKit.view_emb_slice_whole_unit_val main_arg2 (win0_2.index t) _ _ y a

/-- Where an entry of the block of window 3 lies in its array. -/
theorem emb3 (t : Fin cfg0.N) (y) (a) : ((((View.whole main_arg3).slice (win0_3.rect t)).emb y a : Fin _) : ℕ) = win0_3.index t a + (y a).val :=
  ValueKit.view_emb_slice_whole_unit_val main_arg3 (win0_3.index t) _ _ y a

/-- Where an entry of the block of window 4 lies in its array. -/
theorem emb4 (t : Fin cfg0.N) (y) (a) : ((((View.whole main_arg4).slice (win0_4.rect t)).emb y a : Fin _) : ℕ) = win0_4.index t a + (y a).val :=
  ValueKit.view_emb_slice_whole_unit_val main_arg4 (win0_4.index t) _ _ y a

/-- The block of the residual stream, at an entry. -/
theorem blk0 (c : Dev nD) (t : Fin cfg0.N) (i : Fin 512) (k : Fin 1024) : (iblk m c 0 t (ix2 i k) : EReal) = m ((c.tc : Thread nD τ).loc main_arg0) (ix3 ⟨((gridRow t).val + i.val) / 2064, by have := (gridRow t).isLt; omega⟩ ⟨((gridRow t).val + i.val) % 2064, by omega⟩ k) := by
  blk_simp [iblk, idx t]
  entry_read
  pointwise
  blk_ext [emb0 t, idx t, gridRow_val t]

/-- The block of the attention output, at an entry. -/
theorem blk1 (c : Dev nD) (t : Fin cfg0.N) (a : Fin 4) (i : Fin 512) (k : Fin 128) : (iblk m c 1 t (ix3 a i k) : EReal) = m ((c.tc : Thread nD τ).loc main_arg1) (ix3 a ⟨(gridRow t).val + i.val, by have := (gridRow t).isLt; omega⟩ k) := by
  blk_simp [iblk, idx t]
  entry_read
  pointwise
  blk_ext [emb1 t, idx t, gridRow_val t]

/-- The block of the convolution output, at an entry. -/
theorem blk2 (c : Dev nD) (t : Fin cfg0.N) (i : Fin 512) (k : Fin 256) : (iblk m c 2 t (ix2 i k) : EReal) = m ((c.tc : Thread nD τ).loc main_arg2) (ix2 ⟨(gridRow t).val + i.val, by have := (gridRow t).isLt; omega⟩ k) := by
  blk_simp [iblk, idx t]
  entry_read
  pointwise
  blk_ext [emb2 t, idx t, gridRow_val t]

/-- The block of the recurrence output, at an entry. -/
theorem blk3 (c : Dev nD) (t : Fin cfg0.N) (i : Fin 512) (k : Fin 256) : (iblk m c 3 t (ix2 i k) : EReal) = m ((c.tc : Thread nD τ).loc main_arg3) (ix2 ⟨(gridRow t).val + i.val, by have := (gridRow t).isLt; omega⟩ k) := by
  blk_simp [iblk, idx t]
  entry_read
  pointwise
  blk_ext [emb3 t, idx t, gridRow_val t]

/-- The block of the recurrence gate, at an entry. -/
theorem blk4 (c : Dev nD) (t : Fin cfg0.N) (i : Fin 512) (k : Fin 256) : (iblk m c 4 t (ix2 i k) : EReal) = m ((c.tc : Thread nD τ).loc main_arg4) (ix2 ⟨(gridRow t).val + i.val, by have := (gridRow t).isLt; omega⟩ k) := by
  blk_simp [iblk, idx t]
  entry_read
  pointwise
  blk_ext [emb4 t, idx t, gridRow_val t]

/-- The attention norm's weights, as staged. -/
theorem blk5 (c : Dev nD) (t : Fin cfg0.N) (k : Fin 512) : (iblk m c 5 t (ix2 0 k) : EReal) = m ((c.tc : Thread nD τ).loc main_arg5) (ix1 k) := by
  blk_simp [iblk, idx t]
  entry_read
  pointwise
  blk_ext [idx t, gridRow_val t]

/-- The convolution norm's weights, as staged. -/
theorem blk6 (c : Dev nD) (t : Fin cfg0.N) (k : Fin 256) : (iblk m c 6 t (ix2 0 k) : EReal) = m ((c.tc : Thread nD τ).loc main_arg6) (ix1 k) := by
  blk_simp [iblk, idx t]
  entry_read
  pointwise
  blk_ext [idx t, gridRow_val t]

/-- The head norm's weights, repeated for each of the four heads. -/
theorem blk7 (c : Dev nD) (t : Fin cfg0.N) (k : Fin 256) : (iblk m c 7 t (ix2 0 k) : EReal) = m ((c.tc : Thread nD τ).loc main_arg7) (ix1 ⟨k.val % 64, by omega⟩) := by
  blk_simp [iblk, idx t]
  entry_read
  pointwise
  blk_ext [idx t, gridRow_val t]

/-- The output projection, as staged. -/
theorem blk8 (c : Dev nD) (t : Fin cfg0.N) (k : Fin 1024) (l : Fin 1024) : (iblk m c 8 t (ix2 k l) : EReal) = m ((c.tc : Thread nD τ).loc main_arg8) (ix2 k l) := by
  blk_simp [iblk, idx t]
  entry_read
  pointwise
  blk_ext [idx t, gridRow_val t]

/-- The second norm's weights, as staged. -/
theorem blk9 (c : Dev nD) (t : Fin cfg0.N) (k : Fin 1024) : (iblk m c 9 t (ix2 0 k) : EReal) = m ((c.tc : Thread nD τ).loc main_arg9) (ix1 k) := by
  blk_simp [iblk, idx t]
  entry_read
  pointwise
  blk_ext [idx t, gridRow_val t]

/-- The gate projection, as staged. -/
theorem blk10 (c : Dev nD) (t : Fin cfg0.N) (k : Fin 1024) (l : Fin 2816) : (iblk m c 10 t (ix2 k l) : EReal) = m ((c.tc : Thread nD τ).loc main_arg10) (ix2 k l) := by
  blk_simp [iblk, idx t]
  entry_read
  pointwise
  blk_ext [idx t, gridRow_val t]

/-- The up projection, as staged. -/
theorem blk11 (c : Dev nD) (t : Fin cfg0.N) (k : Fin 1024) (l : Fin 2816) : (iblk m c 11 t (ix2 k l) : EReal) = m ((c.tc : Thread nD τ).loc main_arg11) (ix2 k l) := by
  blk_simp [iblk, idx t]
  entry_read
  pointwise
  blk_ext [idx t, gridRow_val t]

/-- The down projection, as staged. -/
theorem blk12 (c : Dev nD) (t : Fin cfg0.N) (k : Fin 2816) (l : Fin 1024) : (iblk m c 12 t (ix2 k l) : EReal) = m ((c.tc : Thread nD τ).loc main_arg12) (ix2 k l) := by
  blk_simp [iblk, idx t]
  entry_read
  pointwise
  blk_ext [idx t, gridRow_val t]

/-- The final norm's weights, as staged. -/
theorem blk13 (c : Dev nD) (t : Fin cfg0.N) (k : Fin 1024) : (iblk m c 13 t (ix2 0 k) : EReal) = m ((c.tc : Thread nD τ).loc main_arg13) (ix1 k) := by
  blk_simp [iblk, idx t]
  entry_read
  pointwise
  blk_ext [idx t, gridRow_val t]

/-- The result array after the run is the reference's term over the kernel's argument arrays. -/
theorem final (c : Dev nD) (hoc : ∀ i, ∃ r : ℝ, (m ((c.tc : Thread nD τ).loc main_arg3) : S16512x256.Idx → EReal) i = (r : EReal)) :
    (dats m 0 c).arrAt 14 (cfgs 0).N
      = Cert.FfnReferenceIdeal.Read.val_main_v82 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  refine (dats m 0 c).arrAt_eq_of_covers 14 _ (by decide +kernel) fun t _ y => ?_
  blk_simp
  rw [after0_14]
  frame_out
  idx_vars y
  have ht := (idx t).2.2.2.2.2.2.2.2.2.2.2.2.2.2.2
  have e : ((View.whole main_v13).slice (win0_14.rect t)).emb (ix3 y0 y1 y2)
      = (ix3 ⟨t.val / 4, by omega⟩ ⟨t.val % 4 * 512 + y1.val, by omega⟩ y2 : S8x2048x1024.Idx) := by
    blk_ext [idx t]
  rw [e, Cert.FfnReferenceIdeal.Rows.v82_at]
  obtain rfl : y0 = 0 := Subsingleton.elim _ _
  refine (Cert.FfnIdeal.Body.block_at (iblk m c 0 t) (iblk m c 1 t) _ _ _ _ ?_ ?_ ?_ ?_ (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t)
    (fun k => m ((c.tc : Thread nD τ).loc main_arg7) (ix1 k)) (fun l => blk7 m c t l) (fun i k => ?_) y1 y2).trans ?_
  iterate 4 (· intro i j; pointwise)
  · exact (blk3 m c t i k).symm ▸ hoc _
  simp only [blk0, blk1, blk2, blk3, blk4, blk5, blk6, blk8, blk9, blk10, blk11, blk12, blk13]
  have q1 : ∀ p q, (⟨((gridRow t).val + y1.val) / 2064, p⟩ : Fin 8) = ⟨t.val / 4, q⟩ := fun p q => Fin.ext (by simp only [gridRow_val]; omega)
  have q2 : ∀ p q, (⟨((gridRow t).val + y1.val) % 2064, p⟩ : Fin 2064) = ⟨16 + (t.val % 4 * 512 + y1.val), q⟩ := fun p q => Fin.ext (by simp only [gridRow_val]; omega)
  have q3 : ∀ p q r, (⟨(gridRow t).val + y1.val, p⟩ : Fin 16512) = Cert.FfnReferenceIdeal.Rows.row ⟨t.val / 4, q⟩ ⟨16 + (t.val % 4 * 512 + y1.val), r⟩ :=
    fun p q r => Fin.ext (by simp only [gridRow_val, Cert.FfnReferenceIdeal.Rows.row]; omega)
  simp only [q1 _ (by omega), q2 _ (by omega), q3 _ (by omega) (by omega)]

end Cert.FfnIdeal.Whole
-- ==== Proof.Finite.lean ====
module

public import Idealize.ShloMosaic.Lib.Pointwise

@[expose] public section

set_option maxRecDepth 16384

noncomputable section

open Idealize.ShloMosaic Idealize.ShloMosaic.TcCoe Idealize.SL.Sem

namespace Cert.Finite

/-- An extended real whose absolute value is below positive infinity is a real number. -/
theorem real_of_abs (x : Ideal .f32) (h : FloatOps.absf (F := Ideal) (φ := .f32) x < Ideal.ofBits .f32 2139095040#32) : ∃ r : ℝ, (x : EReal) = (r : EReal) := by
  have top : (Ideal.ofBits .f32 2139095040#32 : EReal) = ⊤ := by simp [Ideal.ofBits, Ideal.ieee]
  rw [top] at h
  induction x using EReal.rec with
  | bot => exact absurd h (by show ¬ (max (⊥ : EReal) (-⊥) < ⊤); simp)
  | top => exact absurd h (by show ¬ (max (⊤ : EReal) (-⊤) < ⊤); simp)
  | coe r => exact ⟨r, rfl⟩

/-- The same, from the comparison as a one-bit word. -/
theorem real_of_bit (x : Ideal .f32) (p : Prop) (inst : Decidable p) (hp : p → FloatOps.absf (F := Ideal) (φ := .f32) x < Ideal.ofBits .f32 2139095040#32)
    (h : BitVec.ofBool (@decide p inst) = 1#1) : ∃ r : ℝ, (x : EReal) = (r : EReal) := by
  refine real_of_abs x (hp ?_)
  by_contra hn
  rw [decide_eq_false hn] at h
  exact absurd h (by decide)

end Cert.Finite
-- ==== Proof.FfnClaim.lean ====
module

public import proofs.«01_k».proof.Proof.FfnValue
public import proofs.«01_k».proof.Proof.Finite
public import proofs.«01_k».proof.Proof.Gen.FfnReferenceIdeal.Run
public import proofs.«01_k».proof.Proof.Gen.Pre_finite_oc

public import proofs.«01_k».proof.Defs
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.Proof

/-- Under the precondition, every entry of the recurrence's output is a real number. -/
theorem oc_real (m : (ℓ : Loc Cert.FfnIdeal.nD Cert.FfnIdeal.τ Cert.FfnIdeal.sig) → Buf (Elt Ideal) ℓ) (h : Cert.Pre_FfnIdeal_finite_oc (hPre_finite_oc := Cert.Pre_finite_oc.Gen.facts) m) (c : Dev Cert.FfnIdeal.nD)
    (i : Cert.FfnIdeal.S16512x256.Idx) : ∃ r : ℝ, (m ((c.tc : Thread Cert.FfnIdeal.nD Cert.FfnIdeal.τ).loc Cert.FfnIdeal.main_arg3) : Cert.FfnIdeal.S16512x256.Idx → EReal) i = (r : EReal) := by
  have e := congrFun (h c) i
  idx_vars i
  revert e
  pointwise [Cert.Pre_finite_oc.fn]
  intro e
  exact Cert.Finite.real_of_bit _ _ _ id e

/-- The last layer's block agrees with its reference at every input whose recurrence output is finite. -/
theorem ffn_algebraic : Cert.algebraic_FfnIdeal_FfnReferenceIdeal_pre_finite_oc (hFfnIdeal := Cert.FfnIdeal.Gen.facts) (hFfnReferenceIdeal := Cert.FfnReferenceIdeal.Gen.facts) (hPre_finite_oc := Cert.Pre_finite_oc.Gen.facts) := by
  intro m g m' g' hpre hagree
  refine ⟨fun c => Cert.FfnReferenceIdeal.Read.val_main_v82 (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9)) (m ((c.tc : Thread Cert.FfnIdeal.nD Cert.FfnIdeal.τ).loc Cert.FfnIdeal.main_arg10)) (m ((c.tc : Thread Cert.FfnIdeal.nD Cert.FfnIdeal.τ).loc Cert.FfnIdeal.main_arg11)) (m ((c.tc : Thread Cert.FfnIdeal.nD Cert.FfnIdeal.τ).loc Cert.FfnIdeal.main_arg12)) (m ((c.tc : Thread Cert.FfnIdeal.nD Cert.FfnIdeal.τ).loc Cert.FfnIdeal.main_arg13)), ?_, ?_⟩
  · exact (θ_run _ _ _).mono (fun r h c => ⟨(h c).1.trans (Cert.FfnIdeal.Whole.final m c (oc_real m hpre c)), (h c).2⟩) (Cert.FfnIdeal.Value.run_blocks m g)
  · refine (θ_run _ _ _).mono (fun r h c => ⟨(h c).1.trans ((Cert.FfnReferenceIdeal.Read.val_main_v82_eq _).trans ?_), (h c).2⟩) (Cert.FfnReferenceIdeal.Value.run m' g')
    obtain ⟨e0, e1, e2, e3, e4, e5, e6, e7, e8, e9, e10, e11, e12, e13⟩ := hagree c
    show Cert.FfnReferenceIdeal.Read.val_main_v82 (F := Ideal) (m' ((c.tc : Thread Cert.FfnReferenceIdeal.nD Cert.FfnReferenceIdeal.τ).loc Cert.FfnReferenceIdeal.main_arg0)) (m' ((c.tc : Thread Cert.FfnReferenceIdeal.nD Cert.FfnReferenceIdeal.τ).loc Cert.FfnReferenceIdeal.main_arg1)) (m' ((c.tc : Thread Cert.FfnReferenceIdeal.nD Cert.FfnReferenceIdeal.τ).loc Cert.FfnReferenceIdeal.main_arg2)) (m' ((c.tc : Thread Cert.FfnReferenceIdeal.nD Cert.FfnReferenceIdeal.τ).loc Cert.FfnReferenceIdeal.main_arg3)) (m' ((c.tc : Thread Cert.FfnReferenceIdeal.nD Cert.FfnReferenceIdeal.τ).loc Cert.FfnReferenceIdeal.main_arg4)) (m' ((c.tc : Thread Cert.FfnReferenceIdeal.nD Cert.FfnReferenceIdeal.τ).loc Cert.FfnReferenceIdeal.main_arg5)) (m' ((c.tc : Thread Cert.FfnReferenceIdeal.nD Cert.FfnReferenceIdeal.τ).loc Cert.FfnReferenceIdeal.main_arg6)) (m' ((c.tc : Thread Cert.FfnReferenceIdeal.nD Cert.FfnReferenceIdeal.τ).loc Cert.FfnReferenceIdeal.main_arg7)) (m' ((c.tc : Thread Cert.FfnReferenceIdeal.nD Cert.FfnReferenceIdeal.τ).loc Cert.FfnReferenceIdeal.main_arg8)) (m' ((c.tc : Thread Cert.FfnReferenceIdeal.nD Cert.FfnReferenceIdeal.τ).loc Cert.FfnReferenceIdeal.main_arg9)) (m' ((c.tc : Thread Cert.FfnReferenceIdeal.nD Cert.FfnReferenceIdeal.τ).loc Cert.FfnReferenceIdeal.main_arg10)) (m' ((c.tc : Thread Cert.FfnReferenceIdeal.nD Cert.FfnReferenceIdeal.τ).loc Cert.FfnReferenceIdeal.main_arg11)) (m' ((c.tc : Thread Cert.FfnReferenceIdeal.nD Cert.FfnReferenceIdeal.τ).loc Cert.FfnReferenceIdeal.main_arg12)) (m' ((c.tc : Thread Cert.FfnReferenceIdeal.nD Cert.FfnReferenceIdeal.τ).loc Cert.FfnReferenceIdeal.main_arg13)) = _
    rw [e0, e1, e2, e3, e4, e5, e6, e7, e8, e9, e10, e11, e12, e13]

end Cert.Proof
-- ==== Proof.MidBody.lean ====
module

public import proofs.«01_k».proof.Proof.FfnRow
public import proofs.«01_k».proof.Proof.Gen.MidIdeal.Skeleton

@[expose] public section

set_option maxRecDepth 16384

noncomputable section

open Idealize.ShloMosaic Idealize.ShloMosaic.TcCoe Idealize.SL.Sem

namespace Cert.MidIdeal.Body

open Cert.MidIdeal Cert.MidIdeal.Gen Cert.FfnRow

/-- The four lane groups of the attention output, joined. -/
theorem pay1_at (x : FVec Ideal S4x384x128 .f32) (a b c d : FVec Ideal S1x384x128 .f32)
    (ha : ∀ i j, a (ix3 0 i j) = x (ix3 0 i j)) (hb : ∀ i j, b (ix3 0 i j) = x (ix3 1 i j))
    (hc : ∀ i j, c (ix3 0 i j) = x (ix3 2 i j)) (hd : ∀ i j, d (ix3 0 i j) = x (ix3 3 i j))
    (i : Fin 384) (j : Fin 512) :
    k0_pay1 (F := Ideal) a b c d (ix2 i j) = x (ix3 ⟨j.val / 128, by omega⟩ i ⟨j.val % 128, by omega⟩) := by
  pointwise [k0_pay1]
  by_cases h1 : j.val < 128
  · rw [dif_pos h1, ha]; congr 2 <;> (apply Fin.ext; simp only [Fin.val_zero, Fin.val_one, Fin.val_two]; omega)
  rw [dif_neg h1]
  by_cases h2 : j.val - 128 < 128
  · rw [dif_pos h2, hb]; congr 2 <;> (apply Fin.ext; simp only [Fin.val_zero, Fin.val_one, Fin.val_two]; omega)
  rw [dif_neg h2]
  by_cases h3 : j.val - 128 - 128 < 128
  · rw [dif_pos h3, hc]; congr 2 <;> (apply Fin.ext; simp only [Fin.val_zero, Fin.val_one, Fin.val_two]; omega)
  rw [dif_neg h3, hd]; congr 2 <;> (apply Fin.ext; simp only []; omega)

/-- The word of the head that a row of the block matrix belongs to. -/
theorem pay2_at (a b : Fin 256) : k0_pay2 (ix2 a b) = headWord (BitVec.ofNat 32 a.val) := by
  pointwise [k0_pay2]
  rfl

/-- The delta mixer's head norm, for finite rows: the remainder of a square after its leading part is 0. -/
theorem pay4_at (o : FVec Ideal S384x256 .f32) (g : FVec Ideal S1x256 .f32)  (i : Fin 384) (j : Fin 256)
    (ho : ∀ k : Fin 256, ∃ r : ℝ, o (ix2 i k) = (r : EReal)) :
    k0_pay4 (F := Ideal) o k0_pay2 (iota .tc S256x256 32 [1] iota_S256x256_d1_w32) 64#32 k0_pay3 g (ix2 i j)
      = o (ix2 i j) * Ideal.rsqrt (Ideal.div (∑ k : Fin 64, o (ix2 i ⟨64 * (j.val / 64) + k.val, by omega⟩) * o (ix2 i ⟨64 * (j.val / 64) + k.val, by omega⟩)) c64 + eps)
          * g (ix2 0 j) := by
  pointwise [k0_pay4, k0_pay3]
  have h0 : ∀ k : Fin 256, o (ix2 i k) * o (ix2 i k) - o (ix2 i k) * o (ix2 i k) = 0 := fun k => by
    obtain ⟨r, hr⟩ := ho k
    rw [hr, ← EReal.coe_mul, ← EReal.coe_sub, sub_self, EReal.coe_zero]
  simp only [h0, zero_mul, Finset.sum_const_zero, add_zero, pay2_at]
  rw [← mul_inv64]
  congr 5
  refine Eq.trans (Finset.sum_congr rfl fun x _ => congrArg (_ * ·) (headEntry x j)) ?_
  exact headSum (fun x => o (ix2 i x) * o (ix2 i x)) j

/-- The three mixers' rows side by side. -/
theorem pay6_at (a : FVec Ideal S384x512 .f32) (b c : FVec Ideal S384x256 .f32) (d : FVec Ideal S1x512 .f32) (e : FVec Ideal S384x256 .f32) (f : FVec Ideal S1x256 .f32) (i : Fin 384) (j : Fin 1024) :
    k0_pay6 (F := Ideal) a b c d e f (ix2 i j) =
      if h : j.val < 512 then rms c512 (fun k => a (ix2 i k)) (fun k => d (ix2 0 k)) ⟨j.val, h⟩
      else if h' : j.val - 512 < 256 then rms c256 (fun k => e (ix2 i k)) (fun k => f (ix2 0 k)) ⟨j.val - 512, h'⟩
      else b (ix2 i ⟨j.val - 512 - 256, by omega⟩) * silu (c (ix2 i ⟨j.val - 512 - 256, by omega⟩)) := by
  pointwise [k0_pay6]
  simp only [zero_sub]
  rfl

/-- The residual stream after the SwiGLU block, from the mixed row. -/
theorem pay7_at (x : FVec Ideal S384x1024 .f32) (mix : FVec Ideal S384x1024 .bf16) (wo : FVec Ideal S1024x1024 .bf16) (nf : FVec Ideal S1x1024 .f32)
    (wg wu : FVec Ideal S1024x2816 .bf16) (wd : FVec Ideal S2816x1024 .bf16) (i : Fin 384) (j : Fin 1024) :
    k0_pay7 (F := Ideal) (k0_pay5 x) mix wo nf wg wu wd (ix2 i j)
      = afterFfn (afterMix (fun k => x (ix2 i k)) (fun k => mix (ix2 i k)) (fun k l => wo (ix2 k l))) (fun k => nf (ix2 0 k))
          (fun k l => wg (ix2 k l)) (fun k l => wu (ix2 k l)) (fun k l => wd (ix2 k l)) j := by
  pointwise [k0_pay7, k0_pay5]
  simp only [zero_sub]
  rfl

/-- What one block stores, row by row, when the delta mixer's block is finite. -/
theorem block_at (x0 : FVec Ideal S384x1024 .f32) (x1 : FVec Ideal S4x384x128 .f32) (a b c d : FVec Ideal S1x384x128 .f32)
    (ha : ∀ i j, a (ix3 0 i j) = x1 (ix3 0 i j)) (hb : ∀ i j, b (ix3 0 i j) = x1 (ix3 1 i j))
    (hc : ∀ i j, c (ix3 0 i j) = x1 (ix3 2 i j)) (hd : ∀ i j, d (ix3 0 i j) = x1 (ix3 3 i j))
    (x2 x3 x4 : FVec Ideal S384x256 .f32) (x5 : FVec Ideal S1x512 .f32) (x6 x7 : FVec Ideal S1x256 .f32) (x8 : FVec Ideal S1024x1024 .bf16)
    (x9 : FVec Ideal S1x1024 .f32) (x10 x11 : FVec Ideal S1024x2816 .bf16) (x12 : FVec Ideal S2816x1024 .bf16)
    (gc : Fin 64 → EReal) (hgc : ∀ l : Fin 256, x7 (ix2 0 l) = gc ⟨l.val % 64, by omega⟩)
    (h3 : ∀ i k, ∃ r : ℝ, x3 (ix2 i k) = (r : EReal)) (i : Fin 384) (j : Fin 1024) :
    k0_pay7 (F := Ideal) (k0_pay5 x0) (k0_pay6 (k0_pay1 a b c d) (k0_pay4 x3 k0_pay2 (iota .tc S256x256 32 [1] iota_S256x256_d1_w32) 64#32 k0_pay3 x7)
        x4 x5 x2 x6) x8 x9 x10 x11 x12 (ix2 i j)
      = afterFfn (afterMix (fun k => x0 (ix2 i k)) (mixed (fun k => x1 (ix3 ⟨k.val / 128, by omega⟩ i ⟨k.val % 128, by omega⟩)) (fun k => x2 (ix2 i k))
          (fun k => x3 (ix2 i k)) (fun k => x4 (ix2 i k)) (fun k => x5 (ix2 0 k)) (fun k => x6 (ix2 0 k)) gc) (fun k l => x8 (ix2 k l)))
          (fun k => x9 (ix2 0 k)) (fun k l => x10 (ix2 k l)) (fun k l => x11 (ix2 k l)) (fun k l => x12 (ix2 k l)) j := by
  rw [pay7_at]
  simp only [pay6_at, pay1_at x1 a b c d ha hb hc hd, pay4_at x3 x7 i _ (h3 i), hgc]
  rfl

end Cert.MidIdeal.Body
-- ==== Proof.MidReference.lean ====
module

public import proofs.«01_k».proof.Proof.FfnReference
public import proofs.«01_k».proof.Proof.Gen.MidReferenceIdeal.Read

@[expose] public section

set_option maxRecDepth 16384

noncomputable section

open Idealize.ShloMosaic Idealize.ShloMosaic.TcCoe Idealize.SL.Sem

namespace Cert.MidReferenceIdeal.Rows

open Cert.MidReferenceIdeal Cert.MidReferenceIdeal.Read Cert.FfnRow
open Cert.FfnReferenceIdeal.Rows (row)

/-- The residual stream after the SwiGLU block is the one that the last layer's reference forms before its final norm. -/
theorem same (x0 : FVec Ideal S8x2064x1024 .f32) (x1 : FVec Ideal S4x16512x128 .f32) (x2 : FVec Ideal S16512x256 .f32) (x3 : FVec Ideal S16512x256 .f32) (x4 : FVec Ideal S16512x256 .f32) (x5 : FVec Ideal S512 .f32) (x6 : FVec Ideal S256 .f32) (x7 : FVec Ideal S64 .f32) (x8 : FVec Ideal S1024x1024 .f32) (x9 : FVec Ideal S1024 .f32) (x10 : FVec Ideal S1024x2816 .f32) (x11 : FVec Ideal S1024x2816 .f32) (x12 : FVec Ideal S2816x1024 .f32) :
    val_main_v68 (F := Ideal) x0 x1 x2 x3 x4 x5 x6 x7 x8 x9 x10 x11 x12 = Cert.FfnReferenceIdeal.Read.val_main_v68 (F := Ideal) x0 x1 x2 x3 x4 x5 x6 x7 x8 x9 x10 x11 x12 := rfl

/-- The reference's result, row by row. -/
theorem v69_at (x0 : FVec Ideal S8x2064x1024 .f32) (x1 : FVec Ideal S4x16512x128 .f32) (x2 : FVec Ideal S16512x256 .f32) (x3 : FVec Ideal S16512x256 .f32) (x4 : FVec Ideal S16512x256 .f32) (x5 : FVec Ideal S512 .f32) (x6 : FVec Ideal S256 .f32) (x7 : FVec Ideal S64 .f32) (x8 : FVec Ideal S1024x1024 .f32) (x9 : FVec Ideal S1024 .f32) (x10 : FVec Ideal S1024x2816 .f32) (x11 : FVec Ideal S1024x2816 .f32) (x12 : FVec Ideal S2816x1024 .f32) (r : Fin 16512) (j : Fin 1024) :
    val_main_v69 (F := Ideal) x0 x1 x2 x3 x4 x5 x6 x7 x8 x9 x10 x11 x12 (ix2 r j)
      = afterFfn (afterMix (fun k => x0 (ix3 ⟨r.val / 2064, by omega⟩ ⟨r.val % 2064, by omega⟩ k)) (mixed (fun k => x1 (ix3 ⟨k.val / 128, by omega⟩ r ⟨k.val % 128, by omega⟩)) (fun k => x2 (ix2 r k))
          (fun k => x3 (ix2 r k)) (fun k => x4 (ix2 r k)) (fun k => x5 (ix1 k)) (fun k => x6 (ix1 k)) (fun k => x7 (ix1 k))) (fun k l => x8 (ix2 k l)))
          (fun k => x9 (ix1 k)) (fun k l => x10 (ix2 k l)) (fun k l => x11 (ix2 k l)) (fun k l => x12 (ix2 k l)) j := by
  pointwise [val_main_v69]
  rw [same]
  have e : row ⟨r.val / 2064, by omega⟩ ⟨r.val % 2064, by omega⟩ = r := Fin.ext (by show r.val / 2064 * 2064 + r.val % 2064 = r.val; omega)
  refine (Cert.FfnReferenceIdeal.Rows.v68_at x0 x1 x2 x3 x4 x5 x6 x7 x8 x9 x10 x11 x12 ⟨r.val / 2064, by omega⟩ ⟨r.val % 2064, by omega⟩ j).trans ?_
  simp only [Cert.FfnReferenceIdeal.Rows.v49_at, e]

end Cert.MidReferenceIdeal.Rows
-- ==== Proof.MidValue.lean ====
module

public import proofs.«01_k».proof.Proof.MidBody
public import proofs.«01_k».proof.Proof.MidReference
public import proofs.«01_k».proof.Proof.Gen.MidIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MidIdeal.Whole

open Cert.MidIdeal Cert.MidIdeal.Gen Cert.FfnRow

variable (m : (ℓ : Loc nD τ sig) → Buf (Elt Ideal) ℓ)

/-- Which block of each window a grid point holds. -/
theorem idx : ∀ t : Fin cfg0.N, win0_0.index t = ![t.val, 0] ∧ win0_1.index t = ![0, t.val, 0] ∧ win0_2.index t = ![t.val, 0] ∧ win0_3.index t = ![t.val, 0] ∧ win0_4.index t = ![t.val, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0]
    ∧ win0_13.index t = ![0, 0] ∧ win0_14.index t = ![t.val, 0] ∧ t.val < 43 :=
  (by decide +kernel : ∀ t : Fin grid0.N, _)

/-- The row of the flattened batch that row `i` of a grid point's block is. -/
def gridRow (t : Fin cfg0.N) (i : Fin 384) : Fin 16512 := ⟨384 * t.val + i.val, by have := (idx t).2.2.2.2.2.2.2.2.2.2.2.2.2.2.2; omega⟩

/-- That row's number. -/
theorem gridRow_val (t : Fin cfg0.N) (i : Fin 384) : (gridRow t i).val = 384 * t.val + i.val := rfl

/-- The block of the residual stream, at an entry. -/
theorem blk0 (c : Dev nD) (t : Fin cfg0.N) (i : Fin 384) (k : Fin 1024) : (iblk m c 0 t (ix2 i k) : EReal) = m ((c.tc : Thread nD τ).loc main_arg0) (ix3 ⟨(gridRow t i).val / 2064, by omega⟩ ⟨(gridRow t i).val % 2064, by omega⟩ k) := by
  blk_simp [iblk, idx t]
  entry_read
  pointwise
  blk_ext [idx t, gridRow_val t]

/-- The block of the attention output, at an entry. -/
theorem blk1 (c : Dev nD) (t : Fin cfg0.N) (a : Fin 4) (i : Fin 384) (k : Fin 128) : (iblk m c 1 t (ix3 a i k) : EReal) = m ((c.tc : Thread nD τ).loc main_arg1) (ix3 a (gridRow t i) k) := by
  blk_simp [iblk, idx t]
  entry_read
  pointwise
  blk_ext [idx t, gridRow_val t]

/-- The block of the convolution output, at an entry. -/
theorem blk2 (c : Dev nD) (t : Fin cfg0.N) (i : Fin 384) (k : Fin 256) : (iblk m c 2 t (ix2 i k) : EReal) = m ((c.tc : Thread nD τ).loc main_arg2) (ix2 (gridRow t i) k) := by
  blk_simp [iblk, idx t]
  entry_read
  pointwise
  blk_ext [idx t, gridRow_val t]

/-- The block of the recurrence output, at an entry. -/
theorem blk3 (c : Dev nD) (t : Fin cfg0.N) (i : Fin 384) (k : Fin 256) : (iblk m c 3 t (ix2 i k) : EReal) = m ((c.tc : Thread nD τ).loc main_arg3) (ix2 (gridRow t i) k) := by
  blk_simp [iblk, idx t]
  entry_read
  pointwise
  blk_ext [idx t, gridRow_val t]

/-- The block of the recurrence gate, at an entry. -/
theorem blk4 (c : Dev nD) (t : Fin cfg0.N) (i : Fin 384) (k : Fin 256) : (iblk m c 4 t (ix2 i k) : EReal) = m ((c.tc : Thread nD τ).loc main_arg4) (ix2 (gridRow t i) k) := by
  blk_simp [iblk, idx t]
  entry_read
  pointwise
  blk_ext [idx t, gridRow_val t]

/-- The attention norm's weights, as staged. -/
theorem blk5 (c : Dev nD) (t : Fin cfg0.N) (k : Fin 512) : (iblk m c 5 t (ix2 0 k) : EReal) = m ((c.tc : Thread nD τ).loc main_arg5) (ix1 k) := by
  blk_simp [iblk, idx t]
  entry_read
  pointwise
  blk_ext [idx t, gridRow_val t]

/-- The convolution norm's weights, as staged. -/
theorem blk6 (c : Dev nD) (t : Fin cfg0.N) (k : Fin 256) : (iblk m c 6 t (ix2 0 k) : EReal) = m ((c.tc : Thread nD τ).loc main_arg6) (ix1 k) := by
  blk_simp [iblk, idx t]
  entry_read
  pointwise
  blk_ext [idx t, gridRow_val t]

/-- The head norm's weights, repeated for each of the four heads. -/
theorem blk7 (c : Dev nD) (t : Fin cfg0.N) (k : Fin 256) : (iblk m c 7 t (ix2 0 k) : EReal) = m ((c.tc : Thread nD τ).loc main_arg7) (ix1 ⟨k.val % 64, by omega⟩) := by
  blk_simp [iblk, idx t]
  entry_read
  pointwise
  blk_ext [idx t, gridRow_val t]

/-- The output projection, as staged. -/
theorem blk8 (c : Dev nD) (t : Fin cfg0.N) (k : Fin 1024) (l : Fin 1024) : (iblk m c 8 t (ix2 k l) : EReal) = m ((c.tc : Thread nD τ).loc main_arg8) (ix2 k l) := by
  blk_simp [iblk, idx t]
  entry_read
  pointwise
  blk_ext [idx t, gridRow_val t]

/-- The second norm's weights, as staged. -/
theorem blk9 (c : Dev nD) (t : Fin cfg0.N) (k : Fin 1024) : (iblk m c 9 t (ix2 0 k) : EReal) = m ((c.tc : Thread nD τ).loc main_arg9) (ix1 k) := by
  blk_simp [iblk, idx t]
  entry_read
  pointwise
  blk_ext [idx t, gridRow_val t]

/-- The gate projection, as staged. -/
theorem blk10 (c : Dev nD) (t : Fin cfg0.N) (k : Fin 1024) (l : Fin 2816) : (iblk m c 10 t (ix2 k l) : EReal) = m ((c.tc : Thread nD τ).loc main_arg10) (ix2 k l) := by
  blk_simp [iblk, idx t]
  entry_read
  pointwise
  blk_ext [idx t, gridRow_val t]

/-- The up projection, as staged. -/
theorem blk11 (c : Dev nD) (t : Fin cfg0.N) (k : Fin 1024) (l : Fin 2816) : (iblk m c 11 t (ix2 k l) : EReal) = m ((c.tc : Thread nD τ).loc main_arg11) (ix2 k l) := by
  blk_simp [iblk, idx t]
  entry_read
  pointwise
  blk_ext [idx t, gridRow_val t]

/-- The down projection, as staged. -/
theorem blk12 (c : Dev nD) (t : Fin cfg0.N) (k : Fin 2816) (l : Fin 1024) : (iblk m c 12 t (ix2 k l) : EReal) = m ((c.tc : Thread nD τ).loc main_arg12) (ix2 k l) := by
  blk_simp [iblk, idx t]
  entry_read
  pointwise
  blk_ext [idx t, gridRow_val t]

/-- The result array after the run is the reference's term over the kernel's argument arrays. -/
theorem final (c : Dev nD) (hoc : ∀ i, ∃ r : ℝ, (m ((c.tc : Thread nD τ).loc main_arg3) : S16512x256.Idx → EReal) i = (r : EReal)) :
    (dats m 0 c).arrAt 14 (cfgs 0).N = Cert.MidReferenceIdeal.Read.val_main_v69 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  refine (dats m 0 c).arrAt_eq_of_covers 14 _ (by decide +kernel) fun t _ y => ?_
  blk_simp
  rw [after0_14]
  frame_out
  idx_vars y
  have e : ((View.whole main_v13).slice (win0_14.rect t)).emb (ix2 y0 y1) = (ix2 (gridRow t y0) y1 : S16512x1024.Idx) := by
    blk_ext [idx t, gridRow_val t]
  rw [e, Cert.MidReferenceIdeal.Rows.v69_at]
  refine (Cert.MidIdeal.Body.block_at (iblk m c 0 t) (iblk m c 1 t) _ _ _ _ ?_ ?_ ?_ ?_ (iblk m c 2 t) (iblk m c 3 t) (iblk m c 4 t) (iblk m c 5 t) (iblk m c 6 t)
    (iblk m c 7 t) (iblk m c 8 t) (iblk m c 9 t) (iblk m c 10 t) (iblk m c 11 t) (iblk m c 12 t)
    (fun k => m ((c.tc : Thread nD τ).loc main_arg7) (ix1 k)) (fun l => blk7 m c t l) (fun i k => ?_) y0 y1).trans ?_
  iterate 4 (· intro i j; pointwise)
  · exact (blk3 m c t i k).symm ▸ hoc _
  simp only [blk0, blk1, blk2, blk3, blk4, blk5, blk6, blk8, blk9, blk10, blk11, blk12]

end Cert.MidIdeal.Whole
-- ==== Proof.MidClaim.lean ====
module

public import proofs.«01_k».proof.Proof.MidValue
public import proofs.«01_k».proof.Proof.Finite
public import proofs.«01_k».proof.Proof.Gen.MidReferenceIdeal.Run
public import proofs.«01_k».proof.Proof.Gen.Pre_finite_oc

public import proofs.«01_k».proof.Defs
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.Proof

/-- Under the precondition, every entry of the recurrence's output is a real number. -/
theorem mid_oc_real (m : (ℓ : Loc Cert.MidIdeal.nD Cert.MidIdeal.τ Cert.MidIdeal.sig) → Buf (Elt Ideal) ℓ) (h : Cert.Pre_MidIdeal_finite_oc (hPre_finite_oc := Cert.Pre_finite_oc.Gen.facts) m) (c : Dev Cert.MidIdeal.nD)
    (i : Cert.MidIdeal.S16512x256.Idx) : ∃ r : ℝ, (m ((c.tc : Thread Cert.MidIdeal.nD Cert.MidIdeal.τ).loc Cert.MidIdeal.main_arg3) : Cert.MidIdeal.S16512x256.Idx → EReal) i = (r : EReal) := by
  have e := congrFun (h c) i
  idx_vars i
  revert e
  pointwise [Cert.Pre_finite_oc.fn]
  intro e
  exact Cert.Finite.real_of_bit _ _ _ id e

/-- The block of the layers before the last agrees with its reference at every input whose recurrence output is finite. -/
theorem mid_algebraic : Cert.algebraic_MidIdeal_MidReferenceIdeal_pre_finite_oc (hMidIdeal := Cert.MidIdeal.Gen.facts) (hMidReferenceIdeal := Cert.MidReferenceIdeal.Gen.facts) (hPre_finite_oc := Cert.Pre_finite_oc.Gen.facts) := by
  intro m g m' g' hpre hagree
  refine ⟨fun c => Cert.MidReferenceIdeal.Read.val_main_v69 (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9)) (m ((c.tc : Thread Cert.MidIdeal.nD Cert.MidIdeal.τ).loc Cert.MidIdeal.main_arg10)) (m ((c.tc : Thread Cert.MidIdeal.nD Cert.MidIdeal.τ).loc Cert.MidIdeal.main_arg11)) (m ((c.tc : Thread Cert.MidIdeal.nD Cert.MidIdeal.τ).loc Cert.MidIdeal.main_arg12)), ?_, ?_⟩
  · exact (θ_run _ _ _).mono (fun r h c => ⟨(h c).1.trans (Cert.MidIdeal.Whole.final m c (mid_oc_real m hpre c)), (h c).2⟩) (Cert.MidIdeal.Value.run_blocks m g)
  · refine (θ_run _ _ _).mono (fun r h c => ⟨(h c).1.trans ((Cert.MidReferenceIdeal.Read.val_main_v69_eq _ _).trans ?_), (h c).2⟩) (Cert.MidReferenceIdeal.Value.run m' g')
    obtain ⟨e0, e1, e2, e3, e4, e5, e6, e7, e8, e9, e10, e11, e12, e13⟩ := hagree c
    show Cert.MidReferenceIdeal.Read.val_main_v69 (F := Ideal) (m' ((c.tc : Thread Cert.MidReferenceIdeal.nD Cert.MidReferenceIdeal.τ).loc Cert.MidReferenceIdeal.main_arg0)) (m' ((c.tc : Thread Cert.MidReferenceIdeal.nD Cert.MidReferenceIdeal.τ).loc Cert.MidReferenceIdeal.main_arg1)) (m' ((c.tc : Thread Cert.MidReferenceIdeal.nD Cert.MidReferenceIdeal.τ).loc Cert.MidReferenceIdeal.main_arg2)) (m' ((c.tc : Thread Cert.MidReferenceIdeal.nD Cert.MidReferenceIdeal.τ).loc Cert.MidReferenceIdeal.main_arg3)) (m' ((c.tc : Thread Cert.MidReferenceIdeal.nD Cert.MidReferenceIdeal.τ).loc Cert.MidReferenceIdeal.main_arg4)) (m' ((c.tc : Thread Cert.MidReferenceIdeal.nD Cert.MidReferenceIdeal.τ).loc Cert.MidReferenceIdeal.main_arg5)) (m' ((c.tc : Thread Cert.MidReferenceIdeal.nD Cert.MidReferenceIdeal.τ).loc Cert.MidReferenceIdeal.main_arg6)) (m' ((c.tc : Thread Cert.MidReferenceIdeal.nD Cert.MidReferenceIdeal.τ).loc Cert.MidReferenceIdeal.main_arg7)) (m' ((c.tc : Thread Cert.MidReferenceIdeal.nD Cert.MidReferenceIdeal.τ).loc Cert.MidReferenceIdeal.main_arg8)) (m' ((c.tc : Thread Cert.MidReferenceIdeal.nD Cert.MidReferenceIdeal.τ).loc Cert.MidReferenceIdeal.main_arg9)) (m' ((c.tc : Thread Cert.MidReferenceIdeal.nD Cert.MidReferenceIdeal.τ).loc Cert.MidReferenceIdeal.main_arg10)) (m' ((c.tc : Thread Cert.MidReferenceIdeal.nD Cert.MidReferenceIdeal.τ).loc Cert.MidReferenceIdeal.main_arg11)) (m' ((c.tc : Thread Cert.MidReferenceIdeal.nD Cert.MidReferenceIdeal.τ).loc Cert.MidReferenceIdeal.main_arg12)) = _
    rw [e0, e1, e2, e3, e4, e5, e6, e7, e8, e9, e10, e11, e12]

end Cert.Proof
-- ==== Proof.FoxSoft.lean ====
module

public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.FoxSoft

/-- The mean of `v` over the positions up to `t`, weighted by the exponentials of `a`. -/
def soft (a v : ℕ → ℝ) (t : ℕ) : ℝ := (∑ s ∈ Finset.range (t + 1), Real.exp (a s) * v s) / ∑ s ∈ Finset.range (t + 1), Real.exp (a s)

/-- The base-2 logarithm of e. -/
abbrev L2 : ℝ := (Real.log 2)⁻¹

/-- A score where the key's position does not lie after the query's, the mask elsewhere. -/
def masked (i x : ℕ) (s mk : EReal) : EReal := Scalar.select (IntOp.cmpi CmpIPredicate.sge (BitVec.ofNat 32 i) (BitVec.ofNat 32 x)) s mk

/-- The largest of finitely many scores. -/
def top {n : ℕ} (s : Fin n → EReal) : EReal := Finset.fold max (Ideal.ofBits FTy.f32 4286578688#32) s Finset.univ

/-- A row's weighted mean of values, the weights the powers of two of the scores less their largest. -/
def attA {n : ℕ} (sd vd : Fin n → EReal) : EReal :=
  (∑ x, Ideal.exp2 (sd x - top sd) * vd x) * Ideal.div 1 (∑ x, Ideal.exp2 (sd x - top sd))

/-- The same over two lists of positions with one common largest score. -/
def attB {n k : ℕ} (sd vd : Fin n → EReal) (sf vf : Fin k → EReal) : EReal :=
  (∑ x, Ideal.exp2 (sd x - max (top sd) (top sf)) * vd x + ∑ x, Ideal.exp2 (sf x - max (top sd) (top sf)) * vf x)
    * Ideal.div 1 (∑ x, Ideal.exp2 (sd x - max (top sd) (top sf)) + ∑ x, Ideal.exp2 (sf x - max (top sd) (top sf)))

/-- The comparison of two small positions as words is their comparison as numbers. -/
theorem masked_eq (i x : ℕ) (hi : i < 4096) (hx : x < 4096) (s mk : EReal) : masked i x s mk = if x ≤ i then s else mk := by
  unfold masked
  have e : IntOp.cmpi CmpIPredicate.sge (BitVec.ofNat 32 i) (BitVec.ofNat 32 x) = if x ≤ i then 1#1 else 0#1 := by
    word_cmp
    by_cases h : x ≤ i <;> simp [h]
  rw [e]
  split_ifs <;> rfl

/-- A finite sum of reals, in the extended reals. -/
theorem coe_sum {ι : Type} (s : Finset ι) (f : ι → ℝ) : ∑ x ∈ s, ((f x : ℝ) : EReal) = ((∑ x ∈ s, f x : ℝ) : EReal) := by
  classical
  induction s using Finset.induction_on with
  | empty => simp
  | insert a s ha ih => rw [Finset.sum_insert ha, Finset.sum_insert ha, ih, EReal.coe_add]

/-- A sum over positions of terms that vanish after `i` is the sum over the positions up to `i`. -/
theorem sum_upto (n i : ℕ) (hi : i < n) (f : ℕ → ℝ) :
    (∑ x : Fin n, if x.val ≤ i then ((f x.val : ℝ) : EReal) else 0) = ((∑ s ∈ Finset.range (i + 1), f s : ℝ) : EReal) := by
  rw [← coe_sum, ← Finset.sum_range (fun x => if x ≤ i then ((f x : ℝ) : EReal) else 0), ← Finset.sum_filter]
  refine Finset.sum_congr ?_ fun _ _ => rfl
  ext s
  simp only [Finset.mem_filter, Finset.mem_range]
  omega

/-- A sum of real terms over positions. -/
theorem sum_all (n : ℕ) (f : ℕ → ℝ) : (∑ x : Fin n, ((f x.val : ℝ) : EReal)) = ((∑ s ∈ Finset.range n, f s : ℝ) : EReal) := by
  rw [← coe_sum, ← Finset.sum_range (fun x => ((f x : ℝ) : EReal))]

/-- A sum over a window of a longer list. -/
theorem sum_window (N o n : ℕ) (h : o + n ≤ N) (x : Fin N → EReal) :
    (∑ l : Fin N, if o ≤ l.val ∧ l.val < o + n then x l else 0) = ∑ d : Fin n, x ⟨o + d.val, by omega⟩ := by
  rw [← Finset.sum_filter]
  symm
  refine Finset.sum_bij (fun d _ => ⟨o + d.val, by omega⟩) (fun d _ => ?_) (fun a _ b _ e => ?_) (fun l hl => ?_) (fun _ _ => rfl)
  · simp
  · have := congrArg Fin.val e
    simp only at this
    exact Fin.ext (by omega)
  · simp only [Finset.mem_filter, Finset.mem_univ, true_and] at hl
    exact ⟨⟨l.val - o, by omega⟩, Finset.mem_univ _, Fin.ext (by simp only; omega)⟩

/-- The pattern of negative infinity. -/
theorem ninf : (Ideal.ofBits FTy.f32 4286578688#32 : EReal) = ⊥ := by simp [Ideal.ofBits, Ideal.ieee]

/-- The largest of finitely many scores, none of them positive infinity, is not. -/
theorem top_lt {n : ℕ} (s : Fin n → EReal) (h : ∀ x, s x < ⊤) : top s < ⊤ := by
  unfold top
  rw [ninf, Finset.fold_max_lt]
  exact ⟨bot_lt_top, fun x _ => h x⟩

/-- Every score is at most the largest. -/
theorem le_top {n : ℕ} (s : Fin n → EReal) (x : Fin n) : s x ≤ top s := by
  unfold top
  rw [Finset.le_fold_max]
  exact Or.inr ⟨x, Finset.mem_univ x, _root_.le_refl _⟩

/-- An extended real between a real and positive infinity is real. -/
theorem real_of_between (x : EReal) (r : ℝ) (h0 : (r : EReal) ≤ x) (h1 : x < ⊤) : ∃ M : ℝ, x = (M : EReal) := by
  induction x using EReal.rec with
  | bot => exact absurd h0 (by simp)
  | top => exact absurd h1 (by simp)
  | coe M => exact ⟨M, rfl⟩

/-- The power of two of a scaled score less a real is the score's exponential times a constant. -/
theorem exp2_real (a M : ℝ) : Ideal.exp2 (((a * L2 : ℝ) : EReal) - (M : EReal)) = ((Real.exp a * Real.exp (-(M * Real.log 2)) : ℝ) : EReal) := by
  rw [← EReal.coe_sub]
  show (((2 : ℝ) ^ (a * L2 - M) : ℝ) : EReal) = _
  congr 1
  rw [Real.rpow_def_of_pos (by norm_num), ← Real.exp_add]
  congr 1
  have h : Real.log 2 ≠ 0 := by positivity
  field_simp
  ring

/-- The power of two of negative infinity less a real is zero. -/
theorem exp2_bot (M : ℝ) : Ideal.exp2 ((⊥ : EReal) - (M : EReal)) = 0 := by
  rw [sub_eq_add_neg, EReal.bot_add]
  rfl

/-- The weighted mean of a causal row, its diagonal block alone. -/
theorem attA_eq {n : ℕ} (sd vd : Fin n → EReal) (a v : ℕ → ℝ) (i : ℕ) (hi : i < n)
    (hs : ∀ x, sd x = if x.val ≤ i then ((a x.val * L2 : ℝ) : EReal) else ⊥) (hv : ∀ x, vd x = ((v x.val : ℝ) : EReal)) :
    attA sd vd = ((soft a v i : ℝ) : EReal) := by
  obtain ⟨M, hM⟩ : ∃ M : ℝ, top sd = (M : EReal) := by
    refine real_of_between _ (a i * L2) ?_ (top_lt sd fun x => ?_)
    · refine (_root_.le_of_eq ?_).trans (le_top sd ⟨i, hi⟩)
      rw [hs, if_pos (_root_.le_refl i)]
    · rw [hs]; split_ifs
      · exact EReal.coe_lt_top _
      · exact bot_lt_top
  have he : ∀ x, Ideal.exp2 (sd x - top sd) = if x.val ≤ i then ((Real.exp (a x.val) * Real.exp (-(M * Real.log 2)) : ℝ) : EReal) else 0 := by
    intro x
    rw [hM, hs]
    split_ifs
    · exact exp2_real _ _
    · exact exp2_bot _
  unfold attA
  simp only [he, hv, ite_mul, zero_mul, ← EReal.coe_mul]
  rw [sum_upto n i hi (fun x => Real.exp (a x) * Real.exp (-(M * Real.log 2)) * v x), sum_upto n i hi (fun x => Real.exp (a x) * Real.exp (-(M * Real.log 2)))]
  have hw : 0 < Real.exp (-(M * Real.log 2)) := Real.exp_pos _
  have hp : 0 < ∑ s ∈ Finset.range (i + 1), Real.exp (a s) := Finset.sum_pos (fun _ _ => Real.exp_pos _) ⟨i, by simp⟩
  have e1 : ∑ s ∈ Finset.range (i + 1), Real.exp (a s) * Real.exp (-(M * Real.log 2)) = (∑ s ∈ Finset.range (i + 1), Real.exp (a s)) * Real.exp (-(M * Real.log 2)) := by rw [Finset.sum_mul]
  have e2 : ∑ s ∈ Finset.range (i + 1), Real.exp (a s) * Real.exp (-(M * Real.log 2)) * v s = (∑ s ∈ Finset.range (i + 1), Real.exp (a s) * v s) * Real.exp (-(M * Real.log 2)) := by
    rw [Finset.sum_mul]; exact Finset.sum_congr rfl fun _ _ => by ring
  rw [e1, e2, Ideal.div_coe (mul_pos hp hw).ne', one_mul, ← EReal.coe_mul]
  congr 1
  unfold soft
  field_simp

/-- The weighted mean of a causal row: its diagonal block from position `r` on and all the positions before it. -/
theorem attB_eq {n r : ℕ} (sd vd : Fin n → EReal) (sf vf : Fin r → EReal) (a v : ℕ → ℝ) (i : ℕ) (hi : i < n)
    (hs : ∀ x, sd x = if x.val ≤ i then ((a (r + x.val) * L2 : ℝ) : EReal) else ⊥) (hv : ∀ x, vd x = ((v (r + x.val) : ℝ) : EReal))
    (hsf : ∀ x, sf x = ((a x.val * L2 : ℝ) : EReal)) (hvf : ∀ x, vf x = ((v x.val : ℝ) : EReal)) :
    attB sd vd sf vf = ((soft a v (r + i) : ℝ) : EReal) := by
  obtain ⟨M, hM⟩ : ∃ M : ℝ, max (top sd) (top sf) = (M : EReal) := by
    refine real_of_between _ (a (r + i) * L2) ?_ (max_lt (top_lt sd fun x => ?_) (top_lt sf fun x => ?_))
    · refine ((_root_.le_of_eq ?_).trans (le_top sd ⟨i, hi⟩)).trans (le_max_left _ _)
      rw [hs, if_pos (_root_.le_refl i)]
    · rw [hs]; split_ifs
      · exact EReal.coe_lt_top _
      · exact bot_lt_top
    · rw [hsf]; exact EReal.coe_lt_top _
  have he : ∀ x, Ideal.exp2 (sd x - max (top sd) (top sf)) = if x.val ≤ i then ((Real.exp (a (r + x.val)) * Real.exp (-(M * Real.log 2)) : ℝ) : EReal) else 0 := by
    intro x
    rw [hM, hs]
    split_ifs
    · exact exp2_real _ _
    · exact exp2_bot _
  have hf : ∀ x, Ideal.exp2 (sf x - max (top sd) (top sf)) = ((Real.exp (a x.val) * Real.exp (-(M * Real.log 2)) : ℝ) : EReal) := by
    intro x
    rw [hM, hsf]
    exact exp2_real _ _
  unfold attB
  simp only [he, hf, hv, hvf, ite_mul, zero_mul, ← EReal.coe_mul]
  rw [sum_upto n i hi (fun x => Real.exp (a (r + x)) * Real.exp (-(M * Real.log 2)) * v (r + x)), sum_upto n i hi (fun x => Real.exp (a (r + x)) * Real.exp (-(M * Real.log 2))),
    sum_all r (fun x => Real.exp (a x) * Real.exp (-(M * Real.log 2)) * v x), sum_all r (fun x => Real.exp (a x) * Real.exp (-(M * Real.log 2))), ← EReal.coe_add, ← EReal.coe_add]
  have hw : 0 < Real.exp (-(M * Real.log 2)) := Real.exp_pos _
  have hp : 0 < ∑ s ∈ Finset.range (r + (i + 1)), Real.exp (a s) := Finset.sum_pos (fun _ _ => Real.exp_pos _) ⟨i, by simp only [Finset.mem_range]; omega⟩
  have e1 : ∑ s ∈ Finset.range (i + 1), Real.exp (a (r + s)) * Real.exp (-(M * Real.log 2)) + ∑ s ∈ Finset.range r, Real.exp (a s) * Real.exp (-(M * Real.log 2))
      = (∑ s ∈ Finset.range (r + (i + 1)), Real.exp (a s)) * Real.exp (-(M * Real.log 2)) := by
    rw [Finset.sum_range_add (fun s => Real.exp (a s)) r (i + 1), add_mul, Finset.sum_mul, Finset.sum_mul, add_comm]
  have e2 : ∑ s ∈ Finset.range (i + 1), Real.exp (a (r + s)) * Real.exp (-(M * Real.log 2)) * v (r + s) + ∑ s ∈ Finset.range r, Real.exp (a s) * Real.exp (-(M * Real.log 2)) * v s
      = (∑ s ∈ Finset.range (r + (i + 1)), Real.exp (a s) * v s) * Real.exp (-(M * Real.log 2)) := by
    rw [Finset.sum_range_add (fun s => Real.exp (a s) * v s) r (i + 1), add_mul, Finset.sum_mul, Finset.sum_mul, add_comm]
    exact congrArg₂ (· + ·) (Finset.sum_congr rfl fun _ _ => by ring) (Finset.sum_congr rfl fun _ _ => by ring)
  rw [e1, e2, Ideal.div_coe (mul_pos hp hw).ne', one_mul, ← EReal.coe_mul]
  congr 1
  unfold soft
  rw [show r + i + 1 = r + (i + 1) from rfl]
  field_simp

/-- A head's score over its lanes (the first half of 128) and its gate lanes (the first six). -/
def sc0 (q k qa ka : Fin 128 → EReal) : EReal :=
  (∑ l : Fin 128, Scalar.select (IntOp.cmpi CmpIPredicate.slt (BitVec.ofNat 32 l.val) 64#32) (q l * k l) 0)
    + ∑ l : Fin 128, Scalar.select (IntOp.cmpi CmpIPredicate.slt (BitVec.ofNat 32 l.val) 6#32) (qa l * ka l) 0

/-- The other head's, over the second half and the next six gate lanes. -/
def sc1 (q k qa ka : Fin 128 → EReal) : EReal :=
  (∑ l : Fin 128, Scalar.select (IntOp.xori (IntOp.cmpi CmpIPredicate.slt (BitVec.ofNat 32 l.val) 64#32) 1#1) (q l * k l) 0)
    + ∑ l : Fin 128, Scalar.select (IntOp.andi (IntOp.cmpi CmpIPredicate.sge (BitVec.ofNat 32 l.val) 6#32) (IntOp.cmpi CmpIPredicate.slt (BitVec.ofNat 32 l.val) 12#32)) (qa l * ka l) 0

/-- What a query's gate lanes hold: the running sum in each head's first lane, ones in its last three. -/
def laneQ (c0 c1 : ℝ) (l : ℕ) : ℝ := if l = 0 then c0 * L2 else if l = 6 then c1 * L2 else if l % 6 < 3 then 0 else 1

/-- What a key's gate lanes hold: ones in each head's first three lanes, the negated running sum in its fourth. -/
def laneK (c0 c1 : ℝ) (l : ℕ) : ℝ := if l = 3 then -(c0 * L2) else if l = 9 then -(c1 * L2) else if l % 6 < 3 then 1 else 0

/-- A head's score is its queries' and keys' product, scaled, and the difference of the running sums, all in base two. -/
theorem sc0_eq (q k qa ka : Fin 128 → EReal) (qr kr : Fin 64 → ℝ) (c0 c1 d0 d1 : ℝ)
    (hq : ∀ d : Fin 64, q ⟨d.val, by omega⟩ = (qr d : EReal) * ((8⁻¹ * L2 : ℝ) : EReal)) (hk : ∀ d : Fin 64, k ⟨d.val, by omega⟩ = (kr d : EReal))
    (hqa : ∀ l : Fin 128, l.val < 12 → qa l = ((laneQ c0 c1 l.val : ℝ) : EReal)) (hka : ∀ l : Fin 128, l.val < 12 → ka l = ((laneK d0 d1 l.val : ℝ) : EReal)) :
    sc0 q k qa ka = ((((∑ d, qr d * kr d) * 8⁻¹ + c0 - d0) * L2 : ℝ) : EReal) := by
  have w0 : ∀ (l : Fin 128) (x : EReal), Scalar.select (IntOp.cmpi CmpIPredicate.slt (BitVec.ofNat 32 l.val) 64#32) x 0 = if 0 ≤ l.val ∧ l.val < 0 + 64 then x else 0 := by
    intro l x
    have e : ∀ l : Fin 128, IntOp.cmpi CmpIPredicate.slt (BitVec.ofNat 32 l.val) 64#32 = if 0 ≤ l.val ∧ l.val < 0 + 64 then 1#1 else 0#1 := by decide +kernel
    rw [e]; split_ifs <;> rfl
  have w1 : ∀ (l : Fin 128) (x : EReal), Scalar.select (IntOp.cmpi CmpIPredicate.slt (BitVec.ofNat 32 l.val) 6#32) x 0 = if 0 ≤ l.val ∧ l.val < 0 + 6 then x else 0 := by
    intro l x
    have e : ∀ l : Fin 128, IntOp.cmpi CmpIPredicate.slt (BitVec.ofNat 32 l.val) 6#32 = if 0 ≤ l.val ∧ l.val < 0 + 6 then 1#1 else 0#1 := by decide +kernel
    rw [e]; split_ifs <;> rfl
  unfold sc0
  simp only [w0, w1]
  rw [sum_window 128 0 64 (by norm_num), sum_window 128 0 6 (by norm_num)]
  have e0 : (∑ d : Fin 64, q ⟨0 + d.val, by omega⟩ * k ⟨0 + d.val, by omega⟩) = (((∑ d, qr d * kr d) * (8⁻¹ * L2) : ℝ) : EReal) := by
    rw [Finset.sum_mul, ← coe_sum]
    refine Finset.sum_congr rfl fun d _ => ?_
    have e : (⟨0 + d.val, by omega⟩ : Fin 128) = ⟨d.val, by omega⟩ := Fin.ext (by simp)
    rw [e, hq, hk, ← EReal.coe_mul, ← EReal.coe_mul]
    congr 1
    ring
  have e1 : (∑ d : Fin 6, qa ⟨0 + d.val, by omega⟩ * ka ⟨0 + d.val, by omega⟩) = (((c0 - d0) * L2 : ℝ) : EReal) := by
    have e : ∀ d : Fin 6, qa ⟨0 + d.val, by omega⟩ * ka ⟨0 + d.val, by omega⟩ = ((laneQ c0 c1 d.val * laneK d0 d1 d.val : ℝ) : EReal) := by
      intro d
      rw [hqa _ (by simp only; omega), hka _ (by simp only; omega), ← EReal.coe_mul]
      simp only [zero_add]
    simp only [e]
    rw [coe_sum]
    congr 1
    rw [Fin.sum_univ_six]
    simp [laneQ, laneK]
    ring
  rw [e0, e1, ← EReal.coe_add]
  congr 1
  ring

/-- The other head's score. -/
theorem sc1_eq (q k qa ka : Fin 128 → EReal) (qr kr : Fin 64 → ℝ) (c0 c1 d0 d1 : ℝ)
    (hq : ∀ d : Fin 64, q ⟨64 + d.val, by omega⟩ = (qr d : EReal) * ((8⁻¹ * L2 : ℝ) : EReal)) (hk : ∀ d : Fin 64, k ⟨64 + d.val, by omega⟩ = (kr d : EReal))
    (hqa : ∀ l : Fin 128, l.val < 12 → qa l = ((laneQ c0 c1 l.val : ℝ) : EReal)) (hka : ∀ l : Fin 128, l.val < 12 → ka l = ((laneK d0 d1 l.val : ℝ) : EReal)) :
    sc1 q k qa ka = ((((∑ d, qr d * kr d) * 8⁻¹ + c1 - d1) * L2 : ℝ) : EReal) := by
  have w0 : ∀ (l : Fin 128) (x : EReal), Scalar.select (IntOp.xori (IntOp.cmpi CmpIPredicate.slt (BitVec.ofNat 32 l.val) 64#32) 1#1) x 0 = if 64 ≤ l.val ∧ l.val < 64 + 64 then x else 0 := by
    intro l x
    have e : ∀ l : Fin 128, IntOp.xori (IntOp.cmpi CmpIPredicate.slt (BitVec.ofNat 32 l.val) 64#32) 1#1 = if 64 ≤ l.val ∧ l.val < 64 + 64 then 1#1 else 0#1 := by decide +kernel
    rw [e]; split_ifs <;> rfl
  have w1 : ∀ (l : Fin 128) (x : EReal), Scalar.select (IntOp.andi (IntOp.cmpi CmpIPredicate.sge (BitVec.ofNat 32 l.val) 6#32) (IntOp.cmpi CmpIPredicate.slt (BitVec.ofNat 32 l.val) 12#32)) x 0 = if 6 ≤ l.val ∧ l.val < 6 + 6 then x else 0 := by
    intro l x
    have e : ∀ l : Fin 128, IntOp.andi (IntOp.cmpi CmpIPredicate.sge (BitVec.ofNat 32 l.val) 6#32) (IntOp.cmpi CmpIPredicate.slt (BitVec.ofNat 32 l.val) 12#32) = if 6 ≤ l.val ∧ l.val < 6 + 6 then 1#1 else 0#1 := by decide +kernel
    rw [e]; split_ifs <;> rfl
  unfold sc1
  simp only [w0, w1]
  rw [sum_window 128 64 64 (by norm_num), sum_window 128 6 6 (by norm_num)]
  have e0 : (∑ d : Fin 64, q ⟨64 + d.val, by omega⟩ * k ⟨64 + d.val, by omega⟩) = (((∑ d, qr d * kr d) * (8⁻¹ * L2) : ℝ) : EReal) := by
    rw [Finset.sum_mul, ← coe_sum]
    refine Finset.sum_congr rfl fun d _ => ?_
    rw [hq, hk, ← EReal.coe_mul, ← EReal.coe_mul]
    congr 1
    ring
  have e1 : (∑ d : Fin 6, qa ⟨6 + d.val, by omega⟩ * ka ⟨6 + d.val, by omega⟩) = (((c1 - d1) * L2 : ℝ) : EReal) := by
    have e : ∀ d : Fin 6, qa ⟨6 + d.val, by omega⟩ * ka ⟨6 + d.val, by omega⟩ = ((laneQ c0 c1 (6 + d.val) * laneK d0 d1 (6 + d.val) : ℝ) : EReal) := by
      intro d
      rw [hqa _ (by simp only; omega), hka _ (by simp only; omega), ← EReal.coe_mul]
    simp only [e]
    rw [coe_sum]
    congr 1
    rw [Fin.sum_univ_six]
    simp [laneQ, laneK]
    ring
  rw [e0, e1, ← EReal.coe_add]
  congr 1
  ring

end Cert.FoxSoft
-- ==== Proof.FoxAug.lean ====
module

public import proofs.«01_k».proof.Proof.Gen.KernelIdeal.Frame
public import proofs.«01_k».proof.Proof.FoxSoft
public import Idealize.ShloMosaic.Lib.Pointwise

@[expose] public section

set_option maxRecDepth 16384

noncomputable section

open Idealize.ShloMosaic Idealize.ShloMosaic.TcCoe Idealize.SL.Sem

namespace Cert.KernelIdeal.Whole

open Cert.KernelIdeal Cert.KernelIdeal.Gen Cert.FoxSoft

/-- A one-or-zero word, as a float. -/
theorem bitF (w : BitVec 32) (b : Bool) (h : w = if b then 1#32 else 0#32) : (FloatOps.sitofp (F := Ideal) FTy.f32 w : EReal) = if b then 1 else 0 := by
  subst h
  cases b
  · show ((((0#32 : BitVec 32).toInt : ℝ)) : EReal) = 0
    norm_num
  · show ((((1#32 : BitVec 32).toInt : ℝ)) : EReal) = 1
    norm_num

/-- A sum against a column that selects one row (or none) picks that row. -/
theorem pick (p : Fin 128 → EReal) (s : ℕ) (hs : s < 128) (c : Prop) [Decidable c] :
    (∑ x : Fin 128, p x * (if decide (x.val = s ∧ c) then 1 else 0 : EReal)) = if c then p ⟨s, hs⟩ else 0 := by
  by_cases hc : c
  · rw [if_pos hc, Finset.sum_eq_single ⟨s, hs⟩]
    · simp [hc]
    · intro x _ hx
      have : x.val ≠ s := fun e => hx (Fin.ext e)
      simp [this]
    · simp
  · simp [hc]

/-- The three parts of a real running sum laid out lane by lane: the sum itself in a head's first lane, nothing in its other two. -/
theorem parts_at (v : FVec Ideal S2064x128 .f32) (i : Fin 2064) (l : Fin 24) (r : ℝ) (hr : (v (ix2 i ⟨l.val / 3, by omega⟩) : EReal) = (r : EReal)) :
    (k1_pay39 v (ix2 i ⟨l.val, by omega⟩) : EReal) = ((if l.val % 3 = 0 then r else 0 : ℝ) : EReal) := by
  have e : (k1_pay39 v (ix2 i ⟨l.val, by omega⟩) : EReal) = ((∑ x : Fin 128, (v (ix2 i x) : EReal) * (if decide (x.val = l.val / 3 ∧ l.val % 3 = 0) then 1 else 0))
      + ∑ x : Fin 128, ((v (ix2 i x) : EReal) - v (ix2 i x)) * (if decide (x.val = l.val / 3 ∧ l.val % 3 = 1) then 1 else 0))
      + ∑ x : Fin 128, (((v (ix2 i x) : EReal) - v (ix2 i x)) - ((v (ix2 i x) : EReal) - v (ix2 i x))) * (if decide (x.val = l.val / 3 ∧ l.val % 3 = 2) then 1 else 0) := by
    clear hr
    pointwise [k1_pay39]
    refine congrArg₂ (· + ·) (congrArg₂ (· + ·) (Finset.sum_congr rfl fun x _ => congrArg (_ * ·) (bitF _ _ ?_)) (Finset.sum_congr rfl fun x _ => congrArg (_ * ·) (bitF _ _ ?_)))
      (Finset.sum_congr rfl fun x _ => congrArg (_ * ·) (bitF _ _ ?_))
    · revert x l; decide +kernel
    · revert x l; decide +kernel
    · revert x l; decide +kernel
  have hl : l.val < 24 := l.isLt
  rw [e, pick (fun x => (v (ix2 i x) : EReal)) _ (by omega), pick (fun x => (v (ix2 i x) : EReal) - v (ix2 i x)) _ (by omega),
    pick (fun x => ((v (ix2 i x) : EReal) - v (ix2 i x)) - ((v (ix2 i x) : EReal) - v (ix2 i x))) _ (by omega)]
  simp only [hr, ← EReal.coe_sub, sub_self]
  rcases (by omega : l.val % 3 = 0 ∨ l.val % 3 = 1 ∨ l.val % 3 = 2) with h | h | h <;> simp [h]

/-- The queries' gate lanes of head pair 0. -/
theorem laneq0_at (p3 : FVec Ideal S2064x128 .bf16) (i : Fin 2064) (l : Fin 12) :
    ((k1_pay47 p3 k1_pay40 (k1_pay43 (iota .tc S128x128 32 [0] iota_S128x128_d0_w32) (iota .tc S128x128 32 [1] iota_S128x128_d1_w32) (k1_pay41 (iota .tc S128x128 32 [1] iota_S128x128_d1_w32)) (k1_pay42 (iota .tc S128x128 32 [1] iota_S128x128_d1_w32)) 1#32) (k1_pay44 (iota .tc S128x128 32 [1] iota_S128x128_d1_w32)) (k1_pay45 (iota .tc S128x128 32 [1] iota_S128x128_d1_w32)) : FVec Ideal S1x2064x128 .bf16) (ix3 0 i ⟨l.val, by omega⟩) : EReal) = (if l.val % 6 < 3 then (p3 (ix2 i ⟨0 + (l.val / 6) * 3 + l.val % 3, by omega⟩) : EReal) else 1) := by
  have e : ((k1_pay47 p3 k1_pay40 (k1_pay43 (iota .tc S128x128 32 [0] iota_S128x128_d0_w32) (iota .tc S128x128 32 [1] iota_S128x128_d1_w32) (k1_pay41 (iota .tc S128x128 32 [1] iota_S128x128_d1_w32)) (k1_pay42 (iota .tc S128x128 32 [1] iota_S128x128_d1_w32)) 1#32) (k1_pay44 (iota .tc S128x128 32 [1] iota_S128x128_d1_w32)) (k1_pay45 (iota .tc S128x128 32 [1] iota_S128x128_d1_w32)) : FVec Ideal S1x2064x128 .bf16) (ix3 0 i ⟨l.val, by omega⟩) : EReal) = (∑ x : Fin 128, p3 (ix2 i x) * (if decide (x.val = 0 + (l.val / 6) * 3 + l.val % 3 ∧ (l.val / 3 = 0 ∨ l.val / 3 = 2)) then 1 else 0) : EReal) + (if decide (l.val / 3 = 1 ∨ l.val / 3 = 3) then 1 else 0) := by
    pointwise [k1_pay1, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77]
    refine congrArg₂ (· + ·) (Finset.sum_congr rfl fun x _ => congrArg (p3 (ix2 i x) * ·) (bitF _ _ ?_)) (bitF _ _ ?_)
    · revert x l; decide +kernel
    · revert l; decide +kernel
  have hl : l.val < 12 := l.isLt
  rw [e, pick (fun x => p3 (ix2 i x)) _ (by omega)]
  by_cases h : l.val % 6 < 3
  · have a : (l.val / 3 = 0 ∨ l.val / 3 = 2) := by omega
    have b : ¬ (l.val / 3 = 1 ∨ l.val / 3 = 3) := by omega
    rw [if_pos h, if_pos a, decide_eq_false b]
    simp only [Bool.false_eq_true, if_false, add_zero]
  · have a : ¬ (l.val / 3 = 0 ∨ l.val / 3 = 2) := by omega
    have b : (l.val / 3 = 1 ∨ l.val / 3 = 3) := by omega
    rw [if_neg h, if_neg a, decide_eq_true b]
    simp only [if_true, zero_add]

/-- The keys' gate lanes of head pair 0. -/
theorem lanek0_at (p3 : FVec Ideal S2064x128 .bf16) (i : Fin 2064) (l : Fin 12) :
    ((k1_pay49 (k1_pay48 p3 k1_pay40 (k1_pay43 (iota .tc S128x128 32 [0] iota_S128x128_d0_w32) (iota .tc S128x128 32 [1] iota_S128x128_d1_w32) (k1_pay41 (iota .tc S128x128 32 [1] iota_S128x128_d1_w32)) (k1_pay42 (iota .tc S128x128 32 [1] iota_S128x128_d1_w32)) 1#32) (k1_pay44 (iota .tc S128x128 32 [1] iota_S128x128_d1_w32)) (k1_pay45 (iota .tc S128x128 32 [1] iota_S128x128_d1_w32))) : FVec Ideal S1x2064x128 .bf16) (ix3 0 i ⟨l.val, by omega⟩) : EReal) = (if l.val % 6 < 3 then 1 else 0 - (p3 (ix2 i ⟨0 + (l.val / 6) * 3 + l.val % 3, by omega⟩) : EReal)) := by
  have e : ((k1_pay49 (k1_pay48 p3 k1_pay40 (k1_pay43 (iota .tc S128x128 32 [0] iota_S128x128_d0_w32) (iota .tc S128x128 32 [1] iota_S128x128_d1_w32) (k1_pay41 (iota .tc S128x128 32 [1] iota_S128x128_d1_w32)) (k1_pay42 (iota .tc S128x128 32 [1] iota_S128x128_d1_w32)) 1#32) (k1_pay44 (iota .tc S128x128 32 [1] iota_S128x128_d1_w32)) (k1_pay45 (iota .tc S128x128 32 [1] iota_S128x128_d1_w32))) : FVec Ideal S1x2064x128 .bf16) (ix3 0 i ⟨l.val, by omega⟩) : EReal) = ((if decide (l.val / 3 = 0 ∨ l.val / 3 = 2) then 1 else 0) : EReal) - ∑ x : Fin 128, p3 (ix2 i x) * (if decide (x.val = 0 + (l.val / 6) * 3 + l.val % 3 ∧ (l.val / 3 = 1 ∨ l.val / 3 = 3)) then 1 else 0) := by
    pointwise [k1_pay1, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77]
    refine congrArg₂ (· - ·) (bitF _ _ ?_) (Finset.sum_congr rfl fun x _ => congrArg (p3 (ix2 i x) * ·) (bitF _ _ ?_))
    · revert l; decide +kernel
    · revert x l; decide +kernel
  have hl : l.val < 12 := l.isLt
  rw [e, pick (fun x => p3 (ix2 i x)) _ (by omega)]
  by_cases h : l.val % 6 < 3
  · have a : (l.val / 3 = 0 ∨ l.val / 3 = 2) := by omega
    have b : ¬ (l.val / 3 = 1 ∨ l.val / 3 = 3) := by omega
    rw [if_pos h, if_neg b, decide_eq_true a]
    simp only [if_true, sub_zero]
  · have a : ¬ (l.val / 3 = 0 ∨ l.val / 3 = 2) := by omega
    have b : (l.val / 3 = 1 ∨ l.val / 3 = 3) := by omega
    rw [if_neg h, if_pos b, decide_eq_false a]
    simp only [Bool.false_eq_true, if_false]

/-- The queries' gate lanes of head pair 1. -/
theorem laneq1_at (p3 : FVec Ideal S2064x128 .bf16) (i : Fin 2064) (l : Fin 12) :
    ((k1_pay58 p3 k1_pay40 (k1_pay56 (iota .tc S128x128 32 [0] iota_S128x128_d0_w32) (iota .tc S128x128 32 [1] iota_S128x128_d1_w32) (k1_pay50 (iota .tc S128x128 32 [1] iota_S128x128_d1_w32)) (Scalar.select (Scalar.cmpi .eq 3#32 0#32) 1#32 3#32) (k1_pay51 (iota .tc S128x128 32 [1] iota_S128x128_d1_w32)) (k1_pay52 (iota .tc S128x128 32 [1] iota_S128x128_d1_w32)) (k1_pay53 (iota .tc S128x128 32 [1] iota_S128x128_d1_w32)) (Scalar.cmpi .slt (Scalar.select (Scalar.cmpi .eq 3#32 0#32) 1#32 3#32) 0#32)) : FVec Ideal S1x2064x128 .bf16) (ix3 0 i ⟨l.val, by omega⟩) : EReal) = (if l.val % 6 < 3 then (p3 (ix2 i ⟨6 + (l.val / 6) * 3 + l.val % 3, by omega⟩) : EReal) else 1) := by
  have e : ((k1_pay58 p3 k1_pay40 (k1_pay56 (iota .tc S128x128 32 [0] iota_S128x128_d0_w32) (iota .tc S128x128 32 [1] iota_S128x128_d1_w32) (k1_pay50 (iota .tc S128x128 32 [1] iota_S128x128_d1_w32)) (Scalar.select (Scalar.cmpi .eq 3#32 0#32) 1#32 3#32) (k1_pay51 (iota .tc S128x128 32 [1] iota_S128x128_d1_w32)) (k1_pay52 (iota .tc S128x128 32 [1] iota_S128x128_d1_w32)) (k1_pay53 (iota .tc S128x128 32 [1] iota_S128x128_d1_w32)) (Scalar.cmpi .slt (Scalar.select (Scalar.cmpi .eq 3#32 0#32) 1#32 3#32) 0#32)) : FVec Ideal S1x2064x128 .bf16) (ix3 0 i ⟨l.val, by omega⟩) : EReal) = (∑ x : Fin 128, p3 (ix2 i x) * (if decide (x.val = 6 + (l.val / 6) * 3 + l.val % 3 ∧ (l.val / 3 = 0 ∨ l.val / 3 = 2)) then 1 else 0) : EReal) + (if decide (l.val / 3 = 1 ∨ l.val / 3 = 3) then 1 else 0) := by
    pointwise [k1_pay1, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77]
    refine congrArg₂ (· + ·) (Finset.sum_congr rfl fun x _ => congrArg (p3 (ix2 i x) * ·) (bitF _ _ ?_)) (bitF _ _ ?_)
    · revert x l; decide +kernel
    · revert l; decide +kernel
  have hl : l.val < 12 := l.isLt
  rw [e, pick (fun x => p3 (ix2 i x)) _ (by omega)]
  by_cases h : l.val % 6 < 3
  · have a : (l.val / 3 = 0 ∨ l.val / 3 = 2) := by omega
    have b : ¬ (l.val / 3 = 1 ∨ l.val / 3 = 3) := by omega
    rw [if_pos h, if_pos a, decide_eq_false b]
    simp only [Bool.false_eq_true, if_false, add_zero]
  · have a : ¬ (l.val / 3 = 0 ∨ l.val / 3 = 2) := by omega
    have b : (l.val / 3 = 1 ∨ l.val / 3 = 3) := by omega
    rw [if_neg h, if_neg a, decide_eq_true b]
    simp only [if_true, zero_add]

/-- The keys' gate lanes of head pair 1. -/
theorem lanek1_at (p3 : FVec Ideal S2064x128 .bf16) (i : Fin 2064) (l : Fin 12) :
    ((k1_pay59 p3 k1_pay40 (k1_pay57 (iota .tc S128x128 32 [0] iota_S128x128_d0_w32) (iota .tc S128x128 32 [1] iota_S128x128_d1_w32) (k1_pay50 (iota .tc S128x128 32 [1] iota_S128x128_d1_w32)) (Scalar.select (Scalar.cmpi .eq 3#32 0#32) 1#32 3#32) (k1_pay51 (iota .tc S128x128 32 [1] iota_S128x128_d1_w32)) (k1_pay52 (iota .tc S128x128 32 [1] iota_S128x128_d1_w32)) (k1_pay53 (iota .tc S128x128 32 [1] iota_S128x128_d1_w32)) (Scalar.cmpi .slt (Scalar.select (Scalar.cmpi .eq 3#32 0#32) 1#32 3#32) 0#32)) : FVec Ideal S1x2064x128 .bf16) (ix3 0 i ⟨l.val, by omega⟩) : EReal) = (if l.val % 6 < 3 then 1 else 0 - (p3 (ix2 i ⟨6 + (l.val / 6) * 3 + l.val % 3, by omega⟩) : EReal)) := by
  have e : ((k1_pay59 p3 k1_pay40 (k1_pay57 (iota .tc S128x128 32 [0] iota_S128x128_d0_w32) (iota .tc S128x128 32 [1] iota_S128x128_d1_w32) (k1_pay50 (iota .tc S128x128 32 [1] iota_S128x128_d1_w32)) (Scalar.select (Scalar.cmpi .eq 3#32 0#32) 1#32 3#32) (k1_pay51 (iota .tc S128x128 32 [1] iota_S128x128_d1_w32)) (k1_pay52 (iota .tc S128x128 32 [1] iota_S128x128_d1_w32)) (k1_pay53 (iota .tc S128x128 32 [1] iota_S128x128_d1_w32)) (Scalar.cmpi .slt (Scalar.select (Scalar.cmpi .eq 3#32 0#32) 1#32 3#32) 0#32)) : FVec Ideal S1x2064x128 .bf16) (ix3 0 i ⟨l.val, by omega⟩) : EReal) = ((if decide (l.val / 3 = 0 ∨ l.val / 3 = 2) then 1 else 0) : EReal) - ∑ x : Fin 128, p3 (ix2 i x) * (if decide (x.val = 6 + (l.val / 6) * 3 + l.val % 3 ∧ (l.val / 3 = 1 ∨ l.val / 3 = 3)) then 1 else 0) := by
    pointwise [k1_pay1, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77]
    refine congrArg₂ (· - ·) (bitF _ _ ?_) (Finset.sum_congr rfl fun x _ => congrArg (p3 (ix2 i x) * ·) (bitF _ _ ?_))
    · revert l; decide +kernel
    · revert x l; decide +kernel
  have hl : l.val < 12 := l.isLt
  rw [e, pick (fun x => p3 (ix2 i x)) _ (by omega)]
  by_cases h : l.val % 6 < 3
  · have a : (l.val / 3 = 0 ∨ l.val / 3 = 2) := by omega
    have b : ¬ (l.val / 3 = 1 ∨ l.val / 3 = 3) := by omega
    rw [if_pos h, if_neg b, decide_eq_true a]
    simp only [if_true, sub_zero]
  · have a : ¬ (l.val / 3 = 0 ∨ l.val / 3 = 2) := by omega
    have b : (l.val / 3 = 1 ∨ l.val / 3 = 3) := by omega
    rw [if_neg h, if_pos b, decide_eq_false a]
    simp only [Bool.false_eq_true, if_false]

/-- The queries' gate lanes of head pair 2. -/
theorem laneq2_at (p3 : FVec Ideal S2064x128 .bf16) (i : Fin 2064) (l : Fin 12) :
    ((k1_pay69 (k1_pay68 (iota .tc S128x128 32 [1] iota_S128x128_d1_w32) p3 k1_pay40 (k1_pay62 (iota .tc S128x128 32 [0] iota_S128x128_d0_w32) (iota .tc S128x128 32 [1] iota_S128x128_d1_w32) 6#32 (k1_pay60 (iota .tc S128x128 32 [1] iota_S128x128_d1_w32)) (k1_pay61 (iota .tc S128x128 32 [1] iota_S128x128_d1_w32)) (Scalar.extui (Scalar.cmpi .sgt 6#32 0#32)) 0#32) 3#32 (k1_pay63 (iota .tc S128x128 32 [1] iota_S128x128_d1_w32)) (k1_pay64 (iota .tc S128x128 32 [1] iota_S128x128_d1_w32)) (Scalar.extui (Scalar.cmpi .sgt 3#32 0#32))) : FVec Ideal S1x2064x128 .bf16) (ix3 0 i ⟨l.val, by omega⟩) : EReal) = (if l.val % 6 < 3 then (p3 (ix2 i ⟨12 + (l.val / 6) * 3 + l.val % 3, by omega⟩) : EReal) else 1) := by
  have e : ((k1_pay69 (k1_pay68 (iota .tc S128x128 32 [1] iota_S128x128_d1_w32) p3 k1_pay40 (k1_pay62 (iota .tc S128x128 32 [0] iota_S128x128_d0_w32) (iota .tc S128x128 32 [1] iota_S128x128_d1_w32) 6#32 (k1_pay60 (iota .tc S128x128 32 [1] iota_S128x128_d1_w32)) (k1_pay61 (iota .tc S128x128 32 [1] iota_S128x128_d1_w32)) (Scalar.extui (Scalar.cmpi .sgt 6#32 0#32)) 0#32) 3#32 (k1_pay63 (iota .tc S128x128 32 [1] iota_S128x128_d1_w32)) (k1_pay64 (iota .tc S128x128 32 [1] iota_S128x128_d1_w32)) (Scalar.extui (Scalar.cmpi .sgt 3#32 0#32))) : FVec Ideal S1x2064x128 .bf16) (ix3 0 i ⟨l.val, by omega⟩) : EReal) = (∑ x : Fin 128, p3 (ix2 i x) * (if decide (x.val = 12 + (l.val / 6) * 3 + l.val % 3 ∧ (l.val / 3 = 0 ∨ l.val / 3 = 2)) then 1 else 0) : EReal) + (if decide (l.val / 3 = 1 ∨ l.val / 3 = 3) then 1 else 0) := by
    pointwise [k1_pay1, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77]
    refine congrArg₂ (· + ·) (Finset.sum_congr rfl fun x _ => congrArg (p3 (ix2 i x) * ·) (bitF _ _ ?_)) (bitF _ _ ?_)
    · revert x l; decide +kernel
    · revert l; decide +kernel
  have hl : l.val < 12 := l.isLt
  rw [e, pick (fun x => p3 (ix2 i x)) _ (by omega)]
  by_cases h : l.val % 6 < 3
  · have a : (l.val / 3 = 0 ∨ l.val / 3 = 2) := by omega
    have b : ¬ (l.val / 3 = 1 ∨ l.val / 3 = 3) := by omega
    rw [if_pos h, if_pos a, decide_eq_false b]
    simp only [Bool.false_eq_true, if_false, add_zero]
  · have a : ¬ (l.val / 3 = 0 ∨ l.val / 3 = 2) := by omega
    have b : (l.val / 3 = 1 ∨ l.val / 3 = 3) := by omega
    rw [if_neg h, if_neg a, decide_eq_true b]
    simp only [if_true, zero_add]

/-- The keys' gate lanes of head pair 2. -/
theorem lanek2_at (p3 : FVec Ideal S2064x128 .bf16) (i : Fin 2064) (l : Fin 12) :
    ((k1_pay70 p3 (k1_pay66 (iota .tc S128x128 32 [1] iota_S128x128_d1_w32) (k1_pay62 (iota .tc S128x128 32 [0] iota_S128x128_d0_w32) (iota .tc S128x128 32 [1] iota_S128x128_d1_w32) 6#32 (k1_pay60 (iota .tc S128x128 32 [1] iota_S128x128_d1_w32)) (k1_pay61 (iota .tc S128x128 32 [1] iota_S128x128_d1_w32)) (Scalar.extui (Scalar.cmpi .sgt 6#32 0#32)) 0#32) 3#32 (k1_pay63 (iota .tc S128x128 32 [1] iota_S128x128_d1_w32)) (k1_pay64 (iota .tc S128x128 32 [1] iota_S128x128_d1_w32)) (Scalar.extui (Scalar.cmpi .sgt 3#32 0#32))) (k1_pay67 k1_pay40) : FVec Ideal S1x2064x128 .bf16) (ix3 0 i ⟨l.val, by omega⟩) : EReal) = (if l.val % 6 < 3 then 1 else 0 - (p3 (ix2 i ⟨12 + (l.val / 6) * 3 + l.val % 3, by omega⟩) : EReal)) := by
  have e : ((k1_pay70 p3 (k1_pay66 (iota .tc S128x128 32 [1] iota_S128x128_d1_w32) (k1_pay62 (iota .tc S128x128 32 [0] iota_S128x128_d0_w32) (iota .tc S128x128 32 [1] iota_S128x128_d1_w32) 6#32 (k1_pay60 (iota .tc S128x128 32 [1] iota_S128x128_d1_w32)) (k1_pay61 (iota .tc S128x128 32 [1] iota_S128x128_d1_w32)) (Scalar.extui (Scalar.cmpi .sgt 6#32 0#32)) 0#32) 3#32 (k1_pay63 (iota .tc S128x128 32 [1] iota_S128x128_d1_w32)) (k1_pay64 (iota .tc S128x128 32 [1] iota_S128x128_d1_w32)) (Scalar.extui (Scalar.cmpi .sgt 3#32 0#32))) (k1_pay67 k1_pay40) : FVec Ideal S1x2064x128 .bf16) (ix3 0 i ⟨l.val, by omega⟩) : EReal) = ((if decide (l.val / 3 = 0 ∨ l.val / 3 = 2) then 1 else 0) : EReal) - ∑ x : Fin 128, p3 (ix2 i x) * (if decide (x.val = 12 + (l.val / 6) * 3 + l.val % 3 ∧ (l.val / 3 = 1 ∨ l.val / 3 = 3)) then 1 else 0) := by
    pointwise [k1_pay1, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77]
    refine congrArg₂ (· - ·) (bitF _ _ ?_) (Finset.sum_congr rfl fun x _ => congrArg (p3 (ix2 i x) * ·) (bitF _ _ ?_))
    · revert l; decide +kernel
    · revert x l; decide +kernel
  have hl : l.val < 12 := l.isLt
  rw [e, pick (fun x => p3 (ix2 i x)) _ (by omega)]
  by_cases h : l.val % 6 < 3
  · have a : (l.val / 3 = 0 ∨ l.val / 3 = 2) := by omega
    have b : ¬ (l.val / 3 = 1 ∨ l.val / 3 = 3) := by omega
    rw [if_pos h, if_neg b, decide_eq_true a]
    simp only [if_true, sub_zero]
  · have a : ¬ (l.val / 3 = 0 ∨ l.val / 3 = 2) := by omega
    have b : (l.val / 3 = 1 ∨ l.val / 3 = 3) := by omega
    rw [if_neg h, if_pos b, decide_eq_false a]
    simp only [Bool.false_eq_true, if_false]

/-- The queries' gate lanes of head pair 3. -/
theorem laneq3_at (p3 : FVec Ideal S2064x128 .bf16) (i : Fin 2064) (l : Fin 12) :
    ((k1_pay77 p3 k1_pay40 (k1_pay74 (iota .tc S128x128 32 [0] iota_S128x128_d0_w32) (iota .tc S128x128 32 [1] iota_S128x128_d1_w32) (k1_pay71 (iota .tc S128x128 32 [1] iota_S128x128_d1_w32)) 3#32 (Scalar.cmpi .eq 3#32 0#32)) : FVec Ideal S1x2064x128 .bf16) (ix3 0 i ⟨l.val, by omega⟩) : EReal) = (if l.val % 6 < 3 then (p3 (ix2 i ⟨18 + (l.val / 6) * 3 + l.val % 3, by omega⟩) : EReal) else 1) := by
  have e : ((k1_pay77 p3 k1_pay40 (k1_pay74 (iota .tc S128x128 32 [0] iota_S128x128_d0_w32) (iota .tc S128x128 32 [1] iota_S128x128_d1_w32) (k1_pay71 (iota .tc S128x128 32 [1] iota_S128x128_d1_w32)) 3#32 (Scalar.cmpi .eq 3#32 0#32)) : FVec Ideal S1x2064x128 .bf16) (ix3 0 i ⟨l.val, by omega⟩) : EReal) = (∑ x : Fin 128, p3 (ix2 i x) * (if decide (x.val = 18 + (l.val / 6) * 3 + l.val % 3 ∧ (l.val / 3 = 0 ∨ l.val / 3 = 2)) then 1 else 0) : EReal) + (if decide (l.val / 3 = 1 ∨ l.val / 3 = 3) then 1 else 0) := by
    pointwise [k1_pay1, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77]
    refine congrArg₂ (· + ·) (Finset.sum_congr rfl fun x _ => congrArg (p3 (ix2 i x) * ·) (bitF _ _ ?_)) (bitF _ _ ?_)
    · revert x l; decide +kernel
    · revert l; decide +kernel
  have hl : l.val < 12 := l.isLt
  rw [e, pick (fun x => p3 (ix2 i x)) _ (by omega)]
  by_cases h : l.val % 6 < 3
  · have a : (l.val / 3 = 0 ∨ l.val / 3 = 2) := by omega
    have b : ¬ (l.val / 3 = 1 ∨ l.val / 3 = 3) := by omega
    rw [if_pos h, if_pos a, decide_eq_false b]
    simp only [Bool.false_eq_true, if_false, add_zero]
  · have a : ¬ (l.val / 3 = 0 ∨ l.val / 3 = 2) := by omega
    have b : (l.val / 3 = 1 ∨ l.val / 3 = 3) := by omega
    rw [if_neg h, if_neg a, decide_eq_true b]
    simp only [if_true, zero_add]

/-- The keys' gate lanes of head pair 3. -/
theorem lanek3_at (p3 : FVec Ideal S2064x128 .bf16) (i : Fin 2064) (l : Fin 12) :
    ((k1_pay1 p3 (k1_pay75 (k1_pay72 (iota .tc S128x128 32 [0] iota_S128x128_d0_w32) (iota .tc S128x128 32 [1] iota_S128x128_d1_w32) (k1_pay71 (iota .tc S128x128 32 [1] iota_S128x128_d1_w32)) 3#32 (Scalar.cmpi .eq 3#32 0#32)) (k1_pay73 (iota .tc S128x128 32 [1] iota_S128x128_d1_w32))) (k1_pay76 k1_pay40) (constant S2064x128 .f32 0x00000000#32) : FVec Ideal S1x2064x128 .bf16) (ix3 0 i ⟨l.val, by omega⟩) : EReal) = (if l.val % 6 < 3 then 1 else 0 - (p3 (ix2 i ⟨18 + (l.val / 6) * 3 + l.val % 3, by omega⟩) : EReal)) := by
  have e : ((k1_pay1 p3 (k1_pay75 (k1_pay72 (iota .tc S128x128 32 [0] iota_S128x128_d0_w32) (iota .tc S128x128 32 [1] iota_S128x128_d1_w32) (k1_pay71 (iota .tc S128x128 32 [1] iota_S128x128_d1_w32)) 3#32 (Scalar.cmpi .eq 3#32 0#32)) (k1_pay73 (iota .tc S128x128 32 [1] iota_S128x128_d1_w32))) (k1_pay76 k1_pay40) (constant S2064x128 .f32 0x00000000#32) : FVec Ideal S1x2064x128 .bf16) (ix3 0 i ⟨l.val, by omega⟩) : EReal) = ((if decide (l.val / 3 = 0 ∨ l.val / 3 = 2) then 1 else 0) : EReal) - ∑ x : Fin 128, p3 (ix2 i x) * (if decide (x.val = 18 + (l.val / 6) * 3 + l.val % 3 ∧ (l.val / 3 = 1 ∨ l.val / 3 = 3)) then 1 else 0) := by
    pointwise [k1_pay1, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77]
    refine congrArg₂ (· - ·) (bitF _ _ ?_) (Finset.sum_congr rfl fun x _ => congrArg (p3 (ix2 i x) * ·) (bitF _ _ ?_))
    · revert l; decide +kernel
    · revert x l; decide +kernel
  have hl : l.val < 12 := l.isLt
  rw [e, pick (fun x => p3 (ix2 i x)) _ (by omega)]
  by_cases h : l.val % 6 < 3
  · have a : (l.val / 3 = 0 ∨ l.val / 3 = 2) := by omega
    have b : ¬ (l.val / 3 = 1 ∨ l.val / 3 = 3) := by omega
    rw [if_pos h, if_neg b, decide_eq_true a]
    simp only [if_true, sub_zero]
  · have a : ¬ (l.val / 3 = 0 ∨ l.val / 3 = 2) := by omega
    have b : (l.val / 3 = 1 ∨ l.val / 3 = 3) := by omega
    rw [if_neg h, if_pos b, decide_eq_false a]
    simp only [Bool.false_eq_true, if_false]

end Cert.KernelIdeal.Whole
-- ==== Proof.FoxCum.lean ====
module

public import proofs.«01_k».proof.Proof.FoxAug

@[expose] public section

set_option maxRecDepth 16384

noncomputable section

open Idealize.ShloMosaic Idealize.ShloMosaic.TcCoe Idealize.SL.Sem

namespace Cert.KernelIdeal.Whole

open Cert.KernelIdeal Cert.KernelIdeal.Gen Cert.FoxSoft

/-- The logarithm of a gate's sigmoid. -/
def logf (x : Ideal .f32) : EReal := min (x : EReal) 0 - Ideal.log1p (Ideal.exp (0 - FloatOps.absf (F := Ideal) (φ := .f32) x))

/-- A position's log gate in lane `l`, zero past the end. -/
def gateAt (x : Vec Ideal S2064x128 .f32) (l : Fin 128) (s : ℕ) : EReal := if h : s < 2064 then logf (x (ix2 ⟨s, h⟩ l)) else 0

/-- The log gates. -/
theorem logf_at (x : Vec Ideal S2064x128 .f32) (i : Fin 2064) (l : Fin 128) : (k1_pay2 x (ix2 i l) : EReal) = logf (x (ix2 i l)) := by
  pointwise [k1_pay2]
  rfl

/-- The log gates of the first lanes, as the block that is stored. -/
theorem logf8_at (x : Vec Ideal S2064x128 .f32) (i : Fin 2064) (l : Fin 8) : (k1_pay3 x (ix3 0 i l) : EReal) = logf (x (ix2 i ⟨l.val, by omega⟩)) := by
  pointwise [k1_pay3]
  exact logf_at x i _

/-- The lower triangle of ones. -/
theorem tri_at (i x : Fin 128) : (k1_pay4 (F := Ideal) (ix2 i x) : EReal) = if x.val ≤ i.val then 1 else 0 := by
  pointwise [k1_pay4]
  refine (bitF _ (decide (x.val ≤ i.val)) ?_).trans (by simp)
  have e := masked_eq i.val x.val (by omega) (by omega)
  unfold masked at e
  word_cmp
  by_cases h : x.val ≤ i.val <;> simp [h]

/-- A row of the triangle against a chunk's gates, added to the sum of everything before the chunk, is the running sum. -/
theorem tri_sum (n o : ℕ) (F : ℕ → EReal) (y : Fin n → EReal) (w : Fin n → EReal) (i : Fin n) (z : EReal)
    (hy : ∀ x : Fin n, y x = F (o + x.val)) (hw : ∀ x : Fin n, w x = if x.val ≤ i.val then 1 else 0) (hz : z = ∑ s ∈ Finset.range o, F s) :
    (∑ x, w x * y x) + z = ∑ s ∈ Finset.range (o + i.val + 1), F s := by
  have e : ∀ x, w x * y x = if x.val ≤ i.val then F (o + x.val) else 0 := by
    intro x
    rw [hw, hy, ite_mul, one_mul, zero_mul]
  simp only [e]
  rw [← Finset.sum_range (fun x => if x ≤ i.val then F (o + x) else 0), ← Finset.sum_filter, hz, show o + i.val + 1 = o + (i.val + 1) from rfl,
    Finset.sum_range_add F o (i.val + 1), add_comm]
  refine congrArg (_ + ·) (Finset.sum_congr ?_ fun _ _ => rfl)
  ext s
  have := i.isLt
  simp only [Finset.mem_filter, Finset.mem_range]
  omega

/-- A position's gate, inside the block. -/
theorem gate_in (x : Vec Ideal S2064x128 .f32) (l : Fin 128) (s : ℕ) (h : s < 2064) : (k1_pay2 x (ix2 ⟨s, h⟩ l) : EReal) = gateAt x l s := by
  rw [logf_at, gateAt, dif_pos h]

/-- The running sum over the first chunk of 128 positions. -/
theorem chunk0_at (x : Vec Ideal S2064x128 .f32) (i l : Fin 128) :
    (k1_pay5 x (ix2 i l) : EReal) = ∑ s ∈ Finset.range (0 + i.val + 1), gateAt x l s := by
  have h := tri_sum 128 0 (gateAt x l) (fun k => (k1_pay2 x (ix2 ⟨k.val, by omega⟩ l) : EReal)) (fun k => (k1_pay4 (F := Ideal) (ix2 i k) : EReal)) i 0
    (fun k => by rw [Nat.zero_add]; exact gate_in x l k.val _) (fun k => tri_at i k) (Finset.sum_range_zero _).symm
  rw [add_zero] at h
  refine Eq.trans ?_ h
  pointwise [k1_pay5]

/-- The running sum over the second chunk of 128 positions. -/
theorem chunk1_at (x : Vec Ideal S2064x128 .f32) (i l : Fin 128) :
    (k1_pay7 x (ix2 i l) : EReal) = ∑ s ∈ Finset.range (128 + i.val + 1), gateAt x l s := by
  pointwise [k1_pay7]
  exact tri_sum 128 128 (gateAt x l) _ _ i _ (fun k => gate_in x l _ _) (fun k => tri_at i k) ((chunk0_at x 127 l).trans (by rfl))

/-- The running sum over the third chunk of 128 positions. -/
theorem chunk2_at (x : Vec Ideal S2064x128 .f32) (i l : Fin 128) :
    (k1_pay9 x (ix2 i l) : EReal) = ∑ s ∈ Finset.range (256 + i.val + 1), gateAt x l s := by
  pointwise [k1_pay9]
  exact tri_sum 128 256 (gateAt x l) _ _ i _ (fun k => gate_in x l _ _) (fun k => tri_at i k) ((chunk1_at x 127 l).trans (by rfl))

/-- The running sum over the fourth chunk of 128 positions. -/
theorem chunk3_at (x : Vec Ideal S2064x128 .f32) (i l : Fin 128) :
    (k1_pay11 (k1_pay2 x) (k1_pay4 (F := Ideal)) (k1_pay9 x) (ix2 i l) : EReal) = ∑ s ∈ Finset.range (384 + i.val + 1), gateAt x l s := by
  pointwise [k1_pay11]
  exact tri_sum 128 384 (gateAt x l) _ _ i _ (fun k => gate_in x l _ _) (fun k => tri_at i k) ((chunk2_at x 127 l).trans (by rfl))

/-- The running sum over the fifth chunk of 128 positions. -/
theorem chunk4_at (x : Vec Ideal S2064x128 .f32) (i l : Fin 128) :
    (k1_pay13 (k1_pay2 x) (k1_pay4 (F := Ideal)) (k1_pay9 x) (ix2 i l) : EReal) = ∑ s ∈ Finset.range (512 + i.val + 1), gateAt x l s := by
  pointwise [k1_pay13]
  exact tri_sum 128 512 (gateAt x l) _ _ i _ (fun k => gate_in x l _ _) (fun k => tri_at i k) ((chunk3_at x 127 l).trans (by rfl))

/-- The running sum over the sixth chunk of 128 positions. -/
theorem chunk5_at (x : Vec Ideal S2064x128 .f32) (i l : Fin 128) :
    (k1_pay15 (k1_pay2 x) (k1_pay4 (F := Ideal)) (k1_pay9 x) (ix2 i l) : EReal) = ∑ s ∈ Finset.range (640 + i.val + 1), gateAt x l s := by
  pointwise [k1_pay15]
  exact tri_sum 128 640 (gateAt x l) _ _ i _ (fun k => gate_in x l _ _) (fun k => tri_at i k) ((chunk4_at x 127 l).trans (by rfl))

/-- The running sum over the seventh chunk of 128 positions. -/
theorem chunk6_at (x : Vec Ideal S2064x128 .f32) (i l : Fin 128) :
    (k1_pay17 (k1_pay2 x) (k1_pay4 (F := Ideal)) (k1_pay9 x) (ix2 i l) : EReal) = ∑ s ∈ Finset.range (768 + i.val + 1), gateAt x l s := by
  pointwise [k1_pay17]
  exact tri_sum 128 768 (gateAt x l) _ _ i _ (fun k => gate_in x l _ _) (fun k => tri_at i k) ((chunk5_at x 127 l).trans (by rfl))

/-- The running sum over the eighth chunk of 128 positions. -/
theorem chunk7_at (x : Vec Ideal S2064x128 .f32) (i l : Fin 128) :
    (k1_pay19 (k1_pay2 x) (k1_pay4 (F := Ideal)) (k1_pay9 x) (ix2 i l) : EReal) = ∑ s ∈ Finset.range (896 + i.val + 1), gateAt x l s := by
  pointwise [k1_pay19]
  exact tri_sum 128 896 (gateAt x l) _ _ i _ (fun k => gate_in x l _ _) (fun k => tri_at i k) ((chunk6_at x 127 l).trans (by rfl))

/-- The running sum over the ninth chunk of 128 positions. -/
theorem chunk8_at (x : Vec Ideal S2064x128 .f32) (i l : Fin 128) :
    (k1_pay21 (k1_pay2 x) (k1_pay4 (F := Ideal)) (k1_pay19 (k1_pay2 x) (k1_pay4 (F := Ideal)) (k1_pay9 x)) (ix2 i l) : EReal) = ∑ s ∈ Finset.range (1024 + i.val + 1), gateAt x l s := by
  pointwise [k1_pay21]
  exact tri_sum 128 1024 (gateAt x l) _ _ i _ (fun k => gate_in x l _ _) (fun k => tri_at i k) ((chunk7_at x 127 l).trans (by rfl))

/-- The running sum over the tenth chunk of 128 positions. -/
theorem chunk9_at (x : Vec Ideal S2064x128 .f32) (i l : Fin 128) :
    (k1_pay23 (k1_pay2 x) (k1_pay4 (F := Ideal)) (k1_pay19 (k1_pay2 x) (k1_pay4 (F := Ideal)) (k1_pay9 x)) (ix2 i l) : EReal) = ∑ s ∈ Finset.range (1152 + i.val + 1), gateAt x l s := by
  pointwise [k1_pay23]
  exact tri_sum 128 1152 (gateAt x l) _ _ i _ (fun k => gate_in x l _ _) (fun k => tri_at i k) ((chunk8_at x 127 l).trans (by rfl))

/-- The running sum over the eleventh chunk of 128 positions. -/
theorem chunk10_at (x : Vec Ideal S2064x128 .f32) (i l : Fin 128) :
    (k1_pay25 (k1_pay2 x) (k1_pay4 (F := Ideal)) (k1_pay19 (k1_pay2 x) (k1_pay4 (F := Ideal)) (k1_pay9 x)) (ix2 i l) : EReal) = ∑ s ∈ Finset.range (1280 + i.val + 1), gateAt x l s := by
  pointwise [k1_pay25]
  exact tri_sum 128 1280 (gateAt x l) _ _ i _ (fun k => gate_in x l _ _) (fun k => tri_at i k) ((chunk9_at x 127 l).trans (by rfl))

/-- The running sum over the twelfth chunk of 128 positions. -/
theorem chunk11_at (x : Vec Ideal S2064x128 .f32) (i l : Fin 128) :
    (k1_pay27 (k1_pay2 x) (k1_pay4 (F := Ideal)) (k1_pay19 (k1_pay2 x) (k1_pay4 (F := Ideal)) (k1_pay9 x)) (ix2 i l) : EReal) = ∑ s ∈ Finset.range (1408 + i.val + 1), gateAt x l s := by
  pointwise [k1_pay27]
  exact tri_sum 128 1408 (gateAt x l) _ _ i _ (fun k => gate_in x l _ _) (fun k => tri_at i k) ((chunk10_at x 127 l).trans (by rfl))

/-- The running sum over the thirteenth chunk of 128 positions. -/
theorem chunk12_at (x : Vec Ideal S2064x128 .f32) (i l : Fin 128) :
    (k1_pay29 (k1_pay2 x) (k1_pay4 (F := Ideal)) (k1_pay19 (k1_pay2 x) (k1_pay4 (F := Ideal)) (k1_pay9 x)) (ix2 i l) : EReal) = ∑ s ∈ Finset.range (1536 + i.val + 1), gateAt x l s := by
  pointwise [k1_pay29]
  exact tri_sum 128 1536 (gateAt x l) _ _ i _ (fun k => gate_in x l _ _) (fun k => tri_at i k) ((chunk11_at x 127 l).trans (by rfl))

/-- The running sum over the fourteenth chunk of 128 positions. -/
theorem chunk13_at (x : Vec Ideal S2064x128 .f32) (i l : Fin 128) :
    (k1_pay31 (k1_pay2 x) (k1_pay4 (F := Ideal)) (k1_pay29 (k1_pay2 x) (k1_pay4 (F := Ideal)) (k1_pay19 (k1_pay2 x) (k1_pay4 (F := Ideal)) (k1_pay9 x))) (ix2 i l) : EReal) = ∑ s ∈ Finset.range (1664 + i.val + 1), gateAt x l s := by
  pointwise [k1_pay31]
  exact tri_sum 128 1664 (gateAt x l) _ _ i _ (fun k => gate_in x l _ _) (fun k => tri_at i k) ((chunk12_at x 127 l).trans (by rfl))

/-- The running sum over the fifteenth chunk of 128 positions. -/
theorem chunk14_at (x : Vec Ideal S2064x128 .f32) (i l : Fin 128) :
    (k1_pay33 (k1_pay2 x) (k1_pay4 (F := Ideal)) (k1_pay29 (k1_pay2 x) (k1_pay4 (F := Ideal)) (k1_pay19 (k1_pay2 x) (k1_pay4 (F := Ideal)) (k1_pay9 x))) (ix2 i l) : EReal) = ∑ s ∈ Finset.range (1792 + i.val + 1), gateAt x l s := by
  pointwise [k1_pay33]
  exact tri_sum 128 1792 (gateAt x l) _ _ i _ (fun k => gate_in x l _ _) (fun k => tri_at i k) ((chunk13_at x 127 l).trans (by rfl))

/-- The running sum over the sixteenth chunk of 128 positions. -/
theorem chunk15_at (x : Vec Ideal S2064x128 .f32) (i l : Fin 128) :
    (k1_pay35 (k1_pay2 x) (k1_pay4 (F := Ideal)) (k1_pay29 (k1_pay2 x) (k1_pay4 (F := Ideal)) (k1_pay19 (k1_pay2 x) (k1_pay4 (F := Ideal)) (k1_pay9 x))) (ix2 i l) : EReal) = ∑ s ∈ Finset.range (1920 + i.val + 1), gateAt x l s := by
  pointwise [k1_pay35]
  exact tri_sum 128 1920 (gateAt x l) _ _ i _ (fun k => gate_in x l _ _) (fun k => tri_at i k) ((chunk14_at x 127 l).trans (by rfl))

/-- The running sum over the last 16 positions. -/
theorem tail_at (x : Vec Ideal S2064x128 .f32) (i : Fin 16) (l : Fin 128) :
    (k1_pay37 (k1_pay2 x) (k1_pay4 (F := Ideal)) (k1_pay29 (k1_pay2 x) (k1_pay4 (F := Ideal)) (k1_pay19 (k1_pay2 x) (k1_pay4 (F := Ideal)) (k1_pay9 x))) (ix2 i l) : EReal) = ∑ s ∈ Finset.range (2048 + i.val + 1), gateAt x l s := by
  pointwise [k1_pay37]
  exact tri_sum 16 2048 (gateAt x l) _ _ i _ (fun k => gate_in x l _ _) (fun k => tri_at ⟨i.val, by omega⟩ ⟨k.val, by omega⟩) ((chunk15_at x 127 l).trans (by rfl))

/-- The running sums of a block of log gates. -/
def cumArr (x : Vec Ideal S2064x128 .f32) : S2064x128.Idx → EReal := fun y => ∑ s ∈ Finset.range ((y 0).val + 1), gateAt x (y 1) s

end Cert.KernelIdeal.Whole
-- ==== Proof.FoxHost.lean ====
module

public import proofs.«01_k».proof.Proof.Gen.KernelIdeal.Frame

public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.KernelIdeal.Whole

open Cert.KernelIdeal Cert.KernelIdeal.Gen

variable (m : (ℓ : Loc nD τ sig) → Buf (Elt Ideal) ℓ) (ρ : Dev nD → PrngReg)

/-- The column of the given weights that a column of the permuted weights holds. -/
def pcol (l : Fin 3088) : Fin 3088 :=
  if l.val < 1536 then l else if h : l.val < 2816 then ⟨l.val + 8, by omega⟩ else if h : l.val < 3072 then ⟨l.val + 16, by omega⟩
    else if h : l.val < 3080 then ⟨l.val - 1536, by omega⟩ else ⟨l.val - 256, by omega⟩

/-- The permuted weights, as the program builds them. -/
theorem v8_eq (c : Dev nD) : (W1 m ρ c (Proc.devRef .tc main_v8) : S1024x3088.Idx → EReal) =
    (concatenate S1024x3088 1 [⟨S1024x1536, extractStridedSlice S1024x1536 ![0, 0] (m ((c.tc : Thread nD τ).loc main_arg2)) slices_S1024x3088_S1024x1536_0_0⟩, ⟨S1024x512, extractStridedSlice S1024x512 ![0, 1544] (m ((c.tc : Thread nD τ).loc main_arg2)) slices_S1024x3088_S1024x512_0_1544⟩, ⟨S1024x768, extractStridedSlice S1024x768 ![0, 2056] (m ((c.tc : Thread nD τ).loc main_arg2)) slices_S1024x3088_S1024x768_0_2056⟩, ⟨S1024x256, extractStridedSlice S1024x256 ![0, 2832] (m ((c.tc : Thread nD τ).loc main_arg2)) slices_S1024x3088_S1024x256_0_2832⟩, ⟨S1024x8, extractStridedSlice S1024x8 ![0, 1536] (m ((c.tc : Thread nD τ).loc main_arg2)) slices_S1024x3088_S1024x8_0_1536⟩, ⟨S1024x4, extractStridedSlice S1024x4 ![0, 2824] (m ((c.tc : Thread nD τ).loc main_arg2)) slices_S1024x3088_S1024x4_0_2824⟩, ⟨S1024x4, extractStridedSlice S1024x4 ![0, 2828] (m ((c.tc : Thread nD τ).loc main_arg2)) slices_S1024x3088_S1024x4_0_2828⟩]
      concatenates_S1024x1536_S1024x512_S1024x768_S1024x256_S1024x8_S1024x4_S1024x4_S1024x3088_d1 : S1024x3088.Idx → EReal) := by
  unfold W1
  after_results
  rfl

/-- The permuted biases, as the program builds them. -/
theorem v17_eq (c : Dev nD) : (W3 m ρ c (Proc.devRef .tc main_v17) : S3088.Idx → EReal) =
    (concatenate S3088 0 [⟨S1536, extractStridedSlice S1536 ![0] (W2 m ρ c (Proc.devRef .tc main_arg3)) slices_S3088_S1536_0⟩, ⟨S512, extractStridedSlice S512 ![1544] (W2 m ρ c (Proc.devRef .tc main_arg3)) slices_S3088_S512_1544⟩, ⟨S768, extractStridedSlice S768 ![2056] (W2 m ρ c (Proc.devRef .tc main_arg3)) slices_S3088_S768_2056⟩, ⟨S256, extractStridedSlice S256 ![2832] (W2 m ρ c (Proc.devRef .tc main_arg3)) slices_S3088_S256_2832⟩, ⟨S8, extractStridedSlice S8 ![1536] (W2 m ρ c (Proc.devRef .tc main_arg3)) slices_S3088_S8_1536⟩, ⟨S4, extractStridedSlice S4 ![2824] (W2 m ρ c (Proc.devRef .tc main_arg3)) slices_S3088_S4_2824⟩, ⟨S4, extractStridedSlice S4 ![2828] (W2 m ρ c (Proc.devRef .tc main_arg3)) slices_S3088_S4_2828⟩]
      concatenates_S1536_S512_S768_S256_S8_S4_S4_S3088_d0 : S3088.Idx → EReal) := by
  show StableHlo.after hostOps0_2 (W2 m ρ c) _ = _
  generalize W2 m ρ c = V
  after_results
  rfl

/-- The permuted weights, padded: a column below the padding. -/
theorem w_at (c : Dev nD) (k : Fin 1024) (l : Fin 3088) : (V5 m ρ c main_v9 : S1024x3200.Idx → EReal) (ix2 k ⟨l.val, by omega⟩)
    = m ((c.tc : Thread nD τ).loc main_arg2) (ix2 k (pcol l)) := by
  have e : ∀ V : Valuation τ sig (Elt Ideal), ∃ v, (StableHlo.after hostOps0_1 V (Proc.devRef .tc main_v9) : S1024x3200.Idx → EReal)
      = (pad S1024x3200 ![0, 0] ![0, 112] ![0, 0] (V (Proc.devRef .tc main_v8)) v pads_S1024x3088_S1024x3200_000_01120 h_S_ : S1024x3200.Idx → EReal) := by
    intro V
    after_results
    exact ⟨_, rfl⟩
  obtain ⟨v, e⟩ := e (W1 m ρ c)
  show (W5 m ρ c (Proc.devRef .tc main_v9) : S1024x3200.Idx → EReal) _ = _
  rw [W5_of m ρ c _ (by decide), W4_of m ρ c _ (by decide), W3_of m ρ c _ (by decide)]
  refine (congrFun e _).trans ?_
  rw [v8_eq]
  pointwise
  rw [dif_pos]
  · unfold pcol
    by_cases h1 : l.val < 1536
    · simp only [h1, dif_pos, if_pos]
    rw [dif_neg h1, if_neg h1]
    by_cases h2 : l.val - 1536 < 512
    · rw [dif_pos h2, dif_pos (by omega)]
      exact congrArg _ (congrArg (ix2 k) (Fin.ext (by dsimp only; omega)))
    rw [dif_neg h2]
    by_cases h3 : l.val - 1536 - 512 < 768
    · rw [dif_pos h3, dif_pos (by omega)]
      exact congrArg _ (congrArg (ix2 k) (Fin.ext (by dsimp only; omega)))
    rw [dif_neg h3, dif_neg (show ¬ l.val < 2816 by omega)]
    by_cases h4 : l.val - 1536 - 512 - 768 < 256
    · rw [dif_pos h4, dif_pos (by omega)]
      exact congrArg _ (congrArg (ix2 k) (Fin.ext (by dsimp only; omega)))
    rw [dif_neg h4, dif_neg (show ¬ l.val < 3072 by omega)]
    by_cases h5 : l.val - 1536 - 512 - 768 - 256 < 8
    · rw [dif_pos h5, dif_pos (by omega)]
      exact congrArg _ (congrArg (ix2 k) (Fin.ext (by dsimp only; omega)))
    rw [dif_neg h5, dif_neg (show ¬ l.val < 3080 by omega)]
    by_cases h6 : l.val - 1536 - 512 - 768 - 256 - 8 < 4
    · rw [dif_pos h6]
      exact congrArg _ (congrArg (ix2 k) (Fin.ext (by dsimp only; omega)))
    · rw [dif_neg h6]
      exact congrArg _ (congrArg (ix2 k) (Fin.ext (by dsimp only; omega)))
  · intro a
    match a with
    | 0 => exact ⟨Nat.zero_le _, Nat.mod_one _, by show (k.val - 0) / 1 < 1024; omega⟩
    | 1 => exact ⟨Nat.zero_le _, Nat.mod_one _, by show (l.val - 0) / 1 < 3088; omega⟩

/-- The permuted biases, padded: an entry below the padding. -/
theorem b_at (c : Dev nD) (l : Fin 3088) : (V5 m ρ c main_v21 : S1x3200.Idx → EReal) (ix2 0 ⟨l.val, by omega⟩)
    = m ((c.tc : Thread nD τ).loc main_arg3) (ix1 (pcol l)) := by
  have e : ∀ V : Valuation τ sig (Elt Ideal), ∃ v, (StableHlo.after hostOps0_3 V (Proc.devRef .tc main_v18) : S3200.Idx → EReal)
      = (pad S3200 ![0] ![112] ![0] (V (Proc.devRef .tc main_v17)) v pads_S3088_S3200_01120 h_S_ : S3200.Idx → EReal) := by
    intro V
    after_results
    exact ⟨_, rfl⟩
  obtain ⟨v, e⟩ := e (W3 m ρ c)
  have e' : ∀ V : Valuation τ sig (Elt Ideal), (StableHlo.after hostOps0_4 V (Proc.devRef .tc main_v21) : S1x3200.Idx → EReal)
      = (shapeCast S1x3200 (V (Proc.devRef .tc main_v18)) shapeCasts_S3200_S1x3200 : S1x3200.Idx → EReal) := by
    intro V
    after_results
    rfl
  refine (congrFun (e' (W4 m ρ c)) _).trans ?_
  show shapeCast S1x3200 (StableHlo.after hostOps0_3 (W3 m ρ c) (Proc.devRef .tc main_v18) : S3200.Idx → EReal) shapeCasts_S3200_S1x3200 _ = _
  rw [e, v17_eq, W2_args m ρ c main_arg3 (by decide)]
  pointwise
  rw [dif_pos]
  · unfold pcol
    by_cases h1 : l.val < 1536
    · simp only [h1, dif_pos, if_pos]
    rw [dif_neg h1, if_neg h1]
    by_cases h2 : l.val - 1536 < 512
    · rw [dif_pos h2, dif_pos (by omega)]
      exact congrArg _ (congrArg ix1 (Fin.ext (by dsimp only; omega)))
    rw [dif_neg h2]
    by_cases h3 : l.val - 1536 - 512 < 768
    · rw [dif_pos h3, dif_pos (by omega)]
      exact congrArg _ (congrArg ix1 (Fin.ext (by dsimp only; omega)))
    rw [dif_neg h3, dif_neg (show ¬ l.val < 2816 by omega)]
    by_cases h4 : l.val - 1536 - 512 - 768 < 256
    · rw [dif_pos h4, dif_pos (by omega)]
      exact congrArg _ (congrArg ix1 (Fin.ext (by dsimp only; omega)))
    rw [dif_neg h4, dif_neg (show ¬ l.val < 3072 by omega)]
    by_cases h5 : l.val - 1536 - 512 - 768 - 256 < 8
    · rw [dif_pos h5, dif_pos (by omega)]
      exact congrArg _ (congrArg ix1 (Fin.ext (by dsimp only; omega)))
    rw [dif_neg h5, dif_neg (show ¬ l.val < 3080 by omega)]
    by_cases h6 : l.val - 1536 - 512 - 768 - 256 - 8 < 4
    · rw [dif_pos h6]
      exact congrArg _ (congrArg ix1 (Fin.ext (by dsimp only; omega)))
    · rw [dif_neg h6]
      exact congrArg _ (congrArg ix1 (Fin.ext (by dsimp only; omega)))
  · intro a
    match a with
    | 0 => exact l.isLt

/-- The rows of the input, at region entry. -/
theorem x_at (c : Dev nD) (r : Fin 16512) (k : Fin 1024) : (V5 m ρ c main_v19 : S16512x1024.Idx → EReal) (ix2 r k)
    = m ((c.tc : Thread nD τ).loc main_arg0) (ix3 ⟨r.val / 2064, by omega⟩ ⟨r.val % 2064, by omega⟩ k) := by
  have e' : ∀ V : Valuation τ sig (Elt Ideal), (StableHlo.after hostOps0_4 V (Proc.devRef .tc main_v19) : S16512x1024.Idx → EReal)
      = (shapeCast S16512x1024 (V (Proc.devRef .tc main_arg0)) shapeCasts_S8x2064x1024_S16512x1024 : S16512x1024.Idx → EReal) := by
    intro V
    after_results
    rfl
  refine (congrFun (e' (W4 m ρ c)) _).trans ?_
  rw [W4_args m ρ c main_arg0 (by decide)]
  pointwise

/-- The norm's weights, at region entry. -/
theorem g_at (c : Dev nD) (k : Fin 1024) : (V5 m ρ c main_v20 : S1x1024.Idx → EReal) (ix2 0 k) = m ((c.tc : Thread nD τ).loc main_arg1) (ix1 k) := by
  have e' : ∀ V : Valuation τ sig (Elt Ideal), (StableHlo.after hostOps0_4 V (Proc.devRef .tc main_v20) : S1x1024.Idx → EReal)
      = (shapeCast S1x1024 (V (Proc.devRef .tc main_arg1)) shapeCasts_S1024_S1x1024 : S1x1024.Idx → EReal) := by
    intro V
    after_results
    rfl
  refine (congrFun (e' (W4 m ρ c)) _).trans ?_
  rw [W4_args m ρ c main_arg1 (by decide)]
  pointwise

end Cert.KernelIdeal.Whole
-- ==== Proof.FoxRow.lean ====
module

public import proofs.«01_k».proof.Proof.FfnRow

@[expose] public section

set_option maxRecDepth 16384

noncomputable section

open Idealize.ShloMosaic Idealize.ShloMosaic.TcCoe Idealize.SL.Sem

namespace Cert.FoxRow

open Cert.FfnRow (rms c1024)

/-- `sigmoid x`, as both programs write it. -/
def sigm (x : EReal) : EReal := Ideal.div 1 (1 + Ideal.exp (-x))

/-- One entry of the projected row: the normalised row against a column of the weights, and the bias. -/
def proj (x g w : Fin 1024 → EReal) (b : EReal) : EReal := (∑ k, rms c1024 x g k * w k) + b

end Cert.FoxRow
-- ==== Proof.FoxProj.lean ====
module

public import proofs.«01_k».proof.Proof.FoxHost
public import proofs.«01_k».proof.Proof.FoxRow

@[expose] public section

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.FoxRow Cert.FfnRow

/-- The normalised block against columns `o …` of the weights: what each of the projections reads. -/
abbrev pr (x0 : FVec Ideal S384x1024 .f32) (x1 : FVec Ideal S1x1024 .f32) (x2 : FVec Ideal S1024x3200 .bf16) (x3 : FVec Ideal S1x3200 .f32)
    (i : Fin 384) (l : Fin 3200) : EReal :=
  proj (fun k => x0 (ix2 i k)) (fun k => x1 (ix2 0 k)) (fun k => x2 (ix2 k l)) (x3 (ix2 0 l))

variable (x0 : FVec Ideal S384x1024 .f32) (x1 : FVec Ideal S1x1024 .f32) (x2 : FVec Ideal S1024x3200 .bf16) (x3 : FVec Ideal S1x3200 .f32)

/-- The normalised block. -/
theorem pay25_at (i : Fin 384) (k : Fin 1024) : k0_pay25 (F := Ideal) x0 x1 x2 x3 (ix2 i k) = rms c1024 (fun k => x0 (ix2 i k)) (fun k => x1 (ix2 0 k)) k := by
  pointwise [k0_pay25, k0_pay3]
  rfl

/-- The scaled queries' block. -/
theorem pay26_at (i : Fin 384) (j : Fin 512) : k0_pay26 (F := Ideal) x0 x1 x2 x3 (ix2 i j)
    = pr x0 x1 x2 x3 i ⟨j.val, by omega⟩ * Named.named κ "scale" 0x3E38AA3B#32 := by
  pointwise [k0_pay26, k0_pay4, k0_pay3]
  rfl

/-- The keys' block. -/
theorem pay27_at (i : Fin 384) (j : Fin 512) : k0_pay27 (F := Ideal) x0 x1 x2 x3 (ix2 i j) = pr x0 x1 x2 x3 i ⟨512 + j.val, by omega⟩ := by
  pointwise [k0_pay27, k0_pay5, k0_pay3]
  rfl

/-- The values' block. -/
theorem pay29_at (i : Fin 384) (j : Fin 512) : k0_pay29 (F := Ideal) x0 x1 x2 x3 (ix2 i j) = pr x0 x1 x2 x3 i ⟨1024 + j.val, by omega⟩ := by
  pointwise [k0_pay29, k0_pay28, k0_pay7, k0_pay6, k0_pay3]
  rfl

/-- The gated linear unit's block. -/
theorem pay21_at (i : Fin 384) (j : Fin 256) : k0_pay21 (F := Ideal) (k0_pay25 x0 x1 x2 x3) (View.ld x2 r0_13) (View.ld x3 r0_14) (ix2 i j)
    = pr x0 x1 x2 x3 i ⟨1536 + j.val, by omega⟩ * sigm (pr x0 x1 x2 x3 i ⟨1536 + (256 + j.val), by omega⟩) := by
  pointwise [k0_pay21, k0_pay25, k0_pay3]
  simp only [zero_sub]
  rfl

/-- The delta mixer's projections' block. -/
theorem pay22_at (i : Fin 384) (j : Fin 768) : k0_pay22 (F := Ideal) (k0_pay25 x0 x1 x2 x3) (View.ld x2 r0_16) (View.ld x3 r0_17) (ix2 i j)
    = pr x0 x1 x2 x3 i ⟨2048 + j.val, by omega⟩ := by
  pointwise [k0_pay22, k0_pay25, k0_pay3]
  rfl

/-- The delta mixer's output gate's block. -/
theorem pay1_at (i : Fin 384) (j : Fin 256) : k0_pay1 (F := Ideal) (k0_pay23 (k0_pay25 x0 x1 x2 x3) (View.ld x2 r0_19)) (k0_pay24 (View.ld x3 r0_20)) (ix2 i j)
    = pr x0 x1 x2 x3 i ⟨2816 + j.val, by omega⟩ := by
  pointwise [k0_pay1, k0_pay23, k0_pay24, k0_pay25, k0_pay3]
  rfl

/-- The narrow projections' block. -/
theorem pay2_at (i : Fin 384) (j : Fin 128) : k0_pay2 (F := Ideal) (k0_pay25 x0 x1 x2 x3) (View.ld x2 r0_21) (View.ld x3 r0_22) (ix2 i j)
    = pr x0 x1 x2 x3 i ⟨3072 + j.val, by omega⟩ := by
  pointwise [k0_pay2, k0_pay25, k0_pay3]
  rfl

/-- The scaled queries, two heads to a lane group. -/
theorem out4_at (p : Fin 4) (i : Fin 384) (j : Fin 128) : (out0_4 (F := Ideal) x0 x1 x2 x3 : S4x384x128.Idx → EReal) (ix3 p i j)
    = k0_pay26 (F := Ideal) x0 x1 x2 x3 (ix2 i ⟨128 * p.val + j.val, by omega⟩) := by
  unfold out0_4
  canon_tiles x h
  all_goals (replace h0 : p.val = _ := h0; replace h1 : i.val = _ := h1; replace h2 : j.val = _ := h2; open_payloads; pointwise; blk_ext)

/-- The keys, two heads to a lane group. -/
theorem out5_at (p : Fin 4) (i : Fin 384) (j : Fin 128) : (out0_5 (F := Ideal) x0 x1 x2 x3 : S4x384x128.Idx → EReal) (ix3 p i j)
    = k0_pay27 (F := Ideal) x0 x1 x2 x3 (ix2 i ⟨128 * p.val + j.val, by omega⟩) := by
  unfold out0_5
  canon_tiles x h
  all_goals (replace h0 : p.val = _ := h0; replace h1 : i.val = _ := h1; replace h2 : j.val = _ := h2; open_payloads; pointwise; blk_ext)

/-- The values, two heads to a lane group. -/
theorem out6_at (p : Fin 4) (i : Fin 384) (j : Fin 128) : (out0_6 (F := Ideal) x0 x1 x2 x3 : S4x384x128.Idx → EReal) (ix3 p i j)
    = k0_pay29 (F := Ideal) x0 x1 x2 x3 (ix2 i ⟨128 * p.val + j.val, by omega⟩) := by
  unfold out0_6
  canon_tiles x h
  all_goals (replace h0 : p.val = _ := h0; replace h1 : i.val = _ := h1; replace h2 : j.val = _ := h2; open_payloads; pointwise; first | (blk_ext; done) | skip)
  obtain rfl : i = x 1 := Fin.ext h1
  refine Eq.trans ?_ (pay29_at x0 x1 x2 x3 _ _).symm
  exact congrArg (pr x0 x1 x2 x3 (x 1)) (Fin.ext (by dsimp only; omega))

end Cert.KernelIdeal.Whole
-- ==== Proof.FoxArr.lean ====
module

public import proofs.«01_k».proof.Proof.FoxProj

@[expose] public section

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.FoxRow Cert.FfnRow

variable (m : (ℓ : Loc nD τ sig) → Buf (Elt Ideal) ℓ) (ρ : Dev nD → PrngReg)

/-- The projected row of batch element `b`, position `t`, at column `l` of the given weights, over the kernel's argument arrays. -/
def P (c : Dev nD) (b : Fin 8) (t : Fin 2064) (l : Fin 3088) : EReal :=
  proj (fun k => (m ((c.tc : Thread nD τ).loc main_arg0) : S8x2064x1024.Idx → EReal) (ix3 b t k))
    (fun k => (m ((c.tc : Thread nD τ).loc main_arg1) : S1024.Idx → EReal) (ix1 k))
    (fun k => (m ((c.tc : Thread nD τ).loc main_arg2) : S1024x3088.Idx → EReal) (ix2 k l))
    ((m ((c.tc : Thread nD τ).loc main_arg3) : S3088.Idx → EReal) (ix1 l))

/-- The queries' scale, as the kernel names it. -/
abbrev scaleC : Ideal .f32 := Named.named κ "scale" 0x3E38AA3B#32

/-- The same by the row's number in the flattened batch. -/
def PF (c : Dev nD) (r : Fin 16512) (l : Fin 3088) : EReal := P m c ⟨r.val / 2064, by omega⟩ ⟨r.val % 2064, by omega⟩ l

/-- Where each window's block of the projection starts, at every grid point. -/
theorem idx0 : ∀ t : Fin cfg0.N, win0_0.index t = ![t.val, 0] ∧ win0_1.index t = ![0, 0] ∧ win0_2.index t = ![0, 0] ∧ win0_3.index t = ![0, 0]
    ∧ win0_4.index t = ![0, t.val, 0] ∧ win0_5.index t = ![0, t.val, 0] ∧ win0_6.index t = ![0, t.val, 0] ∧ win0_7.index t = ![t.val, 0] ∧ win0_8.index t = ![t.val, 0]
    ∧ win0_9.index t = ![t.val, 0] ∧ win0_10.index t = ![t.val, 0] ∧ win0_11.index t = ![t.val, 0] ∧ win0_12.index t = ![t.val, 0] ∧ win0_13.index t = ![t.val, 0] ∧ t.val < 43 :=
  (by decide +kernel : ∀ t : Fin grid0.N, _)

/-- The number of the grid's points bounds a point. -/
theorem lt0 (t : Fin cfg0.N) : t.val < 43 := (idx0 t).2.2.2.2.2.2.2.2.2.2.2.2.2.2

/-- The rows' block, at an entry. -/
theorem iblk0_0 (c : Dev nD) (t : Fin cfg0.N) (i : Fin 384) (k : Fin 1024) : (iblk0 (V5 m ρ) c 0 t (ix2 i k) : EReal)
    = (V5 m ρ c main_v19 : S16512x1024.Idx → EReal) (ix2 ⟨384 * t.val + i.val, by have := lt0 t; omega⟩ k) := by
  blk_simp [iblk0, idx0 t]
  pointwise
  blk_ext [idx0 t]

/-- The norm's weights' block, at an entry. -/
theorem iblk0_1 (c : Dev nD) (t : Fin cfg0.N) (k : Fin 1024) : (iblk0 (V5 m ρ) c 1 t (ix2 0 k) : EReal)
    = (V5 m ρ c main_v20 : S1x1024.Idx → EReal) (ix2 0 k) := by
  blk_simp [iblk0, idx0 t]
  pointwise
  blk_ext [idx0 t]

/-- The permuted weights' block, at an entry. -/
theorem iblk0_2 (c : Dev nD) (t : Fin cfg0.N) (k : Fin 1024) (l : Fin 3200) : (iblk0 (V5 m ρ) c 2 t (ix2 k l) : EReal)
    = (V5 m ρ c main_v9 : S1024x3200.Idx → EReal) (ix2 k l) := by
  blk_simp [iblk0, idx0 t]
  pointwise
  blk_ext [idx0 t]

/-- The permuted biases' block, at an entry. -/
theorem iblk0_3 (c : Dev nD) (t : Fin cfg0.N) (l : Fin 3200) : (iblk0 (V5 m ρ) c 3 t (ix2 0 l) : EReal)
    = (V5 m ρ c main_v21 : S1x3200.Idx → EReal) (ix2 0 l) := by
  blk_simp [iblk0, idx0 t]
  pointwise
  blk_ext [idx0 t]

/-- A block's projection is the layer's, at the column the permutation puts there. -/
theorem pr_eq (c : Dev nD) (t : Fin cfg0.N) (i : Fin 384) (l : Fin 3088) (q : Fin 3088) (hq : pcol l = q) (h : l.val < 3200) :
    pr (iblk0 (V5 m ρ) c 0 t) (iblk0 (V5 m ρ) c 1 t) (iblk0 (V5 m ρ) c 2 t) (iblk0 (V5 m ρ) c 3 t) i ⟨l.val, h⟩
      = PF m c ⟨384 * t.val + i.val, by have := lt0 t; omega⟩ q := by
  subst hq
  unfold pr PF P
  congr 1
  · funext k; rw [iblk0_0, x_at]
  · funext k; rw [iblk0_1, g_at]
  · funext k; rw [iblk0_2, w_at]
  · rw [iblk0_3, b_at]

/-- The permutation of the columns, at the columns each result reads. -/
theorem pcol_val (l : Fin 3088) : (pcol l).val = if l.val < 1536 then l.val else if l.val < 2816 then l.val + 8 else if l.val < 3072 then l.val + 16
    else if l.val < 3080 then l.val - 1536 else l.val - 256 := by
  unfold pcol
  split_ifs <;> rfl

/-- The keys, as the projection leaves them, as an array. -/
def keysArr (c : Dev nD) : S16512x512.Idx → EReal := fun y =>
  PF m c (y 0) ⟨512 + (y 1).val, by have : (y 1).val < 512 := (y 1).isLt; omega⟩

/-- The keys, as the projection leaves them. -/
theorem kf_at (c : Dev nD) : (W6 m ρ c (Proc.devRef .tc main_v22_4) : S16512x512.Idx → EReal) = keysArr m c := by
  refine (W6_arr m ρ c 8).trans ((dat0 (V5 m ρ) c).arrAt_eq_of_covers 8 _ (by decide +kernel) fun t _ y => ?_)
  blk_simp
  rw [after0_8]
  frame_out
  idx_vars y
  have e : ((View.whole main_v22_4).slice (win0_8.rect t)).emb (ix2 y0 y1) = (ix2 ⟨384 * t.val + y0.val, by have := lt0 t; omega⟩ y1 : S16512x512.Idx) := by
    blk_ext [idx0 t]
  rw [e]
  refine (pay27_at (iblk0 (V5 m ρ) c 0 t) (iblk0 (V5 m ρ) c 1 t) (iblk0 (V5 m ρ) c 2 t) (iblk0 (V5 m ρ) c 3 t) y0 y1).trans ?_
  exact pr_eq m ρ c t _ ⟨512 + y1.val, by omega⟩ ⟨512 + y1.val, by omega⟩ (Fin.ext (by rw [pcol_val]; dsimp only; split_ifs <;> omega)) (by dsimp only; omega)

/-- The values, as the projection leaves them, as an array. -/
def valsArr (c : Dev nD) : S16512x512.Idx → EReal := fun y =>
  PF m c (y 0) ⟨1024 + (y 1).val, by have : (y 1).val < 512 := (y 1).isLt; omega⟩

/-- The values, as the projection leaves them. -/
theorem vf_at (c : Dev nD) : (W6 m ρ c (Proc.devRef .tc main_v22_5) : S16512x512.Idx → EReal) = valsArr m c := by
  refine (W6_arr m ρ c 9).trans ((dat0 (V5 m ρ) c).arrAt_eq_of_covers 9 _ (by decide +kernel) fun t _ y => ?_)
  blk_simp
  rw [after0_9]
  frame_out
  idx_vars y
  have e : ((View.whole main_v22_5).slice (win0_9.rect t)).emb (ix2 y0 y1) = (ix2 ⟨384 * t.val + y0.val, by have := lt0 t; omega⟩ y1 : S16512x512.Idx) := by
    blk_ext [idx0 t]
  rw [e]
  refine (pay29_at (iblk0 (V5 m ρ) c 0 t) (iblk0 (V5 m ρ) c 1 t) (iblk0 (V5 m ρ) c 2 t) (iblk0 (V5 m ρ) c 3 t) y0 y1).trans ?_
  exact pr_eq m ρ c t _ ⟨1024 + y1.val, by omega⟩ ⟨1024 + y1.val, by omega⟩ (Fin.ext (by rw [pcol_val]; dsimp only; split_ifs <;> omega)) (by dsimp only; omega)

/-- The gated linear unit's rows, as the projection leaves them, as an array. -/
def gluArr (c : Dev nD) : S16512x256.Idx → EReal := fun y =>
  PF m c (y 0) ⟨1544 + (y 1).val, by have : (y 1).val < 256 := (y 1).isLt; omega⟩ * sigm (PF m c (y 0) ⟨1800 + (y 1).val, by have : (y 1).val < 256 := (y 1).isLt; omega⟩)

/-- The gated linear unit's rows, as the projection leaves them. -/
theorem hh_at (c : Dev nD) : (W6 m ρ c (Proc.devRef .tc main_v22_6) : S16512x256.Idx → EReal) = gluArr m c := by
  refine (W6_arr m ρ c 10).trans ((dat0 (V5 m ρ) c).arrAt_eq_of_covers 10 _ (by decide +kernel) fun t _ y => ?_)
  blk_simp
  rw [after0_10]
  frame_out
  idx_vars y
  have e : ((View.whole main_v22_6).slice (win0_10.rect t)).emb (ix2 y0 y1) = (ix2 ⟨384 * t.val + y0.val, by have := lt0 t; omega⟩ y1 : S16512x256.Idx) := by
    blk_ext [idx0 t]
  rw [e]
  refine (pay21_at (iblk0 (V5 m ρ) c 0 t) (iblk0 (V5 m ρ) c 1 t) (iblk0 (V5 m ρ) c 2 t) (iblk0 (V5 m ρ) c 3 t) y0 y1).trans ?_
  exact congrArg₂ (fun a b => a * sigm b) (pr_eq m ρ c t _ ⟨1536 + y1.val, by omega⟩ ⟨1544 + y1.val, by omega⟩ (Fin.ext (by rw [pcol_val]; dsimp only; split_ifs <;> omega)) (by dsimp only; omega))
    (pr_eq m ρ c t _ ⟨1536 + (256 + y1.val), by omega⟩ ⟨1800 + y1.val, by omega⟩ (Fin.ext (by rw [pcol_val]; dsimp only; split_ifs <;> omega)) (by dsimp only; omega))

/-- The delta mixer's rows, as the projection leaves them, as an array. -/
def qkvcArr (c : Dev nD) : S16512x768.Idx → EReal := fun y =>
  PF m c (y 0) ⟨2056 + (y 1).val, by have : (y 1).val < 768 := (y 1).isLt; omega⟩

/-- The delta mixer's rows, as the projection leaves them. -/
theorem qkvc_at (c : Dev nD) : (W6 m ρ c (Proc.devRef .tc main_v22_7) : S16512x768.Idx → EReal) = qkvcArr m c := by
  refine (W6_arr m ρ c 11).trans ((dat0 (V5 m ρ) c).arrAt_eq_of_covers 11 _ (by decide +kernel) fun t _ y => ?_)
  blk_simp
  rw [after0_11]
  frame_out
  idx_vars y
  have e : ((View.whole main_v22_7).slice (win0_11.rect t)).emb (ix2 y0 y1) = (ix2 ⟨384 * t.val + y0.val, by have := lt0 t; omega⟩ y1 : S16512x768.Idx) := by
    blk_ext [idx0 t]
  rw [e]
  refine (pay22_at (iblk0 (V5 m ρ) c 0 t) (iblk0 (V5 m ρ) c 1 t) (iblk0 (V5 m ρ) c 2 t) (iblk0 (V5 m ρ) c 3 t) y0 y1).trans ?_
  exact pr_eq m ρ c t _ ⟨2048 + y1.val, by omega⟩ ⟨2056 + y1.val, by omega⟩ (Fin.ext (by rw [pcol_val]; dsimp only; split_ifs <;> omega)) (by dsimp only; omega)

/-- The delta mixer's output gate, as the projection leaves it, as an array. -/
def zArr (c : Dev nD) : S16512x256.Idx → EReal := fun y =>
  PF m c (y 0) ⟨2832 + (y 1).val, by have : (y 1).val < 256 := (y 1).isLt; omega⟩

/-- The delta mixer's output gate, as the projection leaves it. -/
theorem zz_at (c : Dev nD) : (W6 m ρ c (Proc.devRef .tc main_v22_8) : S16512x256.Idx → EReal) = zArr m c := by
  refine (W6_arr m ρ c 12).trans ((dat0 (V5 m ρ) c).arrAt_eq_of_covers 12 _ (by decide +kernel) fun t _ y => ?_)
  blk_simp
  rw [after0_12]
  frame_out
  idx_vars y
  have e : ((View.whole main_v22_8).slice (win0_12.rect t)).emb (ix2 y0 y1) = (ix2 ⟨384 * t.val + y0.val, by have := lt0 t; omega⟩ y1 : S16512x256.Idx) := by
    blk_ext [idx0 t]
  rw [e]
  refine (pay1_at (iblk0 (V5 m ρ) c 0 t) (iblk0 (V5 m ρ) c 1 t) (iblk0 (V5 m ρ) c 2 t) (iblk0 (V5 m ρ) c 3 t) y0 y1).trans ?_
  exact pr_eq m ρ c t _ ⟨2816 + y1.val, by omega⟩ ⟨2832 + y1.val, by omega⟩ (Fin.ext (by rw [pcol_val]; dsimp only; split_ifs <;> omega)) (by dsimp only; omega)

/-- The scaled queries, two heads to a lane group, as an array. -/
def qArr (c : Dev nD) : S4x16512x128.Idx → EReal := fun y =>
  PF m c (y 1) ⟨128 * (y 0).val + (y 2).val, by have : (y 0).val < 4 := (y 0).isLt; have : (y 2).val < 128 := (y 2).isLt; omega⟩ * scaleC

/-- The scaled queries, two heads to a lane group. -/
theorem qb_at (c : Dev nD) : (W6 m ρ c (Proc.devRef .tc main_v22_0) : S4x16512x128.Idx → EReal) = qArr m c := by
  refine (W6_arr m ρ c 4).trans ((dat0 (V5 m ρ) c).arrAt_eq_of_covers 4 _ (by decide +kernel) fun t _ y => ?_)
  blk_simp
  rw [after0_4]
  idx_vars y
  have e : ((View.whole main_v22_0).slice (win0_4.rect t)).emb (ix3 y0 y1 y2) = (ix3 y0 ⟨384 * t.val + y1.val, by have := lt0 t; omega⟩ y2 : S4x16512x128.Idx) := by
    blk_ext [idx0 t]
  rw [e]
  refine (out4_at (iblk0 (V5 m ρ) c 0 t) (iblk0 (V5 m ρ) c 1 t) (iblk0 (V5 m ρ) c 2 t) (iblk0 (V5 m ρ) c 3 t) y0 y1 y2).trans ?_
  refine (pay26_at (iblk0 (V5 m ρ) c 0 t) (iblk0 (V5 m ρ) c 1 t) (iblk0 (V5 m ρ) c 2 t) (iblk0 (V5 m ρ) c 3 t) y1 _).trans ?_
  exact congrArg (· * _) (pr_eq m ρ c t _ ⟨128 * y0.val + y2.val, by omega⟩ ⟨128 * y0.val + y2.val, by omega⟩ (Fin.ext (by rw [pcol_val]; dsimp only; split_ifs <;> omega)) (by dsimp only; omega))

/-- The keys, two heads to a lane group, as an array. -/
def kArr (c : Dev nD) : S4x16512x128.Idx → EReal := fun y =>
  PF m c (y 1) ⟨512 + (128 * (y 0).val + (y 2).val), by have : (y 0).val < 4 := (y 0).isLt; have : (y 2).val < 128 := (y 2).isLt; omega⟩

/-- The keys, two heads to a lane group. -/
theorem kb_at (c : Dev nD) : (W6 m ρ c (Proc.devRef .tc main_v22_1) : S4x16512x128.Idx → EReal) = kArr m c := by
  refine (W6_arr m ρ c 5).trans ((dat0 (V5 m ρ) c).arrAt_eq_of_covers 5 _ (by decide +kernel) fun t _ y => ?_)
  blk_simp
  rw [after0_5]
  idx_vars y
  have e : ((View.whole main_v22_1).slice (win0_5.rect t)).emb (ix3 y0 y1 y2) = (ix3 y0 ⟨384 * t.val + y1.val, by have := lt0 t; omega⟩ y2 : S4x16512x128.Idx) := by
    blk_ext [idx0 t]
  rw [e]
  refine (out5_at (iblk0 (V5 m ρ) c 0 t) (iblk0 (V5 m ρ) c 1 t) (iblk0 (V5 m ρ) c 2 t) (iblk0 (V5 m ρ) c 3 t) y0 y1 y2).trans ?_
  refine (pay27_at (iblk0 (V5 m ρ) c 0 t) (iblk0 (V5 m ρ) c 1 t) (iblk0 (V5 m ρ) c 2 t) (iblk0 (V5 m ρ) c 3 t) y1 _).trans ?_
  exact pr_eq m ρ c t _ ⟨512 + (128 * y0.val + y2.val), by omega⟩ ⟨512 + (128 * y0.val + y2.val), by omega⟩ (Fin.ext (by rw [pcol_val]; dsimp only; split_ifs <;> omega)) (by dsimp only; omega)

/-- The values, two heads to a lane group, as an array. -/
def vArr (c : Dev nD) : S4x16512x128.Idx → EReal := fun y =>
  PF m c (y 1) ⟨1024 + (128 * (y 0).val + (y 2).val), by have : (y 0).val < 4 := (y 0).isLt; have : (y 2).val < 128 := (y 2).isLt; omega⟩

/-- The values, two heads to a lane group. -/
theorem vb_at (c : Dev nD) : (W6 m ρ c (Proc.devRef .tc main_v22_2) : S4x16512x128.Idx → EReal) = vArr m c := by
  refine (W6_arr m ρ c 6).trans ((dat0 (V5 m ρ) c).arrAt_eq_of_covers 6 _ (by decide +kernel) fun t _ y => ?_)
  blk_simp
  rw [after0_6]
  idx_vars y
  have e : ((View.whole main_v22_2).slice (win0_6.rect t)).emb (ix3 y0 y1 y2) = (ix3 y0 ⟨384 * t.val + y1.val, by have := lt0 t; omega⟩ y2 : S4x16512x128.Idx) := by
    blk_ext [idx0 t]
  rw [e]
  refine (out6_at (iblk0 (V5 m ρ) c 0 t) (iblk0 (V5 m ρ) c 1 t) (iblk0 (V5 m ρ) c 2 t) (iblk0 (V5 m ρ) c 3 t) y0 y1 y2).trans ?_
  refine (pay29_at (iblk0 (V5 m ρ) c 0 t) (iblk0 (V5 m ρ) c 1 t) (iblk0 (V5 m ρ) c 2 t) (iblk0 (V5 m ρ) c 3 t) y1 _).trans ?_
  exact pr_eq m ρ c t _ ⟨1024 + (128 * y0.val + y2.val), by omega⟩ ⟨1024 + (128 * y0.val + y2.val), by omega⟩ (Fin.ext (by rw [pcol_val]; dsimp only; split_ifs <;> omega)) (by dsimp only; omega)

end Cert.KernelIdeal.Whole
-- ==== Proof.FoxSmall.lean ====
module

public import proofs.«01_k».proof.Proof.FoxArr

@[expose] public section

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.FoxRow Cert.FfnRow

variable (m : (ℓ : Loc nD τ sig) → Buf (Elt Ideal) ℓ) (ρ : Dev nD → PrngReg)

/-- The forget gates' columns, in the narrow projections' first lanes; the other lanes are not described. -/
def gateArr (c : Dev nD) (i : S16512x128.Idx) : EReal := if h : (i 1).val < 8 then PF m c (i 0) ⟨1536 + (i 1).val, by omega⟩ else 0

/-- The narrow projections, as the projection leaves them: the forget gates' columns. -/
theorem small_at (c : Dev nD) (r : Fin 16512) (j : Fin 8) : (W6 m ρ c (Proc.devRef .tc main_v22_9) : S16512x128.Idx → EReal) (ix2 r ⟨j.val, by omega⟩) = PF m c r ⟨1536 + j.val, by omega⟩ := by
  have key : ∀ i : S16512x128.Idx, (i 1).val < 8 → ((dat0 (V5 m ρ) c).arrAt 13 cfg0.N : S16512x128.Idx → EReal) i = gateArr m c i := by
    refine (dat0 (V5 m ρ) c).arrAt_forall_of_covers 13 (fun i v => ((i : S16512x128.Idx) 1).val < 8 → (v : EReal) = gateArr m c i) (by decide +kernel) fun t _ y => ?_
    have e : ∀ (y0 : Fin 384) (y1 : Fin 128), ((View.whole main_v22_9).slice (win0_13.rect t)).emb (ix2 y0 y1) = (ix2 ⟨384 * t.val + y0.val, by have := lt0 t; omega⟩ y1 : S16512x128.Idx) := by
      intro y0 y1
      blk_ext [idx0 t]
    blk_simp
    rw [after0_13]
    frame_out
    idx_vars y
    rw [e]
    intro h0
    have e1 : win0_13.index t 1 = 0 := by rw [(idx0 t).2.2.2.2.2.2.2.2.2.2.2.2.2.1]; rfl
    have h : y1.val < 8 := by rw [e1] at h0; omega
    refine ((pay2_at (iblk0 (V5 m ρ) c 0 t) (iblk0 (V5 m ρ) c 1 t) (iblk0 (V5 m ρ) c 2 t) (iblk0 (V5 m ρ) c 3 t) y0 y1).trans
      (pr_eq m ρ c t _ ⟨3072 + y1.val, by omega⟩ ⟨1536 + y1.val, by omega⟩ (Fin.ext (by rw [pcol_val]; dsimp only; split_ifs <;> omega)) (by dsimp only; omega))).trans ?_
    symm
    unfold gateArr
    exact dif_pos h
  refine (congrFun (W6_arr m ρ c 13) _).trans ((key (ix2 r ⟨j.val, by omega⟩) j.isLt).trans ?_)
  exact dif_pos j.isLt

end Cert.KernelIdeal.Whole
-- ==== Proof.FoxGates.lean ====
module

public import proofs.«01_k».proof.Proof.FoxCum
public import proofs.«01_k».proof.Proof.FoxSmall
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.FoxSoft Cert.FoxRow

/-- A chunk's rows are the running sums' rows there. -/
theorem piece_cum (x : Vec Ideal S2064x128 .f32) (o n : ℕ) (inb : ∀ a, (![o, 0] : Fin 2 → ℕ) a + (![n, 128] : Fin 2 → ℕ) a ≤ S2064x128.size a)
    (Z : (Rect.unit (s := S2064x128) ![o, 0] ![n, 128] inb).shape.Idx → EReal)
    (hZ : ∀ (i : Fin n) (l : Fin 128), Z (ix2 i l) = ∑ s ∈ Finset.range (o + i.val + 1), gateAt x l s) (y : (Rect.unit (s := S2064x128) ![o, 0] ![n, 128] inb).shape.Idx) :
    Z y = cumArr x ((Rect.unit (s := S2064x128) ![o, 0] ![n, 128] inb).emb y) := by
  have e : y = ix2 (y 0) (y 1) := by funext a; fin_cases a <;> rfl
  rw [e]
  refine (hZ (y 0) (y 1)).trans ?_
  unfold cumArr
  refine Finset.sum_congr (congrArg Finset.range ?_) fun s _ => congrArg (fun l => gateAt x l s) (Fin.ext ?_)
  · show o + (y 0).val + 1 = o + 1 * (y 0).val + 1
    omega
  · show (y 1).val = 0 + 1 * (y 1).val
    omega

/-- The same through a reshape to the same shape. -/
theorem piece_cum' (x : Vec Ideal S2064x128 .f32) (o : ℕ) (inb : ∀ a, (![o, 0] : Fin 2 → ℕ) a + (![128, 128] : Fin 2 → ℕ) a ≤ S2064x128.size a)
    (W : FVec Ideal S128x128 .f32) (h : S128x128.ShapeCasts S128x128)
    (hW : ∀ (i : Fin 128) (l : Fin 128), W (ix2 i l) = ∑ s ∈ Finset.range (o + i.val + 1), gateAt x l s) (y : (Rect.unit (s := S2064x128) ![o, 0] ![128, 128] inb).shape.Idx) :
    (shapeCast S128x128 W h : S128x128.Idx → EReal) y = cumArr x ((Rect.unit (s := S2064x128) ![o, 0] ![128, 128] inb).emb y) := by
  refine piece_cum x o 128 inb _ (fun i l => ?_) y
  refine Eq.trans ?_ (hW i l)
  pointwise

/-- Rows `o` to `o + n` of the block are the piece stored there. -/
theorem mem_rows (o n : ℕ) (inb : ∀ a, (![o, 0] : Fin 2 → ℕ) a + (![n, 128] : Fin 2 → ℕ) a ≤ S2064x128.size a) (y : S2064x128.Idx) (h0 : o ≤ (y 0).val) (h1 : (y 0).val < o + n) :
    y ∈ (Rect.unit (s := S2064x128) ![o, 0] ![n, 128] inb).set := by
  refine Rect.mem_set_unit.mpr fun a => ?_
  have b : (y 1).val < 128 := (y 1).isLt
  fin_cases a
  · exact ⟨h0, h1⟩
  · exact ⟨Nat.zero_le _, by show (y 1).val < 0 + 128; omega⟩

/-- Some piece of a list holds an index: the first, from row `n` on, or else one of the others. -/
theorem cover_step (p : View.Piece (Elt Ideal) S2064x128 .f32) (L : List (View.Piece (Elt Ideal) S2064x128 .f32)) (y : S2064x128.Idx) (n : ℕ)
    (h : n ≤ (y 0).val → y ∈ p.1.set) (h' : (y 0).val < n → ∃ q ∈ L, y ∈ q.1.set) : ∃ q ∈ p :: L, y ∈ q.1.set := by
  by_cases e : n ≤ (y 0).val
  · exact ⟨p, List.mem_cons_self, h e⟩
  · obtain ⟨q, hq, m⟩ := h' (by omega)
    exact ⟨q, List.mem_cons_of_mem _ hq, m⟩

/-- The running sums scaled for base two. -/
theorem scaled_at (R : Vec Ideal S2064x128 .f32) (i : Fin 2064) (l : Fin 128) (r : ℝ) (h : (R (ix2 i l) : EReal) = (r : EReal)) : (k1_pay38 R (ix2 i l) : EReal) = ((r * L2 : ℝ) : EReal) := by
  have e : (k1_pay38 R (ix2 i l) : EReal) = (R (ix2 i l) : EReal) * ((L2 : ℝ) : EReal) := by
    clear h
    pointwise [k1_pay38]
    rfl
  rw [e, h, EReal.coe_mul]

/-- The queries' lanes of head pair `p`, from the parts of the running sums. -/
theorem laneq_of (R : Vec Ideal S2064x128 .f32) (C : ℕ → ℕ → ℝ) (hC : ∀ (i : Fin 2064) (j : Fin 8), (R (ix2 i ⟨j.val, by omega⟩) : EReal) = ((C i.val j.val : ℝ) : EReal))
    (p : ℕ) (hp : p < 4) (i : Fin 2064) (l : Fin 12) :
    (if l.val % 6 < 3 then (k1_pay39 (k1_pay38 R) (ix2 i ⟨6 * p + (l.val / 6) * 3 + l.val % 3, by omega⟩) : EReal) else 1)
      = ((laneQ (C i.val (2 * p)) (C i.val (2 * p + 1)) l.val : ℝ) : EReal) := by
  by_cases h : l.val % 6 < 3
  · rw [if_pos h, parts_at (k1_pay38 R) i ⟨6 * p + (l.val / 6) * 3 + l.val % 3, by omega⟩ (C i.val (2 * p + l.val / 6) * L2)
      (scaled_at R i _ _ ((congrArg (fun z => R (ix2 i z)) (Fin.ext (by dsimp only; omega))).trans (hC i ⟨2 * p + l.val / 6, by omega⟩)))]
    refine congrArg _ ?_
    have e : (6 * p + (l.val / 6) * 3 + l.val % 3) % 3 = l.val % 3 := by omega
    dsimp only
    rw [e]
    unfold laneQ
    have := l.isLt
    rcases (by omega : l.val = 0 ∨ l.val = 1 ∨ l.val = 2 ∨ l.val = 6 ∨ l.val = 7 ∨ l.val = 8) with e | e | e | e | e | e <;> simp [e]
  · rw [if_neg h]
    unfold laneQ
    rw [if_neg (by omega), if_neg (by omega), if_neg h]
    rfl

/-- The keys' lanes of head pair `p`, from the parts of the running sums. -/
theorem lanek_of (R : Vec Ideal S2064x128 .f32) (C : ℕ → ℕ → ℝ) (hC : ∀ (i : Fin 2064) (j : Fin 8), (R (ix2 i ⟨j.val, by omega⟩) : EReal) = ((C i.val j.val : ℝ) : EReal))
    (p : ℕ) (hp : p < 4) (i : Fin 2064) (l : Fin 12) :
    (if l.val % 6 < 3 then 1 else 0 - (k1_pay39 (k1_pay38 R) (ix2 i ⟨6 * p + (l.val / 6) * 3 + l.val % 3, by omega⟩) : EReal))
      = ((laneK (C i.val (2 * p)) (C i.val (2 * p + 1)) l.val : ℝ) : EReal) := by
  by_cases h : l.val % 6 < 3
  · rw [if_pos h]
    unfold laneK
    rw [if_neg (by omega), if_neg (by omega), if_pos h]
    rfl
  · rw [if_neg h, parts_at (k1_pay38 R) i ⟨6 * p + (l.val / 6) * 3 + l.val % 3, by omega⟩ (C i.val (2 * p + l.val / 6) * L2)
      (scaled_at R i _ _ ((congrArg (fun z => R (ix2 i z)) (Fin.ext (by dsimp only; omega))).trans (hC i ⟨2 * p + l.val / 6, by omega⟩))), zero_sub, ← EReal.coe_neg]
    refine congrArg _ ?_
    have e : (6 * p + (l.val / 6) * 3 + l.val % 3) % 3 = l.val % 3 := by omega
    dsimp only
    rw [e]
    unfold laneK
    have := l.isLt
    rcases (by omega : l.val = 3 ∨ l.val = 4 ∨ l.val = 5 ∨ l.val = 9 ∨ l.val = 10 ∨ l.val = 11) with e | e | e | e | e | e <;> simp [e]

/-- An index of a one-layer block, from its coordinates. -/
theorem ix3_of (x : S1x2064x128.Idx) (i : Fin 2064) (l : Fin 128) (h1 : i.val = (x 1).val) (h2 : l.val = (x 2).val) : x = ix3 0 i l := by
  have h0 : (x 0).val < 1 := (x 0).isLt
  funext a
  fin_cases a
  · exact Fin.ext (by show (x 0).val = 0; omega)
  · exact Fin.ext h1.symm
  · exact Fin.ext h2.symm

set_option maxHeartbeats 3200000 in
/-- What the gates' body leaves in its two lane arrays, for real running sums `C` of the log gates. -/
theorem lanes_at (V : (c : Dev nD) → (b : Ref sig .tc) → Buf (Elt Ideal) ((c : Thread nD τ).loc b)) (c : Dev nD) (t : Fin cfg1.N) (C : ℕ → ℕ → ℝ)
    (hC : ∀ (i : Fin 2064) (j : Fin 8), cumArr (iblk1 V c 0 t) (ix2 i ⟨j.val, by omega⟩) = ((C i.val j.val : ℝ) : EReal))
    (p : Fin 4) (i : Fin 2064) (l : Fin 12) :
    ((outsAt1 V c t).2.1 (ix3 p i ⟨l.val, by omega⟩) : EReal) = ((laneQ (C i.val (2 * p.val)) (C i.val (2 * p.val + 1)) l.val : ℝ) : EReal)
      ∧ ((outsAt1 V c t).2.2 (ix3 p i ⟨l.val, by omega⟩) : EReal) = ((laneK (C i.val (2 * p.val)) (C i.val (2 * p.val + 1)) l.val : ℝ) : EReal) := by
  unfold outsAt1
  frame_open
  simp (disch := decide) only [View.read_writes_junk_eq_canon, View.ld_unit_lit', View.readAt_eq_ld, Memref.IsWhole.read_unread]
  generalize hR : View.readCov (Val := Elt Ideal) (View.whole cc1_scratch0) _ _ = R
  have key : R = cumArr (iblk1 V c 0 t) := by
    subst hR
    rw [View.readCov_eq_canon']
    funext y
    refine Eq.trans (b := cumArr (iblk1 V c 0 t) (LoadRect.idx _ y)) ?_ (congrArg _ (funext fun a => Fin.ext (by fin_cases a <;> exact (Nat.zero_add _).trans (Nat.one_mul _))))
    refine View.canon_apply_of_pieces (Val := Elt Ideal) (S := S2064x128) (e := .f32) (cumArr (iblk1 V c 0 t)) _ ?_ _ ?_
    · refine View.PiecesOf.mem ⟨?_, ?_, ?_, ?_, ?_, ?_, ?_, ?_, ?_, ?_, ?_, ?_, ?_, ?_, ?_, ?_, ?_, trivial⟩
      · intro y
        exact piece_cum (iblk1 V c 0 t) 2048 16 inb_S2064x128_S16x128_2048_0 _ (tail_at _) y
      · intro y
        exact piece_cum' (iblk1 V c 0 t) 1920 inb_S2064x128_S128x128_1920_0 _ _ (chunk15_at _) y
      · intro y
        exact piece_cum' (iblk1 V c 0 t) 1792 inb_S2064x128_S128x128_1792_0 _ _ (chunk14_at _) y
      · intro y
        exact piece_cum' (iblk1 V c 0 t) 1664 inb_S2064x128_S128x128_1664_0 _ _ (chunk13_at _) y
      · intro y
        exact piece_cum' (iblk1 V c 0 t) 1536 inb_S2064x128_S128x128_1536_0 _ _ (chunk12_at _) y
      · intro y
        exact piece_cum' (iblk1 V c 0 t) 1408 inb_S2064x128_S128x128_1408_0 _ _ (chunk11_at _) y
      · intro y
        exact piece_cum' (iblk1 V c 0 t) 1280 inb_S2064x128_S128x128_1280_0 _ _ (chunk10_at _) y
      · intro y
        exact piece_cum' (iblk1 V c 0 t) 1152 inb_S2064x128_S128x128_1152_0 _ _ (chunk9_at _) y
      · intro y
        exact piece_cum' (iblk1 V c 0 t) 1024 inb_S2064x128_S128x128_1024_0 _ _ (chunk8_at _) y
      · intro y
        exact piece_cum' (iblk1 V c 0 t) 896 inb_S2064x128_S128x128_896_0 _ _ (chunk7_at _) y
      · intro y
        exact piece_cum' (iblk1 V c 0 t) 768 inb_S2064x128_S128x128_768_0 _ _ (chunk6_at _) y
      · intro y
        exact piece_cum' (iblk1 V c 0 t) 640 inb_S2064x128_S128x128_640_0 _ _ (chunk5_at _) y
      · intro y
        exact piece_cum' (iblk1 V c 0 t) 512 inb_S2064x128_S128x128_512_0 _ _ (chunk4_at _) y
      · intro y
        exact piece_cum' (iblk1 V c 0 t) 384 inb_S2064x128_S128x128_384_0 _ _ (chunk3_at _) y
      · intro y
        exact piece_cum' (iblk1 V c 0 t) 256 inb_S2064x128_S128x128_256_0 _ _ (chunk2_at _) y
      · intro y
        exact piece_cum' (iblk1 V c 0 t) 128 inb_S2064x128_S128x128_128_0 _ _ (chunk1_at _) y
      · intro y
        exact piece_cum' (iblk1 V c 0 t) 0 inb_S2064x128_S128x128_0_0 _ _ (chunk0_at _) y
    · generalize (LoadRect.idx _ y : S2064x128.Idx) = y
      have hy : (y 0).val < 2064 := (y 0).isLt
      refine cover_step _ _ y 2048 (fun h => mem_rows 2048 16 inb_S2064x128_S16x128_2048_0 y h (by omega)) fun h16 => ?_
      refine cover_step _ _ y 1920 (fun h => mem_rows 1920 128 inb_S2064x128_S128x128_1920_0 y h (by omega)) fun h15 => ?_
      refine cover_step _ _ y 1792 (fun h => mem_rows 1792 128 inb_S2064x128_S128x128_1792_0 y h (by omega)) fun h14 => ?_
      refine cover_step _ _ y 1664 (fun h => mem_rows 1664 128 inb_S2064x128_S128x128_1664_0 y h (by omega)) fun h13 => ?_
      refine cover_step _ _ y 1536 (fun h => mem_rows 1536 128 inb_S2064x128_S128x128_1536_0 y h (by omega)) fun h12 => ?_
      refine cover_step _ _ y 1408 (fun h => mem_rows 1408 128 inb_S2064x128_S128x128_1408_0 y h (by omega)) fun h11 => ?_
      refine cover_step _ _ y 1280 (fun h => mem_rows 1280 128 inb_S2064x128_S128x128_1280_0 y h (by omega)) fun h10 => ?_
      refine cover_step _ _ y 1152 (fun h => mem_rows 1152 128 inb_S2064x128_S128x128_1152_0 y h (by omega)) fun h9 => ?_
      refine cover_step _ _ y 1024 (fun h => mem_rows 1024 128 inb_S2064x128_S128x128_1024_0 y h (by omega)) fun h8 => ?_
      refine cover_step _ _ y 896 (fun h => mem_rows 896 128 inb_S2064x128_S128x128_896_0 y h (by omega)) fun h7 => ?_
      refine cover_step _ _ y 768 (fun h => mem_rows 768 128 inb_S2064x128_S128x128_768_0 y h (by omega)) fun h6 => ?_
      refine cover_step _ _ y 640 (fun h => mem_rows 640 128 inb_S2064x128_S128x128_640_0 y h (by omega)) fun h5 => ?_
      refine cover_step _ _ y 512 (fun h => mem_rows 512 128 inb_S2064x128_S128x128_512_0 y h (by omega)) fun h4 => ?_
      refine cover_step _ _ y 384 (fun h => mem_rows 384 128 inb_S2064x128_S128x128_384_0 y h (by omega)) fun h3 => ?_
      refine cover_step _ _ y 256 (fun h => mem_rows 256 128 inb_S2064x128_S128x128_256_0 y h (by omega)) fun h2 => ?_
      refine cover_step _ _ y 128 (fun h => mem_rows 128 128 inb_S2064x128_S128x128_128_0 y h (by omega)) fun h1 => ?_
      refine cover_step _ _ y 0 (fun h => mem_rows 0 128 inb_S2064x128_S128x128_0_0 y h (by omega)) fun h0 => ?_
      omega
  clear hR
  subst key
  constructor
  · canon_tiles x h
    all_goals (replace h0 : p.val = _ := h0; replace h1 : i.val = _ := h1; replace h2 : l.val = _ := h2)
    all_goals have ex := ix3_of x i ⟨l.val, by omega⟩ h1 h2
    · obtain rfl : p = 3 := Fin.ext (by show p.val = 3; omega)
      refine (congrArg _ ex).trans ?_
      exact (laneq3_at (k1_pay39 (k1_pay38 (cumArr (iblk1 V c 0 t)))) i l).trans (laneq_of _ C hC 3 (by omega) i l)
    · obtain rfl : p = 2 := Fin.ext (by show p.val = 2; omega)
      refine (congrArg _ ex).trans ?_
      exact (laneq2_at (k1_pay39 (k1_pay38 (cumArr (iblk1 V c 0 t)))) i l).trans (laneq_of _ C hC 2 (by omega) i l)
    · obtain rfl : p = 1 := Fin.ext (by show p.val = 1; omega)
      refine (congrArg _ ex).trans ?_
      exact (laneq1_at (k1_pay39 (k1_pay38 (cumArr (iblk1 V c 0 t)))) i l).trans (laneq_of _ C hC 1 (by omega) i l)
    · obtain rfl : p = 0 := Fin.ext (by show p.val = 0; omega)
      refine (congrArg _ ex).trans ?_
      exact (laneq0_at (k1_pay39 (k1_pay38 (cumArr (iblk1 V c 0 t)))) i l).trans (laneq_of _ C hC 0 (by omega) i l)
  · canon_tiles x h
    all_goals (replace h0 : p.val = _ := h0; replace h1 : i.val = _ := h1; replace h2 : l.val = _ := h2)
    all_goals have ex := ix3_of x i ⟨l.val, by omega⟩ h1 h2
    · obtain rfl : p = 3 := Fin.ext (by show p.val = 3; omega)
      refine (congrArg _ ex).trans ?_
      exact (lanek3_at (k1_pay39 (k1_pay38 (cumArr (iblk1 V c 0 t)))) i l).trans (lanek_of _ C hC 3 (by omega) i l)
    · obtain rfl : p = 2 := Fin.ext (by show p.val = 2; omega)
      refine (congrArg _ ex).trans ?_
      exact (lanek2_at (k1_pay39 (k1_pay38 (cumArr (iblk1 V c 0 t)))) i l).trans (lanek_of _ C hC 2 (by omega) i l)
    · obtain rfl : p = 1 := Fin.ext (by show p.val = 1; omega)
      refine (congrArg _ ex).trans ?_
      exact (lanek1_at (k1_pay39 (k1_pay38 (cumArr (iblk1 V c 0 t)))) i l).trans (lanek_of _ C hC 1 (by omega) i l)
    · obtain rfl : p = 0 := Fin.ext (by show p.val = 0; omega)
      refine (congrArg _ ex).trans ?_
      exact (lanek0_at (k1_pay39 (k1_pay38 (cumArr (iblk1 V c 0 t)))) i l).trans (lanek_of _ C hC 0 (by omega) i l)

end Cert.KernelIdeal.Whole
-- ==== Proof.FoxLanes.lean ====
module

public import proofs.«01_k».proof.Proof.FoxGates

@[expose] public section

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.FoxSoft Cert.FoxRow

variable (m : (ℓ : Loc nD τ sig) → Buf (Elt Ideal) ℓ) (ρ : Dev nD → PrngReg)

/-- Where each window's block of the gates starts, at every grid point. -/
theorem idx1 : ∀ t : Fin cfg1.N, win1_0.index t = ![t.val, 0] ∧ win1_1.index t = ![t.val, 0, 0] ∧ win1_2.index t = ![0, t.val, 0] ∧ win1_3.index t = ![0, t.val, 0] ∧ t.val < 8 :=
  (by decide +kernel : ∀ t : Fin grid1.N, _)

/-- The number of the grid's points bounds a point. -/
theorem lt1 (t : Fin cfg1.N) : t.val < 8 := (idx1 t).2.2.2.2

/-- The log of a head's forget gate at a position, zero past the end. -/
def logG (c : Dev nD) (b : Fin 8) (j : Fin 8) (s : ℕ) : EReal := if h : s < 2064 then logf (P m c b ⟨s, h⟩ ⟨1536 + j.val, by omega⟩) else 0

/-- The gates' block, at an entry: the projected forget column of its head. -/
theorem iblk1_0 (c : Dev nD) (t : Fin cfg1.N) (i : Fin 2064) (j : Fin 8) : (iblk1 (V6 m ρ) c 0 t (ix2 i ⟨j.val, by omega⟩) : EReal)
    = P m c ⟨t.val, lt1 t⟩ i ⟨1536 + j.val, by omega⟩ := by
  have h : (iblk1 (V6 m ρ) c 0 t (ix2 i ⟨j.val, by omega⟩) : EReal) = (V6 m ρ c main_v22_9 : S16512x128.Idx → EReal) (ix2 ⟨2064 * t.val + i.val, by have := lt1 t; omega⟩ ⟨j.val, by omega⟩) := by
    blk_simp [iblk1, idx1 t]
    pointwise
    blk_ext [idx1 t]
  refine h.trans ((small_at m ρ c _ j).trans ?_)
  unfold PF
  have ea : (2064 * t.val + i.val) / 2064 = t.val := by omega
  have eb : (2064 * t.val + i.val) % 2064 = i.val := by omega
  exact congrArg₂ (fun b s => P m c b s ⟨1536 + j.val, by omega⟩) (Fin.ext ea) (Fin.ext eb)

/-- The block's running sums are the heads'. -/
theorem cum_blk (c : Dev nD) (t : Fin cfg1.N) (i : Fin 2064) (j : Fin 8) : cumArr (iblk1 (V6 m ρ) c 0 t) (ix2 i ⟨j.val, by omega⟩)
    = ∑ s ∈ Finset.range (i.val + 1), logG m c ⟨t.val, lt1 t⟩ j s := by
  refine Finset.sum_congr rfl fun s _ => ?_
  unfold gateAt logG
  by_cases h : s < 2064
  · rw [dif_pos h, dif_pos h]
    exact congrArg logf (iblk1_0 m ρ c t ⟨s, h⟩ j)
  · rw [dif_neg h, dif_neg h]

/-- The log gates, head by head. -/
def logArr (c : Dev nD) : S8x2064x8.Idx → EReal := fun y => logf (P m c (y 0) (y 1) ⟨1536 + (y 2).val, by have : (y 2).val < 8 := (y 2).isLt; omega⟩)

/-- The stored log gates. -/
theorem log_arr (c : Dev nD) : (W7 m ρ c (Proc.devRef .tc main_v23_0) : S8x2064x8.Idx → EReal) = logArr m c := by
  refine (W7_arr m ρ c 1).trans ?_
  refine (dat1 (V6 m ρ) c).arrAt_eq_of_covers 1 (logArr m c) (by decide +kernel) fun t _ y => ?_
  have e : ∀ (y0 : Fin 1) (y1 : Fin 2064) (y2 : Fin 8), ((View.whole main_v23_0).slice (win1_1.rect t)).emb (ix3 y0 y1 y2)
      = (ix3 ⟨t.val, lt1 t⟩ y1 y2 : S8x2064x8.Idx) := by
    intro y0 y1 y2
    blk_ext [idx1 t]
  blk_simp
  rw [after1_1]
  idx_vars y
  rw [e]
  obtain rfl : y0 = 0 := Subsingleton.elim _ _
  unfold outsAt1
  frame_out
  refine (logf8_at (iblk1 (V6 m ρ) c 0 t) y1 y2).trans ?_
  exact congrArg logf (iblk1_0 m ρ c t y1 y2)

/-- The queries' gate lanes over the whole batch, of real running sums. -/
def laneQArr (C : ℕ → ℕ → ℕ → ℝ) : S4x16512x128.Idx → EReal := fun i =>
  ((laneQ (C ((i 1).val / 2064) ((i 1).val % 2064) (2 * (i 0).val)) (C ((i 1).val / 2064) ((i 1).val % 2064) (2 * (i 0).val + 1)) (i 2).val : ℝ) : EReal)

/-- The queries' lanes, as the gates' body leaves them, for real running sums `C` of the log gates. -/
theorem laneQ_arr (c : Dev nD) (C : ℕ → ℕ → ℕ → ℝ) (hC : ∀ (b : Fin 8) (i : Fin 2064) (j : Fin 8), (∑ s ∈ Finset.range (i.val + 1), logG m c b j s) = ((C b.val i.val j.val : ℝ) : EReal))
    (p : Fin 4) (r : Fin 16512) (l : Fin 12) : (W7 m ρ c (Proc.devRef .tc main_v23_1) : S4x16512x128.Idx → EReal) (ix3 p r ⟨l.val, by omega⟩)
      = ((laneQ (C (r.val / 2064) (r.val % 2064) (2 * p.val)) (C (r.val / 2064) (r.val % 2064) (2 * p.val + 1)) l.val : ℝ) : EReal) := by
  have key : ∀ i : S4x16512x128.Idx, (i 2).val < 12 → ((dat1 (V6 m ρ) c).arrAt 2 cfg1.N : S4x16512x128.Idx → EReal) i = laneQArr C i := by
    refine (dat1 (V6 m ρ) c).arrAt_forall_of_covers 2 (fun i v => ((i : S4x16512x128.Idx) 2).val < 12 → (v : EReal) = laneQArr C i) (by decide +kernel) fun t _ y => ?_
    have e : ∀ (y0 : Fin 4) (y1 : Fin 2064) (y2 : Fin 128), ((View.whole main_v23_1).slice (win1_2.rect t)).emb (ix3 y0 y1 y2)
        = (ix3 y0 ⟨2064 * t.val + y1.val, by have := lt1 t; omega⟩ y2 : S4x16512x128.Idx) := by
      intro y0 y1 y2
      blk_ext [idx1 t]
    blk_simp
    rw [after1_2]
    idx_vars y
    rw [e]
    intro h0
    have e2 : win1_2.index t 2 = 0 := by rw [(idx1 t).2.2.1]; rfl
    have h : y2.val < 12 := by rw [e2] at h0; omega
    refine ((lanes_at (V6 m ρ) c t (C t.val) (fun i j => (cum_blk m ρ c t i j).trans (hC ⟨t.val, lt1 t⟩ i j)) y0 y1 ⟨y2.val, h⟩).1).trans ?_
    have ea : (2064 * t.val + y1.val) / 2064 = t.val := by omega
    have eb : (2064 * t.val + y1.val) % 2064 = y1.val := by omega
    unfold laneQArr
    show _ = ((laneQ (C ((2064 * t.val + y1.val) / 2064) ((2064 * t.val + y1.val) % 2064) (2 * y0.val)) (C ((2064 * t.val + y1.val) / 2064) ((2064 * t.val + y1.val) % 2064) (2 * y0.val + 1)) y2.val : ℝ) : EReal)
    rw [ea, eb]
  exact (congrFun (W7_arr m ρ c 2) _).trans (key (ix3 p r ⟨l.val, by omega⟩) l.isLt)

/-- The keys' gate lanes over the whole batch, of real running sums. -/
def laneKArr (C : ℕ → ℕ → ℕ → ℝ) : S4x16512x128.Idx → EReal := fun i =>
  ((laneK (C ((i 1).val / 2064) ((i 1).val % 2064) (2 * (i 0).val)) (C ((i 1).val / 2064) ((i 1).val % 2064) (2 * (i 0).val + 1)) (i 2).val : ℝ) : EReal)

/-- The keys' lanes, as the gates' body leaves them, for real running sums `C` of the log gates. -/
theorem laneK_arr (c : Dev nD) (C : ℕ → ℕ → ℕ → ℝ) (hC : ∀ (b : Fin 8) (i : Fin 2064) (j : Fin 8), (∑ s ∈ Finset.range (i.val + 1), logG m c b j s) = ((C b.val i.val j.val : ℝ) : EReal))
    (p : Fin 4) (r : Fin 16512) (l : Fin 12) : (W7 m ρ c (Proc.devRef .tc main_v23_2) : S4x16512x128.Idx → EReal) (ix3 p r ⟨l.val, by omega⟩)
      = ((laneK (C (r.val / 2064) (r.val % 2064) (2 * p.val)) (C (r.val / 2064) (r.val % 2064) (2 * p.val + 1)) l.val : ℝ) : EReal) := by
  have key : ∀ i : S4x16512x128.Idx, (i 2).val < 12 → ((dat1 (V6 m ρ) c).arrAt 3 cfg1.N : S4x16512x128.Idx → EReal) i = laneKArr C i := by
    refine (dat1 (V6 m ρ) c).arrAt_forall_of_covers 3 (fun i v => ((i : S4x16512x128.Idx) 2).val < 12 → (v : EReal) = laneKArr C i) (by decide +kernel) fun t _ y => ?_
    have e : ∀ (y0 : Fin 4) (y1 : Fin 2064) (y2 : Fin 128), ((View.whole main_v23_2).slice (win1_3.rect t)).emb (ix3 y0 y1 y2)
        = (ix3 y0 ⟨2064 * t.val + y1.val, by have := lt1 t; omega⟩ y2 : S4x16512x128.Idx) := by
      intro y0 y1 y2
      blk_ext [idx1 t]
    blk_simp
    rw [after1_3]
    idx_vars y
    rw [e]
    intro h0
    have e2 : win1_3.index t 2 = 0 := by rw [(idx1 t).2.2.2.1]; rfl
    have h : y2.val < 12 := by rw [e2] at h0; omega
    refine ((lanes_at (V6 m ρ) c t (C t.val) (fun i j => (cum_blk m ρ c t i j).trans (hC ⟨t.val, lt1 t⟩ i j)) y0 y1 ⟨y2.val, h⟩).2).trans ?_
    have ea : (2064 * t.val + y1.val) / 2064 = t.val := by omega
    have eb : (2064 * t.val + y1.val) % 2064 = y1.val := by omega
    unfold laneKArr
    show _ = ((laneK (C ((2064 * t.val + y1.val) / 2064) ((2064 * t.val + y1.val) % 2064) (2 * y0.val)) (C ((2064 * t.val + y1.val) / 2064) ((2064 * t.val + y1.val) % 2064) (2 * y0.val + 1)) y2.val : ℝ) : EReal)
    rw [ea, eb]
  exact (congrFun (W7_arr m ρ c 3) _).trans (key (ix3 p r ⟨l.val, by omega⟩) l.isLt)

end Cert.KernelIdeal.Whole
-- ==== Proof.FoxBlk.lean ====
module

public import proofs.«01_k».proof.Proof.Gen.KernelIdeal.Frame
public import proofs.«01_k».proof.Proof.FoxSoft
public import Idealize.ShloMosaic.Lib.Pointwise

@[expose] public section

set_option maxRecDepth 16384

noncomputable section

open Idealize.ShloMosaic Idealize.ShloMosaic.TcCoe Idealize.SL.Sem

namespace Cert.KernelIdeal.Whole

open Cert.KernelIdeal Cert.KernelIdeal.Gen Cert.FoxSoft

/-- The mask's constant. -/
abbrev maskC : Ideal .f32 := Named.named κ "mask" 0xF149F2CA#32

/-- The first block of rows: two heads' causal means, summed lane by lane. -/
theorem blk0_at (Q Qa : Vec Ideal S1x512x128 .bf16) (K : Vec Ideal S512x256 .bf16) (U0 U1 : Vec Ideal S512x128 .bf16) (i : Fin 512) (j : Fin 128) :
    (k2_pay15 k2_pay9 (k2_pay10 (iota .tc S1x128 32 [1] iota_S1x128_d1_w32)) (k2_pay11 Q) (k2_pay12 Qa) k2_pay13 (k2_pay14 k2_pay2 k2_pay8 Q Qa K U0) (Scalar.ofBits .bf16 0x0000#16) K U1 : FVec Ideal S1x512x128 .f32) (ix3 0 i j)
      = attA (fun x : Fin 512 => masked i.val x.val (sc0 (fun l => Q (ix3 0 i l)) (fun l => K (ix2 x ⟨l.val, by omega⟩)) (fun l => Qa (ix3 0 i l)) (fun l => K (ix2 x ⟨128 + l.val, by omega⟩))) maskC) (fun x => U0 (ix2 x j))
        + attA (fun x : Fin 512 => masked i.val x.val (sc1 (fun l => Q (ix3 0 i l)) (fun l => K (ix2 x ⟨l.val, by omega⟩)) (fun l => Qa (ix3 0 i l)) (fun l => K (ix2 x ⟨128 + l.val, by omega⟩))) maskC) (fun x => U1 (ix2 x j)) := by
  pointwise [k2_pay2, k2_pay8, k2_pay9, k2_pay10, k2_pay11, k2_pay12, k2_pay13, k2_pay14, k2_pay15]
  rfl

/-- The second block of rows, with the block of positions before it. -/
theorem blk1_at (Q Qa : Vec Ideal S1x512x128 .bf16) (K : Vec Ideal S512x256 .bf16) (K' : Vec Ideal S512x256 .bf16) (U0 U1 : Vec Ideal S512x128 .bf16) (U0' U1' : Vec Ideal S512x128 .bf16) (i : Fin 512) (j : Fin 128) :
    (k2_pay37 (k2_pay27 (k2_pay25 k2_pay2 k2_pay8 (k2_pay16 Q) (k2_pay17 Qa) k2_pay18 (Scalar.ofBits .bf16 0x0000#16) K K' U0 U0') (k2_pay26 k2_pay2 k2_pay8 (k2_pay16 Q) (k2_pay17 Qa) k2_pay18 (Scalar.ofBits .bf16 0x0000#16) K K')) (k2_pay34 k2_pay9 (k2_pay10 (iota .tc S1x128 32 [1] iota_S1x128_d1_w32)) (k2_pay16 Q) (k2_pay17 Qa) k2_pay18 K K') (k2_pay35 k2_pay9 (k2_pay10 (iota .tc S1x128 32 [1] iota_S1x128_d1_w32)) (k2_pay16 Q) (k2_pay17 Qa) k2_pay18 K K' U1 U1') (k2_pay36 (F := Ideal)) : FVec Ideal S1x512x128 .f32) (ix3 0 i j)
      = attB (fun x : Fin 512 => masked i.val x.val (sc0 (fun l => Q (ix3 0 i l)) (fun l => K (ix2 x ⟨l.val, by omega⟩)) (fun l => Qa (ix3 0 i l)) (fun l => K (ix2 x ⟨128 + l.val, by omega⟩))) maskC) (fun x => U0 (ix2 x j)) (fun x : Fin 512 => sc0 (fun l => Q (ix3 0 i l)) (fun l => K' (ix2 x ⟨l.val, by omega⟩)) (fun l => Qa (ix3 0 i l)) (fun l => K' (ix2 x ⟨128 + l.val, by omega⟩))) (fun x => U0' (ix2 x j))
        + attB (fun x : Fin 512 => masked i.val x.val (sc1 (fun l => Q (ix3 0 i l)) (fun l => K (ix2 x ⟨l.val, by omega⟩)) (fun l => Qa (ix3 0 i l)) (fun l => K (ix2 x ⟨128 + l.val, by omega⟩))) maskC) (fun x => U1 (ix2 x j)) (fun x : Fin 512 => sc1 (fun l => Q (ix3 0 i l)) (fun l => K' (ix2 x ⟨l.val, by omega⟩)) (fun l => Qa (ix3 0 i l)) (fun l => K' (ix2 x ⟨128 + l.val, by omega⟩))) (fun x => U1' (ix2 x j)) := by
  pointwise [k2_pay2, k2_pay8, k2_pay9, k2_pay10, k2_pay16, k2_pay17, k2_pay18, k2_pay19, k2_pay20, k2_pay21, k2_pay22, k2_pay23, k2_pay24, k2_pay25, k2_pay26, k2_pay27, k2_pay28, k2_pay29, k2_pay30, k2_pay31, k2_pay32, k2_pay33, k2_pay34, k2_pay35, k2_pay36, k2_pay37]
  rfl

/-- The third block of rows. -/
theorem blk2_at (Q Qa : Vec Ideal S1x512x128 .bf16) (K : Vec Ideal S512x256 .bf16) (K' : Vec Ideal S1024x256 .bf16) (U0 U1 : Vec Ideal S512x128 .bf16) (U0' U1' : Vec Ideal S1024x128 .bf16) (i : Fin 512) (j : Fin 128) :
    (k2_pay53 (k2_pay47 (k2_pay43 k2_pay2 k2_pay8 Q Qa K') (k2_pay44 k2_pay2 k2_pay8 Q Qa K K') (k2_pay45 k2_pay2 k2_pay8 Q Qa K K') (k2_pay46 k2_pay2 k2_pay8 Q Qa K K') U0 U0') (k2_pay50 k2_pay9 (k2_pay10 (iota .tc S1x128 32 [1] iota_S1x128_d1_w32)) (k2_pay38 Q) (k2_pay39 Qa) K') (k2_pay51 k2_pay9 (k2_pay10 (iota .tc S1x128 32 [1] iota_S1x128_d1_w32)) (k2_pay38 Q) (k2_pay39 Qa) k2_pay40 K K') (k2_pay52 k2_pay9 (k2_pay10 (iota .tc S1x128 32 [1] iota_S1x128_d1_w32)) (k2_pay38 Q) (k2_pay39 Qa) k2_pay40 K K') U1 U1' : FVec Ideal S1x512x128 .f32) (ix3 0 i j)
      = attB (fun x : Fin 512 => masked i.val x.val (sc0 (fun l => Q (ix3 0 i l)) (fun l => K (ix2 x ⟨l.val, by omega⟩)) (fun l => Qa (ix3 0 i l)) (fun l => K (ix2 x ⟨128 + l.val, by omega⟩))) maskC) (fun x => U0 (ix2 x j)) (fun x : Fin 1024 => sc0 (fun l => Q (ix3 0 i l)) (fun l => K' (ix2 x ⟨l.val, by omega⟩)) (fun l => Qa (ix3 0 i l)) (fun l => K' (ix2 x ⟨128 + l.val, by omega⟩))) (fun x => U0' (ix2 x j))
        + attB (fun x : Fin 512 => masked i.val x.val (sc1 (fun l => Q (ix3 0 i l)) (fun l => K (ix2 x ⟨l.val, by omega⟩)) (fun l => Qa (ix3 0 i l)) (fun l => K (ix2 x ⟨128 + l.val, by omega⟩))) maskC) (fun x => U1 (ix2 x j)) (fun x : Fin 1024 => sc1 (fun l => Q (ix3 0 i l)) (fun l => K' (ix2 x ⟨l.val, by omega⟩)) (fun l => Qa (ix3 0 i l)) (fun l => K' (ix2 x ⟨128 + l.val, by omega⟩))) (fun x => U1' (ix2 x j)) := by
  pointwise [k2_pay2, k2_pay8, k2_pay9, k2_pay10, k2_pay38, k2_pay39, k2_pay40, k2_pay41, k2_pay42, k2_pay43, k2_pay44, k2_pay45, k2_pay46, k2_pay47, k2_pay48, k2_pay49, k2_pay50, k2_pay51, k2_pay52, k2_pay53]
  rfl

/-- The fourth block of rows. -/
theorem blk3_at (Q Qa : Vec Ideal S1x512x128 .bf16) (K : Vec Ideal S512x256 .bf16) (K' : Vec Ideal S1536x256 .bf16) (U0 U1 : Vec Ideal S512x128 .bf16) (U0' U1' : Vec Ideal S1536x128 .bf16) (i : Fin 512) (j : Fin 128) :
    (k2_pay62 (k2_pay55 Qa) k2_pay56 (k2_pay58 k2_pay56 (k2_pay57 k2_pay2 k2_pay8 Q Qa) K K' U0 U0') (k2_pay59 k2_pay9 (k2_pay54 Q)) (k2_pay60 (k2_pay10 (iota .tc S1x128 32 [1] iota_S1x128_d1_w32))) (k2_pay61 (F := Ideal)) K K' U1 U1' : FVec Ideal S1x512x128 .f32) (ix3 0 i j)
      = attB (fun x : Fin 512 => masked i.val x.val (sc0 (fun l => Q (ix3 0 i l)) (fun l => K (ix2 x ⟨l.val, by omega⟩)) (fun l => Qa (ix3 0 i l)) (fun l => K (ix2 x ⟨128 + l.val, by omega⟩))) maskC) (fun x => U0 (ix2 x j)) (fun x : Fin 1536 => sc0 (fun l => Q (ix3 0 i l)) (fun l => K' (ix2 x ⟨l.val, by omega⟩)) (fun l => Qa (ix3 0 i l)) (fun l => K' (ix2 x ⟨128 + l.val, by omega⟩))) (fun x => U0' (ix2 x j))
        + attB (fun x : Fin 512 => masked i.val x.val (sc1 (fun l => Q (ix3 0 i l)) (fun l => K (ix2 x ⟨l.val, by omega⟩)) (fun l => Qa (ix3 0 i l)) (fun l => K (ix2 x ⟨128 + l.val, by omega⟩))) maskC) (fun x => U1 (ix2 x j)) (fun x : Fin 1536 => sc1 (fun l => Q (ix3 0 i l)) (fun l => K' (ix2 x ⟨l.val, by omega⟩)) (fun l => Qa (ix3 0 i l)) (fun l => K' (ix2 x ⟨128 + l.val, by omega⟩))) (fun x => U1' (ix2 x j)) := by
  pointwise [k2_pay2, k2_pay8, k2_pay9, k2_pay10, k2_pay54, k2_pay55, k2_pay56, k2_pay57, k2_pay58, k2_pay59, k2_pay60, k2_pay61, k2_pay62]
  rfl

/-- The last rows. -/
theorem blk4_at (Q Qa : Vec Ideal S1x16x128 .bf16) (K : Vec Ideal S16x256 .bf16) (K' : Vec Ideal S2048x256 .bf16) (U0 U1 : Vec Ideal S16x128 .bf16) (U0' U1' : Vec Ideal S2048x128 .bf16) (i : Fin 16) (j : Fin 128) :
    (k2_pay1 (k2_pay74 (k2_pay71 k2_pay2 k2_pay8 Q Qa K K') (k2_pay72 k2_pay2 k2_pay8 Q Qa K K' U0) (k2_pay73 k2_pay2 k2_pay8 Q Qa K K') U0') (k2_pay77 k2_pay9 (k2_pay10 (iota .tc S1x128 32 [1] iota_S1x128_d1_w32)) (k2_pay63 Q) (k2_pay64 Qa) K') (k2_pay80 k2_pay9 (k2_pay10 (iota .tc S1x128 32 [1] iota_S1x128_d1_w32)) (k2_pay63 Q) (k2_pay64 Qa) k2_pay65 K K') (k2_pay81 k2_pay9 (k2_pay10 (iota .tc S1x128 32 [1] iota_S1x128_d1_w32)) (k2_pay63 Q) (k2_pay64 Qa) k2_pay65 K K' U1) (k2_pay82 k2_pay9 (k2_pay10 (iota .tc S1x128 32 [1] iota_S1x128_d1_w32)) (k2_pay63 Q) (k2_pay64 Qa) k2_pay65 K K') U1' : FVec Ideal S1x16x128 .f32) (ix3 0 i j)
      = attB (fun x : Fin 16 => masked i.val x.val (sc0 (fun l => Q (ix3 0 i l)) (fun l => K (ix2 x ⟨l.val, by omega⟩)) (fun l => Qa (ix3 0 i l)) (fun l => K (ix2 x ⟨128 + l.val, by omega⟩))) maskC) (fun x => U0 (ix2 x j)) (fun x : Fin 2048 => sc0 (fun l => Q (ix3 0 i l)) (fun l => K' (ix2 x ⟨l.val, by omega⟩)) (fun l => Qa (ix3 0 i l)) (fun l => K' (ix2 x ⟨128 + l.val, by omega⟩))) (fun x => U0' (ix2 x j))
        + attB (fun x : Fin 16 => masked i.val x.val (sc1 (fun l => Q (ix3 0 i l)) (fun l => K (ix2 x ⟨l.val, by omega⟩)) (fun l => Qa (ix3 0 i l)) (fun l => K (ix2 x ⟨128 + l.val, by omega⟩))) maskC) (fun x => U1 (ix2 x j)) (fun x : Fin 2048 => sc1 (fun l => Q (ix3 0 i l)) (fun l => K' (ix2 x ⟨l.val, by omega⟩)) (fun l => Qa (ix3 0 i l)) (fun l => K' (ix2 x ⟨128 + l.val, by omega⟩))) (fun x => U1' (ix2 x j)) := by
  pointwise [k2_pay2, k2_pay8, k2_pay9, k2_pay10, k2_pay1, k2_pay63, k2_pay64, k2_pay65, k2_pay66, k2_pay67, k2_pay68, k2_pay69, k2_pay70, k2_pay71, k2_pay72, k2_pay73, k2_pay74, k2_pay75, k2_pay76, k2_pay77, k2_pay78, k2_pay79, k2_pay80, k2_pay81, k2_pay82]
  rfl

/-- The first head's values: the lanes of the first half. -/
theorem vals0_at (x : Vec Ideal S1x2064x128 .bf16) (i : Fin 2064) (j : Fin 128) : (k2_pay6 x (ix2 i j) : EReal) = if j.val < 64 then x (ix3 0 i j) else 0 := by
  pointwise [k2_pay6, k2_pay5, k2_pay2]
  have e : ∀ j : Fin 128, IntOp.cmpi CmpIPredicate.slt (BitVec.ofNat 32 j.val) 64#32 = if j.val < 64 then 1#1 else 0#1 := by decide +kernel
  rw [e]; split_ifs <;> rfl

/-- The second head's values: the lanes of the second half. -/
theorem vals1_at (x : Vec Ideal S1x2064x128 .bf16) (i : Fin 2064) (j : Fin 128) : (k2_pay7 x (ix2 i j) : EReal) = if j.val < 64 then 0 else x (ix3 0 i j) := by
  pointwise [k2_pay7, k2_pay5, k2_pay2]
  have e : ∀ j : Fin 128, IntOp.cmpi CmpIPredicate.slt (BitVec.ofNat 32 j.val) 64#32 = if j.val < 64 then 1#1 else 0#1 := by decide +kernel
  rw [e]; split_ifs <;> rfl

/-- The keys, as the scratch keeps them. -/
theorem keys_at (x : Vec Ideal S1x2064x128 .bf16) (i : Fin 2064) (j : Fin 128) : (k2_pay3 x (ix2 i j) : EReal) = x (ix3 0 i j) := by
  pointwise [k2_pay3]

/-- The keys' gate lanes, as the scratch keeps them. -/
theorem gates_at (x : Vec Ideal S1x2064x128 .bf16) (i : Fin 2064) (j : Fin 128) : (k2_pay4 x (ix2 i j) : EReal) = x (ix3 0 i j) := by
  pointwise [k2_pay4]

end Cert.KernelIdeal.Whole
-- ==== Proof.FoxAttn.lean ====
module

public import proofs.«01_k».proof.Proof.FoxBlk
public import proofs.«01_k».proof.Proof.FoxGates

@[expose] public section

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.FoxSoft Cert.FoxRow

/-- A head pair's scores in reals: the dot product over the head's 64 lanes from `o` on, over eight, plus the difference of the running gate sums. -/
def scr (q k : ℕ → ℕ → ℝ) (o : ℕ) (C : ℕ → ℝ) (i s : ℕ) : ℝ := (∑ d : Fin 64, q i (o + d.val) * k s (o + d.val)) * 8⁻¹ + C i - C s

/-- What the attention leaves in lane `j` of a head pair's row `i`: the first head's mean in the first half of the lanes, the second's in the other. -/
def att (q k v : ℕ → ℕ → ℝ) (C0 C1 : ℕ → ℝ) (i j : ℕ) : ℝ :=
  if j < 64 then soft (scr q k 0 C0 i) (fun s => v s j) i else soft (scr q k 64 C1 i) (fun s => v s j) i

/-- The mask, negative infinity. -/
theorem maskC_eq : (maskC : EReal) = ⊥ := rfl

/-- A mean of zeros. -/
theorem attA_zero {n : ℕ} (sd vd : Fin n → EReal) (h : ∀ x, vd x = 0) : attA sd vd = 0 := by
  unfold attA
  simp only [h, mul_zero, Finset.sum_const_zero, zero_mul]

/-- A mean of zeros over two lists. -/
theorem attB_zero {n k : ℕ} (sd vd : Fin n → EReal) (sf vf : Fin k → EReal) (h : ∀ x, vd x = 0) (h' : ∀ x, vf x = 0) : attB sd vd sf vf = 0 := by
  unfold attB
  simp only [h, h', mul_zero, Finset.sum_const_zero, zero_mul, add_zero]

/-- A head pair's row in the first block of positions. -/
theorem pairA {n : ℕ} (hn : n ≤ 2064) (i j : ℕ) (hi : i < n) (q qa : Fin 128 → EReal) (k ka : Fin n → Fin 128 → EReal) (u0 u1 : Fin n → EReal) (qr kr vr : ℕ → ℕ → ℝ) (C0 C1 : ℕ → ℝ)
    (hq : ∀ l, q l = (qr i l.val : EReal) * ((8⁻¹ * L2 : ℝ) : EReal)) (hk : ∀ x l, k x l = (kr x.val l.val : EReal))
    (hqa : ∀ l : Fin 128, l.val < 12 → qa l = ((laneQ (C0 i) (C1 i) l.val : ℝ) : EReal)) (hka : ∀ x, ∀ l : Fin 128, l.val < 12 → ka x l = ((laneK (C0 x.val) (C1 x.val) l.val : ℝ) : EReal))
    (hu0 : ∀ x, u0 x = if j < 64 then (vr x.val j : EReal) else 0) (hu1 : ∀ x, u1 x = if j < 64 then 0 else (vr x.val j : EReal)) :
    attA (fun x => masked i x.val (sc0 q (k x) qa (ka x)) maskC) u0 + attA (fun x => masked i x.val (sc1 q (k x) qa (ka x)) maskC) u1 = ((att qr kr vr C0 C1 i j : ℝ) : EReal) := by
  unfold att
  by_cases h : j < 64
  · rw [attA_zero _ u1 (fun x => by rw [hu1, if_pos h]), add_zero, if_pos h]
    refine attA_eq _ u0 (scr qr kr 0 C0 i) (fun s => vr s j) i hi (fun x => ?_) (fun x => by rw [hu0, if_pos h])
    rw [masked_eq i x.val (by omega) (by omega), sc0_eq q (k x) qa (ka x) (fun d => qr i (0 + d.val)) (fun d => kr x.val (0 + d.val)) (C0 i) (C1 i) (C0 x.val) (C1 x.val)
      (fun d => by rw [hq]; simp only [Nat.zero_add]) (fun d => by rw [hk]; simp only [Nat.zero_add]) hqa (hka x)]
    rfl
  · rw [attA_zero _ u0 (fun x => by rw [hu0, if_neg h]), zero_add, if_neg h]
    refine attA_eq _ u1 (scr qr kr 64 C1 i) (fun s => vr s j) i hi (fun x => ?_) (fun x => by rw [hu1, if_neg h])
    rw [masked_eq i x.val (by omega) (by omega), sc1_eq q (k x) qa (ka x) (fun d => qr i (64 + d.val)) (fun d => kr x.val (64 + d.val)) (C0 i) (C1 i) (C0 x.val) (C1 x.val)
      (fun d => by rw [hq]) (fun d => by rw [hk]) hqa (hka x)]
    rfl

/-- A head pair's row in a later block of positions, from `r` on, with everything before it. -/
theorem pairB {n r : ℕ} (hn : r + n ≤ 2064) (i j : ℕ) (hi : i < n) (q qa : Fin 128 → EReal) (k ka : Fin n → Fin 128 → EReal) (k' ka' : Fin r → Fin 128 → EReal) (u0 u1 : Fin n → EReal) (u0' u1' : Fin r → EReal)
    (qr kr vr : ℕ → ℕ → ℝ) (C0 C1 : ℕ → ℝ)
    (hq : ∀ l, q l = (qr (r + i) l.val : EReal) * ((8⁻¹ * L2 : ℝ) : EReal)) (hk : ∀ x l, k x l = (kr (r + x.val) l.val : EReal)) (hk' : ∀ x l, k' x l = (kr x.val l.val : EReal))
    (hqa : ∀ l : Fin 128, l.val < 12 → qa l = ((laneQ (C0 (r + i)) (C1 (r + i)) l.val : ℝ) : EReal))
    (hka : ∀ x, ∀ l : Fin 128, l.val < 12 → ka x l = ((laneK (C0 (r + x.val)) (C1 (r + x.val)) l.val : ℝ) : EReal))
    (hka' : ∀ x, ∀ l : Fin 128, l.val < 12 → ka' x l = ((laneK (C0 x.val) (C1 x.val) l.val : ℝ) : EReal))
    (hu0 : ∀ x, u0 x = if j < 64 then (vr (r + x.val) j : EReal) else 0) (hu1 : ∀ x, u1 x = if j < 64 then 0 else (vr (r + x.val) j : EReal))
    (hu0' : ∀ x, u0' x = if j < 64 then (vr x.val j : EReal) else 0) (hu1' : ∀ x, u1' x = if j < 64 then 0 else (vr x.val j : EReal)) :
    attB (fun x => masked i x.val (sc0 q (k x) qa (ka x)) maskC) u0 (fun x => sc0 q (k' x) qa (ka' x)) u0'
      + attB (fun x => masked i x.val (sc1 q (k x) qa (ka x)) maskC) u1 (fun x => sc1 q (k' x) qa (ka' x)) u1' = ((att qr kr vr C0 C1 (r + i) j : ℝ) : EReal) := by
  unfold att
  by_cases h : j < 64
  · rw [attB_zero _ u1 _ u1' (fun x => by rw [hu1, if_pos h]) (fun x => by rw [hu1', if_pos h]), add_zero, if_pos h]
    refine attB_eq _ u0 _ u0' (scr qr kr 0 C0 (r + i)) (fun s => vr s j) i hi (fun x => ?_) (fun x => by rw [hu0, if_pos h]) (fun x => ?_) (fun x => by rw [hu0', if_pos h])
    · rw [masked_eq i x.val (by omega) (by omega), sc0_eq q (k x) qa (ka x) (fun d => qr (r + i) (0 + d.val)) (fun d => kr (r + x.val) (0 + d.val)) (C0 (r + i)) (C1 (r + i)) (C0 (r + x.val)) (C1 (r + x.val))
        (fun d => by rw [hq]; simp only [Nat.zero_add]) (fun d => by rw [hk]; simp only [Nat.zero_add]) hqa (hka x)]
      rfl
    · rw [sc0_eq q (k' x) qa (ka' x) (fun d => qr (r + i) (0 + d.val)) (fun d => kr x.val (0 + d.val)) (C0 (r + i)) (C1 (r + i)) (C0 x.val) (C1 x.val)
        (fun d => by rw [hq]; simp only [Nat.zero_add]) (fun d => by rw [hk']; simp only [Nat.zero_add]) hqa (hka' x)]
      rfl
  · rw [attB_zero _ u0 _ u0' (fun x => by rw [hu0, if_neg h]) (fun x => by rw [hu0', if_neg h]), zero_add, if_neg h]
    refine attB_eq _ u1 _ u1' (scr qr kr 64 C1 (r + i)) (fun s => vr s j) i hi (fun x => ?_) (fun x => by rw [hu1, if_neg h]) (fun x => ?_) (fun x => by rw [hu1', if_neg h])
    · rw [masked_eq i x.val (by omega) (by omega), sc1_eq q (k x) qa (ka x) (fun d => qr (r + i) (64 + d.val)) (fun d => kr (r + x.val) (64 + d.val)) (C0 (r + i)) (C1 (r + i)) (C0 (r + x.val)) (C1 (r + x.val))
        (fun d => by rw [hq]) (fun d => by rw [hk]) hqa (hka x)]
      rfl
    · rw [sc1_eq q (k' x) qa (ka' x) (fun d => qr (r + i) (64 + d.val)) (fun d => kr x.val (64 + d.val)) (C0 (r + i)) (C1 (r + i)) (C0 x.val) (C1 x.val)
        (fun d => by rw [hq]) (fun d => by rw [hk']) hqa (hka' x)]
      rfl

/-- A load of rows `r` to `r + n` of a one-layer block, at an entry. -/
theorem ld3_at (X : Vec Ideal S1x2064x128 .bf16) (r n : ℕ) (inb : ∀ a, (![0, r, 0] : Fin 3 → ℕ) a + (![1, n, 128] : Fin 3 → ℕ) a ≤ S1x2064x128.size a)
    (i : Fin n) (l : Fin 128) (q : Fin 2064) (hq : q.val = r + i.val) : (View.ld X (Rect.unit (s := S1x2064x128) ![0, r, 0] ![1, n, 128] inb) (ix3 0 i l) : EReal) = X (ix3 0 q l) := by
  refine congrArg X ?_
  funext a
  fin_cases a
  · rfl
  · exact Fin.ext (by show r + 1 * i.val = q.val; omega)
  · exact Fin.ext (by show 0 + 1 * l.val = l.val; omega)

/-- A load of rows `r` to `r + n` of the keys' scratch, at an entry. -/
theorem ldK_at (X : S2064x256.Idx → EReal) (r n : ℕ) (inb : ∀ a, (![r, 0] : Fin 2 → ℕ) a + (![n, 256] : Fin 2 → ℕ) a ≤ S2064x256.size a)
    (i : Fin n) (l : Fin 256) (q : Fin 2064) (hq : q.val = r + i.val) : X ((Rect.unit (s := S2064x256) ![r, 0] ![n, 256] inb).toLoadRect.idx (ix2 i l)) = X (ix2 q l) := by
  refine congrArg X ?_
  funext a
  fin_cases a
  · exact Fin.ext (by show r + 1 * i.val = q.val; omega)
  · exact Fin.ext (by show 0 + 1 * l.val = l.val; omega)

/-- A load of rows `r` to `r + n` of a values' scratch, at an entry. -/
theorem ldV_at (X : S2064x128.Idx → EReal) (r n : ℕ) (inb : ∀ a, (![r, 0] : Fin 2 → ℕ) a + (![n, 128] : Fin 2 → ℕ) a ≤ S2064x128.size a)
    (i : Fin n) (l : Fin 128) (q : Fin 2064) (hq : q.val = r + i.val) : X ((Rect.unit (s := S2064x128) ![r, 0] ![n, 128] inb).toLoadRect.idx (ix2 i l)) = X (ix2 q l) := by
  refine congrArg X ?_
  funext a
  fin_cases a
  · exact Fin.ext (by show r + 1 * i.val = q.val; omega)
  · exact Fin.ext (by show 0 + 1 * l.val = l.val; omega)

/-- An index of a block, from its coordinates. -/
theorem ix2_of (x : S2064x128.Idx) (i : Fin 2064) (l : Fin 128) (h0 : i.val = (x 0).val) (h1 : l.val = (x 1).val) : x = ix2 i l := by
  funext a
  fin_cases a
  · exact Fin.ext h0.symm
  · exact Fin.ext h1.symm

/-- An index of `n` rows of a one-layer block, from its coordinates. -/
theorem ix3_row {n : ℕ} (x : (⟨3, ![1, n, 128]⟩ : Shape).Idx) (i : Fin n) (l : Fin 128) (h1 : i.val = (x 1).val) (h2 : l.val = (x 2).val) : x = ix3 0 i l := by
  have h0 : (x 0).val < 1 := (x 0).isLt
  funext a
  fin_cases a
  · exact Fin.ext (by show (x 0).val = 0; omega)
  · exact Fin.ext h1.symm
  · exact Fin.ext h2.symm

/-- An entry at a row of `o` to `o + n` lies in the box of these rows. -/
theorem mem_rows3 (o n : ℕ) (inb : ∀ a, (![0, o, 0] : Fin 3 → ℕ) a + (![1, n, 128] : Fin 3 → ℕ) a ≤ S1x2064x128.size a) (i : Fin 2064) (j : Fin 128) (h0 : o ≤ i.val) (h1 : i.val < o + n) :
    (ix3 0 i j : S1x2064x128.Idx) ∈ (Rect.unit (s := S1x2064x128) ![0, o, 0] ![1, n, 128] inb).set := by
  refine Rect.mem_set_unit.mpr fun a => ?_
  fin_cases a
  · exact ⟨Nat.zero_le _, by show 0 < 0 + 1; omega⟩
  · exact ⟨h0, h1⟩
  · exact ⟨Nat.zero_le _, by show j.val < 0 + 128; omega⟩

/-- Five pieces holding the rows from 2048, 1536, 1024, 512 and 0 on cover all rows. -/
theorem cover5 (p4 p3 p2 p1 p0 : View.Piece (Elt Ideal) S1x2064x128 .bf16) (y : S1x2064x128.Idx) (i : Fin 2064)
    (h4 : 2048 ≤ i.val → y ∈ p4.1.set) (h3 : 1536 ≤ i.val → i.val < 2048 → y ∈ p3.1.set) (h2 : 1024 ≤ i.val → i.val < 1536 → y ∈ p2.1.set)
    (h1 : 512 ≤ i.val → i.val < 1024 → y ∈ p1.1.set) (h0 : i.val < 512 → y ∈ p0.1.set) : ∃ q ∈ [p4, p3, p2, p1, p0], y ∈ q.1.set := by
  by_cases e4 : 2048 ≤ i.val
  · exact ⟨p4, by simp, h4 e4⟩
  by_cases e3 : 1536 ≤ i.val
  · exact ⟨p3, by simp, h3 e3 (by omega)⟩
  by_cases e2 : 1024 ≤ i.val
  · exact ⟨p2, by simp, h2 e2 (by omega)⟩
  by_cases e1 : 512 ≤ i.val
  · exact ⟨p1, by simp, h1 e1 (by omega)⟩
  · exact ⟨p0, by simp, h0 (by omega)⟩

set_option maxHeartbeats 1600000 in
/-- What the attention's body leaves in its block, over real queries, keys, values and running gate sums. -/
theorem outs2_at (V : (c : Dev nD) → (b : Ref sig .tc) → Buf (Elt Ideal) ((c : Thread nD τ).loc b)) (c : Dev nD) (t : Fin cfg2.N) (qr kr vr : ℕ → ℕ → ℝ) (C0 C1 : ℕ → ℝ)
    (hQ : ∀ (i : Fin 2064) (l : Fin 128), (iblk2 V c 0 t (ix3 0 i l) : EReal) = (qr i.val l.val : EReal) * ((8⁻¹ * L2 : ℝ) : EReal))
    (hK : ∀ (i : Fin 2064) (l : Fin 128), (iblk2 V c 1 t (ix3 0 i l) : EReal) = (kr i.val l.val : EReal))
    (hV : ∀ (i : Fin 2064) (l : Fin 128), (iblk2 V c 2 t (ix3 0 i l) : EReal) = (vr i.val l.val : EReal))
    (hA : ∀ (i : Fin 2064) (l : Fin 128), l.val < 12 → (iblk2 V c 3 t (ix3 0 i l) : EReal) = ((laneQ (C0 i.val) (C1 i.val) l.val : ℝ) : EReal))
    (hB : ∀ (i : Fin 2064) (l : Fin 128), l.val < 12 → (iblk2 V c 4 t (ix3 0 i l) : EReal) = ((laneK (C0 i.val) (C1 i.val) l.val : ℝ) : EReal))
    (i : Fin 2064) (j : Fin 128) : (outsAt2 V c t (ix3 0 i j) : EReal) = ((att qr kr vr C0 C1 i.val j.val : ℝ) : EReal) := by
  unfold outsAt2
  frame_out
  simp (disch := decide) only [View.readCov_eq_canon', View.canon_cons_unit_lit']
  generalize hKK : View.canon (Val := Elt Ideal) (s := S2064x256) (e := .bf16) [_, _] = KK
  have k0 : ∀ (i : Fin 2064) (l : Fin 128), KK (ix2 i ⟨l.val, by omega⟩) = (kr i.val l.val : EReal) := by
    intro i l
    rw [← hKK]
    canon_tiles x h
    all_goals (replace h0 : i.val = _ := h0; replace h1 : l.val = _ := h1)
    · omega
    · refine (congrArg _ (ix2_of x i l h0 h1)).trans ((keys_at (iblk2 V c 1 t) i l).trans (hK i l))
  have k1 : ∀ (i : Fin 2064) (l : Fin 128), l.val < 12 → KK (ix2 i ⟨128 + l.val, by omega⟩) = ((laneK (C0 i.val) (C1 i.val) l.val : ℝ) : EReal) := by
    intro i l hl
    rw [← hKK]
    canon_tiles x h
    all_goals (replace h0 : i.val = _ := h0; replace h1 : 128 + l.val = _ := h1)
    · refine (congrArg _ (ix2_of x i l h0 (by omega))).trans ((gates_at (iblk2 V c 4 t) i l).trans (hB i l hl))
    · omega
  clear hKK
  have hv0 : ∀ (i : Fin 2064) (l : Fin 128), (k2_pay6 (iblk2 V c 2 t) (ix2 i l) : EReal) = if l.val < 64 then (vr i.val l.val : EReal) else 0 := by
    intro i l
    rw [← hV i l]
    exact vals0_at (iblk2 V c 2 t) i l
  have hv1 : ∀ (i : Fin 2064) (l : Fin 128), (k2_pay7 (iblk2 V c 2 t) (ix2 i l) : EReal) = if l.val < 64 then 0 else (vr i.val l.val : EReal) := by
    intro i l
    rw [← hV i l]
    exact vals1_at (iblk2 V c 2 t) i l
  canon_tiles x h using (cover5 _ _ _ _ _ _ i (fun a => mem_rows3 2048 16 inb_S1x2064x128_S1x16x128_0_2048_0 i j a (by omega))
    (fun a b => mem_rows3 1536 512 inb_S1x2064x128_S1x512x128_0_1536_0 i j a (by omega)) (fun a b => mem_rows3 1024 512 inb_S1x2064x128_S1x512x128_0_1024_0 i j a (by omega))
    (fun a b => mem_rows3 512 512 inb_S1x2064x128_S1x512x128_0_512_0 i j a (by omega)) (fun b => mem_rows3 0 512 inb_S1x2064x128_S1x512x128_0_0_0 i j (Nat.zero_le _) (by omega)))
  all_goals (replace h1 : i.val = _ := h1; replace h2 : j.val = _ := h2)
  · refine (congrArg _ (ix3_row x (⟨i.val - 2048, by omega⟩ : Fin 16) j (by dsimp only; omega) h2)).trans ((blk4_at _ _ _ _ _ _ _ _ (⟨i.val - 2048, by omega⟩ : Fin 16) j).trans
      ((pairB (n := 16) (r := 2048) (by omega) (i.val - 2048) j.val (by omega) _ _ _ _ _ _ _ _ _ _ qr kr vr C0 C1
        (fun l => (ld3_at _ 2048 16 _ _ l ⟨2048 + (i.val - 2048), by omega⟩ rfl).trans (hQ _ l))
        (fun x l => (ldK_at KK 2048 16 _ x _ ⟨2048 + x.val, by omega⟩ rfl).trans (k0 _ l))
        (fun x l => (ldK_at KK 0 2048 _ x _ ⟨x.val, by omega⟩ (Nat.zero_add _).symm).trans (k0 _ l))
        (fun l hl => (ld3_at _ 2048 16 _ _ l ⟨2048 + (i.val - 2048), by omega⟩ rfl).trans (hA _ l hl))
        (fun x l hl => (ldK_at KK 2048 16 _ x _ ⟨2048 + x.val, by omega⟩ rfl).trans (k1 _ l hl))
        (fun x l hl => (ldK_at KK 0 2048 _ x _ ⟨x.val, by omega⟩ (Nat.zero_add _).symm).trans (k1 _ l hl))
        (fun x => (ldV_at (k2_pay6 (iblk2 V c 2 t)) 2048 16 _ x j ⟨2048 + x.val, by omega⟩ rfl).trans (hv0 _ j))
        (fun x => (ldV_at (k2_pay7 (iblk2 V c 2 t)) 2048 16 _ x j ⟨2048 + x.val, by omega⟩ rfl).trans (hv1 _ j))
        (fun x => (ldV_at (k2_pay6 (iblk2 V c 2 t)) 0 2048 _ x j ⟨x.val, by omega⟩ (Nat.zero_add _).symm).trans (hv0 _ j))
        (fun x => (ldV_at (k2_pay7 (iblk2 V c 2 t)) 0 2048 _ x j ⟨x.val, by omega⟩ (Nat.zero_add _).symm).trans (hv1 _ j))).trans ?_))
    rw [show 2048 + (i.val - 2048) = i.val by omega]
  · refine (congrArg _ (ix3_row x (⟨i.val - 1536, by omega⟩ : Fin 512) j (by dsimp only; omega) h2)).trans ((blk3_at _ _ _ _ _ _ _ _ (⟨i.val - 1536, by omega⟩ : Fin 512) j).trans
      ((pairB (n := 512) (r := 1536) (by omega) (i.val - 1536) j.val (by omega) _ _ _ _ _ _ _ _ _ _ qr kr vr C0 C1
        (fun l => (ld3_at _ 1536 512 _ _ l ⟨1536 + (i.val - 1536), by omega⟩ rfl).trans (hQ _ l))
        (fun x l => (ldK_at KK 1536 512 _ x _ ⟨1536 + x.val, by omega⟩ rfl).trans (k0 _ l))
        (fun x l => (ldK_at KK 0 1536 _ x _ ⟨x.val, by omega⟩ (Nat.zero_add _).symm).trans (k0 _ l))
        (fun l hl => (ld3_at _ 1536 512 _ _ l ⟨1536 + (i.val - 1536), by omega⟩ rfl).trans (hA _ l hl))
        (fun x l hl => (ldK_at KK 1536 512 _ x _ ⟨1536 + x.val, by omega⟩ rfl).trans (k1 _ l hl))
        (fun x l hl => (ldK_at KK 0 1536 _ x _ ⟨x.val, by omega⟩ (Nat.zero_add _).symm).trans (k1 _ l hl))
        (fun x => (ldV_at (k2_pay6 (iblk2 V c 2 t)) 1536 512 _ x j ⟨1536 + x.val, by omega⟩ rfl).trans (hv0 _ j))
        (fun x => (ldV_at (k2_pay7 (iblk2 V c 2 t)) 1536 512 _ x j ⟨1536 + x.val, by omega⟩ rfl).trans (hv1 _ j))
        (fun x => (ldV_at (k2_pay6 (iblk2 V c 2 t)) 0 1536 _ x j ⟨x.val, by omega⟩ (Nat.zero_add _).symm).trans (hv0 _ j))
        (fun x => (ldV_at (k2_pay7 (iblk2 V c 2 t)) 0 1536 _ x j ⟨x.val, by omega⟩ (Nat.zero_add _).symm).trans (hv1 _ j))).trans ?_))
    rw [show 1536 + (i.val - 1536) = i.val by omega]
  · refine (congrArg _ (ix3_row x (⟨i.val - 1024, by omega⟩ : Fin 512) j (by dsimp only; omega) h2)).trans ((blk2_at _ _ _ _ _ _ _ _ (⟨i.val - 1024, by omega⟩ : Fin 512) j).trans
      ((pairB (n := 512) (r := 1024) (by omega) (i.val - 1024) j.val (by omega) _ _ _ _ _ _ _ _ _ _ qr kr vr C0 C1
        (fun l => (ld3_at _ 1024 512 _ _ l ⟨1024 + (i.val - 1024), by omega⟩ rfl).trans (hQ _ l))
        (fun x l => (ldK_at KK 1024 512 _ x _ ⟨1024 + x.val, by omega⟩ rfl).trans (k0 _ l))
        (fun x l => (ldK_at KK 0 1024 _ x _ ⟨x.val, by omega⟩ (Nat.zero_add _).symm).trans (k0 _ l))
        (fun l hl => (ld3_at _ 1024 512 _ _ l ⟨1024 + (i.val - 1024), by omega⟩ rfl).trans (hA _ l hl))
        (fun x l hl => (ldK_at KK 1024 512 _ x _ ⟨1024 + x.val, by omega⟩ rfl).trans (k1 _ l hl))
        (fun x l hl => (ldK_at KK 0 1024 _ x _ ⟨x.val, by omega⟩ (Nat.zero_add _).symm).trans (k1 _ l hl))
        (fun x => (ldV_at (k2_pay6 (iblk2 V c 2 t)) 1024 512 _ x j ⟨1024 + x.val, by omega⟩ rfl).trans (hv0 _ j))
        (fun x => (ldV_at (k2_pay7 (iblk2 V c 2 t)) 1024 512 _ x j ⟨1024 + x.val, by omega⟩ rfl).trans (hv1 _ j))
        (fun x => (ldV_at (k2_pay6 (iblk2 V c 2 t)) 0 1024 _ x j ⟨x.val, by omega⟩ (Nat.zero_add _).symm).trans (hv0 _ j))
        (fun x => (ldV_at (k2_pay7 (iblk2 V c 2 t)) 0 1024 _ x j ⟨x.val, by omega⟩ (Nat.zero_add _).symm).trans (hv1 _ j))).trans ?_))
    rw [show 1024 + (i.val - 1024) = i.val by omega]
  · refine (congrArg _ (ix3_row x (⟨i.val - 512, by omega⟩ : Fin 512) j (by dsimp only; omega) h2)).trans ((blk1_at _ _ _ _ _ _ _ _ (⟨i.val - 512, by omega⟩ : Fin 512) j).trans
      ((pairB (n := 512) (r := 512) (by omega) (i.val - 512) j.val (by omega) _ _ _ _ _ _ _ _ _ _ qr kr vr C0 C1
        (fun l => (ld3_at _ 512 512 _ _ l ⟨512 + (i.val - 512), by omega⟩ rfl).trans (hQ _ l))
        (fun x l => (ldK_at KK 512 512 _ x _ ⟨512 + x.val, by omega⟩ rfl).trans (k0 _ l))
        (fun x l => (ldK_at KK 0 512 _ x _ ⟨x.val, by omega⟩ (Nat.zero_add _).symm).trans (k0 _ l))
        (fun l hl => (ld3_at _ 512 512 _ _ l ⟨512 + (i.val - 512), by omega⟩ rfl).trans (hA _ l hl))
        (fun x l hl => (ldK_at KK 512 512 _ x _ ⟨512 + x.val, by omega⟩ rfl).trans (k1 _ l hl))
        (fun x l hl => (ldK_at KK 0 512 _ x _ ⟨x.val, by omega⟩ (Nat.zero_add _).symm).trans (k1 _ l hl))
        (fun x => (ldV_at (k2_pay6 (iblk2 V c 2 t)) 512 512 _ x j ⟨512 + x.val, by omega⟩ rfl).trans (hv0 _ j))
        (fun x => (ldV_at (k2_pay7 (iblk2 V c 2 t)) 512 512 _ x j ⟨512 + x.val, by omega⟩ rfl).trans (hv1 _ j))
        (fun x => (ldV_at (k2_pay6 (iblk2 V c 2 t)) 0 512 _ x j ⟨x.val, by omega⟩ (Nat.zero_add _).symm).trans (hv0 _ j))
        (fun x => (ldV_at (k2_pay7 (iblk2 V c 2 t)) 0 512 _ x j ⟨x.val, by omega⟩ (Nat.zero_add _).symm).trans (hv1 _ j))).trans ?_))
    rw [show 512 + (i.val - 512) = i.val by omega]
  · refine (congrArg _ (ix3_row x (⟨i.val - 0, by omega⟩ : Fin 512) j (by dsimp only; omega) h2)).trans ((blk0_at _ _ _ _ _ (⟨i.val - 0, by omega⟩ : Fin 512) j).trans
      ((pairA (n := 512) (by omega) (i.val - 0) j.val (by omega) _ _ _ _ _ _ qr kr vr C0 C1
        (fun l => (ld3_at _ 0 512 _ _ l ⟨i.val - 0, by omega⟩ (Nat.zero_add _).symm).trans (hQ _ l))
        (fun x l => (ldK_at KK 0 512 _ x _ ⟨x.val, by omega⟩ (Nat.zero_add _).symm).trans (k0 _ l))
        (fun l hl => (ld3_at _ 0 512 _ _ l ⟨i.val - 0, by omega⟩ (Nat.zero_add _).symm).trans (hA _ l hl))
        (fun x l hl => (ldK_at KK 0 512 _ x _ ⟨x.val, by omega⟩ (Nat.zero_add _).symm).trans (k1 _ l hl))
        (fun x => (ldV_at (k2_pay6 (iblk2 V c 2 t)) 0 512 _ x j ⟨x.val, by omega⟩ (Nat.zero_add _).symm).trans (hv0 _ j))
        (fun x => (ldV_at (k2_pay7 (iblk2 V c 2 t)) 0 512 _ x j ⟨x.val, by omega⟩ (Nat.zero_add _).symm).trans (hv1 _ j))).trans ?_))
    rfl

end Cert.KernelIdeal.Whole
-- ==== Proof.FoxOut.lean ====
module

public import proofs.«01_k».proof.Proof.FoxLanes
public import proofs.«01_k».proof.Proof.FoxAttn

@[expose] public section

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.FoxSoft Cert.FoxRow

variable (m : (ℓ : Loc nD τ sig) → Buf (Elt Ideal) ℓ) (ρ : Dev nD → PrngReg)

/-- Where each window's block of the attention starts, at every grid point. -/
theorem idx2 : ∀ t : Fin cfg2.N, win2_0.index t = ![t.val % 4, t.val / 4, 0] ∧ win2_1.index t = ![t.val % 4, t.val / 4, 0] ∧ win2_2.index t = ![t.val % 4, t.val / 4, 0]
    ∧ win2_3.index t = ![t.val % 4, t.val / 4, 0] ∧ win2_4.index t = ![t.val % 4, t.val / 4, 0] ∧ win2_5.index t = ![t.val % 4, t.val / 4, 0] ∧ t.val < 32 :=
  (by decide +kernel : ∀ t : Fin grid2.N, _)

/-- The number of the grid's points bounds a point. -/
theorem lt2 (t : Fin cfg2.N) : t.val < 32 := (idx2 t).2.2.2.2.2.2

/-- The lane group of a grid point. -/
def gp (t : Fin cfg2.N) : Fin 4 := ⟨t.val % 4, by omega⟩

/-- The row of the flattened batch that a grid point's block holds at position `i`. -/
def gr (t : Fin cfg2.N) (i : Fin 2064) : Fin 16512 := ⟨2064 * (t.val / 4) + i.val, by have := lt2 t; omega⟩

/-- The sequence of a grid point's block. -/
theorem gr_div (t : Fin cfg2.N) (i : Fin 2064) : (gr t i).val / 2064 = t.val / 4 := by unfold gr; dsimp only; omega

/-- The position of a grid point's row. -/
theorem gr_mod (t : Fin cfg2.N) (i : Fin 2064) : (gr t i).val % 2064 = i.val := by unfold gr; dsimp only; omega

/-- Window 0's block of the attention, at an entry. -/
theorem iblk2_0 (c : Dev nD) (t : Fin cfg2.N) (i : Fin 2064) (l : Fin 128) : (iblk2 (V7 m ρ) c 0 t (ix3 0 i l) : EReal)
    = (W7 m ρ c (Proc.devRef .tc main_v22_0) : S4x16512x128.Idx → EReal) (ix3 (gp t) (gr t i) l) := by
  have h : (iblk2 (V7 m ρ) c 0 t (ix3 0 i l) : EReal) = (V7 m ρ c main_v22_0 : S4x16512x128.Idx → EReal) (ix3 (gp t) (gr t i) l) := by
    blk_simp [iblk2, idx2 t]
    pointwise
    blk_ext [idx2 t, gp, gr]
  exact h

/-- Window 1's block of the attention, at an entry. -/
theorem iblk2_1 (c : Dev nD) (t : Fin cfg2.N) (i : Fin 2064) (l : Fin 128) : (iblk2 (V7 m ρ) c 1 t (ix3 0 i l) : EReal)
    = (W7 m ρ c (Proc.devRef .tc main_v22_1) : S4x16512x128.Idx → EReal) (ix3 (gp t) (gr t i) l) := by
  have h : (iblk2 (V7 m ρ) c 1 t (ix3 0 i l) : EReal) = (V7 m ρ c main_v22_1 : S4x16512x128.Idx → EReal) (ix3 (gp t) (gr t i) l) := by
    blk_simp [iblk2, idx2 t]
    pointwise
    blk_ext [idx2 t, gp, gr]
  exact h

/-- Window 2's block of the attention, at an entry. -/
theorem iblk2_2 (c : Dev nD) (t : Fin cfg2.N) (i : Fin 2064) (l : Fin 128) : (iblk2 (V7 m ρ) c 2 t (ix3 0 i l) : EReal)
    = (W7 m ρ c (Proc.devRef .tc main_v22_2) : S4x16512x128.Idx → EReal) (ix3 (gp t) (gr t i) l) := by
  have h : (iblk2 (V7 m ρ) c 2 t (ix3 0 i l) : EReal) = (V7 m ρ c main_v22_2 : S4x16512x128.Idx → EReal) (ix3 (gp t) (gr t i) l) := by
    blk_simp [iblk2, idx2 t]
    pointwise
    blk_ext [idx2 t, gp, gr]
  exact h

/-- Window 3's block of the attention, at an entry. -/
theorem iblk2_3 (c : Dev nD) (t : Fin cfg2.N) (i : Fin 2064) (l : Fin 128) : (iblk2 (V7 m ρ) c 3 t (ix3 0 i l) : EReal)
    = (W7 m ρ c (Proc.devRef .tc main_v23_1) : S4x16512x128.Idx → EReal) (ix3 (gp t) (gr t i) l) := by
  have h : (iblk2 (V7 m ρ) c 3 t (ix3 0 i l) : EReal) = (V7 m ρ c main_v23_1 : S4x16512x128.Idx → EReal) (ix3 (gp t) (gr t i) l) := by
    blk_simp [iblk2, idx2 t]
    pointwise
    blk_ext [idx2 t, gp, gr]
  exact h

/-- Window 4's block of the attention, at an entry. -/
theorem iblk2_4 (c : Dev nD) (t : Fin cfg2.N) (i : Fin 2064) (l : Fin 128) : (iblk2 (V7 m ρ) c 4 t (ix3 0 i l) : EReal)
    = (W7 m ρ c (Proc.devRef .tc main_v23_2) : S4x16512x128.Idx → EReal) (ix3 (gp t) (gr t i) l) := by
  have h : (iblk2 (V7 m ρ) c 4 t (ix3 0 i l) : EReal) = (V7 m ρ c main_v23_2 : S4x16512x128.Idx → EReal) (ix3 (gp t) (gr t i) l) := by
    blk_simp [iblk2, idx2 t]
    pointwise
    blk_ext [idx2 t, gp, gr]
  exact h

/-- Window 0's block of the attention, for a real projection `R`. -/
theorem rblk2_0 (c : Dev nD) (R : ℕ → ℕ → ℕ → ℝ) (hP : ∀ b t l, P m c b t l = ((R b.val t.val l.val : ℝ) : EReal)) (t : Fin cfg2.N) (i : Fin 2064) (l : Fin 128) :
    (iblk2 (V7 m ρ) c 0 t (ix3 0 i l) : EReal) = ((R (t.val / 4) i.val (128 * (t.val % 4) + l.val) : ℝ) : EReal) * ((8⁻¹ * L2 : ℝ) : EReal) := by
  have e := (congrFun (W7_of m ρ c main_v22_0 (by decide +kernel)) (ix3 (gp t) (gr t i) l)).trans (congrFun (qb_at m ρ c) (ix3 (gp t) (gr t i) l))
  refine (iblk2_0 m ρ c t i l).trans (e.trans ?_)
  unfold qArr PF
  rw [hP]
  show ((R ((gr t i).val / 2064) ((gr t i).val % 2064) (128 * (t.val % 4) + l.val) : ℝ) : EReal) * _ = _
  rw [gr_div, gr_mod]
  rfl

/-- Window 1's block of the attention, for a real projection `R`. -/
theorem rblk2_1 (c : Dev nD) (R : ℕ → ℕ → ℕ → ℝ) (hP : ∀ b t l, P m c b t l = ((R b.val t.val l.val : ℝ) : EReal)) (t : Fin cfg2.N) (i : Fin 2064) (l : Fin 128) :
    (iblk2 (V7 m ρ) c 1 t (ix3 0 i l) : EReal) = ((R (t.val / 4) i.val (512 + (128 * (t.val % 4) + l.val)) : ℝ) : EReal) := by
  have e := (congrFun (W7_of m ρ c main_v22_1 (by decide +kernel)) (ix3 (gp t) (gr t i) l)).trans (congrFun (kb_at m ρ c) (ix3 (gp t) (gr t i) l))
  refine (iblk2_1 m ρ c t i l).trans (e.trans ?_)
  unfold kArr PF
  rw [hP]
  show ((R ((gr t i).val / 2064) ((gr t i).val % 2064) (512 + (128 * (t.val % 4) + l.val)) : ℝ) : EReal) = _
  rw [gr_div, gr_mod]

/-- Window 2's block of the attention, for a real projection `R`. -/
theorem rblk2_2 (c : Dev nD) (R : ℕ → ℕ → ℕ → ℝ) (hP : ∀ b t l, P m c b t l = ((R b.val t.val l.val : ℝ) : EReal)) (t : Fin cfg2.N) (i : Fin 2064) (l : Fin 128) :
    (iblk2 (V7 m ρ) c 2 t (ix3 0 i l) : EReal) = ((R (t.val / 4) i.val (1024 + (128 * (t.val % 4) + l.val)) : ℝ) : EReal) := by
  have e := (congrFun (W7_of m ρ c main_v22_2 (by decide +kernel)) (ix3 (gp t) (gr t i) l)).trans (congrFun (vb_at m ρ c) (ix3 (gp t) (gr t i) l))
  refine (iblk2_2 m ρ c t i l).trans (e.trans ?_)
  unfold vArr PF
  rw [hP]
  show ((R ((gr t i).val / 2064) ((gr t i).val % 2064) (1024 + (128 * (t.val % 4) + l.val)) : ℝ) : EReal) = _
  rw [gr_div, gr_mod]

/-- The attention of every lane of the batch, for a real projection `R` and real running sums `C`. -/
def attArr (R C : ℕ → ℕ → ℕ → ℝ) : S4x16512x128.Idx → EReal := fun y =>
  ((att (fun i l => R ((y 1).val / 2064) i (128 * (y 0).val + l)) (fun i l => R ((y 1).val / 2064) i (512 + (128 * (y 0).val + l)))
    (fun i l => R ((y 1).val / 2064) i (1024 + (128 * (y 0).val + l))) (fun i => C ((y 1).val / 2064) i (2 * (y 0).val)) (fun i => C ((y 1).val / 2064) i (2 * (y 0).val + 1))
    ((y 1).val % 2064) (y 2).val : ℝ) : EReal)

/-- The stored attention, for a real projection and real running sums of the log gates. -/
theorem att_arr (c : Dev nD) (R C : ℕ → ℕ → ℕ → ℝ) (hP : ∀ b t l, P m c b t l = ((R b.val t.val l.val : ℝ) : EReal))
    (hC : ∀ (b : Fin 8) (i : Fin 2064) (j : Fin 8), (∑ s ∈ Finset.range (i.val + 1), logG m c b j s) = ((C b.val i.val j.val : ℝ) : EReal)) :
    (W8 m ρ c (Proc.devRef .tc main_v24) : S4x16512x128.Idx → EReal) = attArr R C := by
  refine (W8_arr m ρ c 5).trans ?_
  refine (dat2 (V7 m ρ) c).arrAt_eq_of_covers 5 (attArr R C) (by decide +kernel) fun t _ y => ?_
  have e : ∀ (y0 : Fin 1) (y1 : Fin 2064) (y2 : Fin 128), ((View.whole main_v24).slice (win2_5.rect t)).emb (ix3 y0 y1 y2)
      = (ix3 (gp t) (gr t y1) y2 : S4x16512x128.Idx) := by
    intro y0 y1 y2
    blk_ext [idx2 t, gp, gr]
  blk_simp
  rw [after2_5]
  idx_vars y
  rw [e]
  obtain rfl : y0 = 0 := Subsingleton.elim _ _
  refine (outs2_at (V7 m ρ) c t (fun i l => R (t.val / 4) i (128 * (t.val % 4) + l)) (fun i l => R (t.val / 4) i (512 + (128 * (t.val % 4) + l)))
    (fun i l => R (t.val / 4) i (1024 + (128 * (t.val % 4) + l))) (fun i => C (t.val / 4) i (2 * (t.val % 4))) (fun i => C (t.val / 4) i (2 * (t.val % 4) + 1))
    (rblk2_0 m ρ c R hP t) (rblk2_1 m ρ c R hP t) (rblk2_2 m ρ c R hP t) (fun i l hl => ?_) (fun i l hl => ?_) y1 y2).trans ?_
  · refine (iblk2_3 m ρ c t i l).trans ((laneQ_arr m ρ c C hC (gp t) (gr t i) ⟨l.val, hl⟩).trans ?_)
    rw [gr_div, gr_mod]
    rfl
  · refine (iblk2_4 m ρ c t i l).trans ((laneK_arr m ρ c C hC (gp t) (gr t i) ⟨l.val, hl⟩).trans ?_)
    rw [gr_div, gr_mod]
    rfl
  · unfold attArr
    show _ = ((att (fun i l => R ((gr t y1).val / 2064) i _) (fun i l => R ((gr t y1).val / 2064) i _) (fun i l => R ((gr t y1).val / 2064) i _)
      (fun i => C ((gr t y1).val / 2064) i _) (fun i => C ((gr t y1).val / 2064) i _) ((gr t y1).val % 2064) y2.val : ℝ) : EReal)
    rw [gr_div, gr_mod]
    rfl

end Cert.KernelIdeal.Whole
-- ==== Proof.FoxMean.lean ====
module

public import proofs.«01_k».proof.Proof.FoxSoft

@[expose] public section

set_option maxRecDepth 16384

noncomputable section

open Idealize.ShloMosaic Idealize.ShloMosaic.TcCoe Idealize.SL.Sem

namespace Cert.FoxMean

open Cert.FoxSoft

/-- A position's weighted mean as a softmax writes it: the exponentials of the scores less their largest, over their sum. -/
def mean {n : ℕ} (s v : Fin n → EReal) : EReal :=
  ∑ x, v x * Ideal.div (Ideal.exp (s x - max (Ideal.ofBits FTy.f32 4286578688#32) (top s))) (∑ y, Ideal.exp (s y - max (Ideal.ofBits FTy.f32 4286578688#32) (top s)))

/-- Over a causal row of real scores it is the causal mean. -/
theorem mean_eq {n : ℕ} (s v : Fin n → EReal) (a u : ℕ → ℝ) (t : ℕ) (ht : t < n)
    (hs : ∀ x, s x = if x.val ≤ t then (a x.val : EReal) else ⊥) (hv : ∀ x, v x = (u x.val : EReal)) : mean s v = ((soft a u t : ℝ) : EReal) := by
  obtain ⟨M, hM⟩ : ∃ M : ℝ, top s = (M : EReal) := by
    refine real_of_between _ (a t) ?_ (top_lt s fun x => ?_)
    · refine (_root_.le_of_eq ?_).trans (le_top s ⟨t, ht⟩)
      rw [hs, if_pos (_root_.le_refl t)]
    · rw [hs]; split_ifs
      · exact EReal.coe_lt_top _
      · exact bot_lt_top
  have he : ∀ x, Ideal.exp (s x - max (Ideal.ofBits FTy.f32 4286578688#32) (top s)) = if x.val ≤ t then ((Real.exp (a x.val) * Real.exp (-M) : ℝ) : EReal) else 0 := by
    intro x
    rw [ninf, hM, max_eq_right bot_le, hs]
    split_ifs
    · rw [← EReal.coe_sub, ← Real.exp_add, ← sub_eq_add_neg]
      rfl
    · rw [sub_eq_add_neg, EReal.bot_add]
      rfl
  have hd : (∑ y, Ideal.exp (s y - max (Ideal.ofBits FTy.f32 4286578688#32) (top s))) = ((∑ y ∈ Finset.range (t + 1), Real.exp (a y) * Real.exp (-M) : ℝ) : EReal) := by
    simp only [he]
    exact sum_upto n t ht fun y => Real.exp (a y) * Real.exp (-M)
  have hE : 0 < ∑ y ∈ Finset.range (t + 1), Real.exp (a y) := Finset.sum_pos (fun y _ => Real.exp_pos _) ⟨0, by simp⟩
  have hne : (∑ y ∈ Finset.range (t + 1), Real.exp (a y) * Real.exp (-M)) ≠ 0 := by
    rw [← Finset.sum_mul]
    exact (mul_pos hE (Real.exp_pos _)).ne'
  unfold mean
  rw [hd]
  have hterm : ∀ x : Fin n, v x * Ideal.div (Ideal.exp (s x - max (Ideal.ofBits FTy.f32 4286578688#32) (top s))) ((∑ y ∈ Finset.range (t + 1), Real.exp (a y) * Real.exp (-M) : ℝ) : EReal)
      = if x.val ≤ t then ((u x.val * (Real.exp (a x.val) * Real.exp (-M) * (1 / ∑ y ∈ Finset.range (t + 1), Real.exp (a y) * Real.exp (-M))) : ℝ) : EReal) else 0 := by
    intro x
    rw [Ideal.div_coe hne, he, hv]
    split_ifs
    · rw [← EReal.coe_mul, ← EReal.coe_mul]
    · rw [zero_mul, mul_zero]
  simp only [hterm]
  rw [sum_upto n t ht (fun y => u y * (Real.exp (a y) * Real.exp (-M) * (1 / ∑ y ∈ Finset.range (t + 1), Real.exp (a y) * Real.exp (-M))))]
  congr 1
  unfold soft
  rw [← Finset.sum_mul, Finset.sum_div]
  refine Finset.sum_congr rfl fun y _ => ?_
  have := (Real.exp_pos (-M)).ne'
  have := hE.ne'
  field_simp

/-- A fold of additions is the sum. -/
theorem foldl_sum {n : ℕ} (f : Fin n → EReal) : (List.finRange n).foldl (fun r k => r + f k) 0 = ∑ k, f k := by
  rw [Fin.sum_univ_def, List.sum_eq_foldl, List.foldl_map]

/-- A window of all positions up to `t`, padded below with zeros. -/
theorem window_sum (N t : ℕ) (ht : t < N + 1) (f : ℕ → EReal) : (∑ k : Fin (N + 1), if N ≤ t + k.val then f (t + k.val - N) else 0) = ∑ s ∈ Finset.range (t + 1), f s := by
  rw [← Finset.sum_range (fun k => if N ≤ t + k then f (t + k - N) else 0), ← Finset.sum_filter]
  refine Finset.sum_nbij' (fun k => t + k - N) (fun s => s + N - t) ?_ ?_ ?_ ?_ ?_
  · intro k hk
    simp only [Finset.mem_filter, Finset.mem_range] at hk ⊢
    omega
  · intro s hs
    simp only [Finset.mem_filter, Finset.mem_range] at hs ⊢
    omega
  · intro k hk
    simp only [Finset.mem_filter, Finset.mem_range] at hk
    omega
  · intro s hs
    simp only [Finset.mem_range] at hs
    omega
  · intro k hk
    rfl

/-- The positions of a window along the middle axis. -/
def midEquiv (N : ℕ) : (⟨3, ![1, N, 1]⟩ : Shape).Idx ≃ Fin N where
  toFun w := ⟨(w 1).val, (w 1).isLt⟩
  invFun k := ix3 0 k 0
  left_inv w := by
    have h0 : (w 0).val < 1 := (w 0).isLt
    have h2 : (w 2).val < 1 := (w 2).isLt
    funext a
    fin_cases a
    · exact Fin.ext (by show 0 = (w 0).val; omega)
    · rfl
    · exact Fin.ext (by show 0 = (w 2).val; omega)
  right_inv k := rfl

/-- The running sum along the middle axis, as the reference writes it, is the sum of the entries up to the position. -/
theorem cumsum_mid {B N J : ℕ} (x : (⟨3, ![B, N + 1, J]⟩ : Shape).Idx → EReal) (h : (⟨3, ![B, N + 1, J]⟩ : Shape).ReduceWindows ![1, N + 1, 1] ![1, 1, 1] ![0, N, 0] ![0, 0, 0] ⟨3, ![B, N + 1, J]⟩)
    (b : Fin B) (t : Fin (N + 1)) (j : Fin J) :
    Ideal.hostReduceWindowAdd (s := ⟨3, ![B, N + 1, J]⟩) ![1, N + 1, 1] ![1, 1, 1] ![0, N, 0] ![0, 0, 0] h x 0 (ix3 b t j)
      = ∑ s ∈ Finset.range (t.val + 1), if hs : s < N + 1 then x (ix3 b ⟨s, hs⟩ j) else 0 := by
  rw [← window_sum N t.val t.isLt (fun s => if hs : s < N + 1 then x (ix3 b ⟨s, hs⟩ j) else 0)]
  unfold Ideal.hostReduceWindowAdd Host.reduceWindow
  refine (foldl_sum _).trans ?_
  refine Fintype.sum_equiv ((Shape.rowMajor (⟨3, ![1, N + 1, 1]⟩ : Shape)).symm.trans (midEquiv (N + 1))) _ _ fun n => ?_
  obtain ⟨w, hw⟩ : ∃ w, (Shape.rowMajor (⟨3, ![1, N + 1, 1]⟩ : Shape)).symm n = w := ⟨_, rfl⟩
  have h0 : (w 0).val < 1 := (w 0).isLt
  have h1 : (w 1).val < N + 1 := (w 1).isLt
  have h2 : (w 2).val < 1 := (w 2).isLt
  have ek : (((Shape.rowMajor (⟨3, ![1, N + 1, 1]⟩ : Shape)).symm.trans (midEquiv (N + 1))) n).val = (w 1).val := by
    rw [← hw]; rfl
  rw [ek]
  have hb := b.isLt
  have ht := t.isLt
  have hj := j.isLt
  by_cases hN : N ≤ t.val + (w 1).val
  · rw [if_pos hN, dif_pos ?_, dif_pos (by omega)]
    · refine congrArg x (funext fun a => Fin.ext ?_)
      fin_cases a
      · show b.val * 1 + ((Shape.rowMajor (⟨3, ![1, N + 1, 1]⟩ : Shape)).symm n 0).val - 0 = b.val
        rw [hw]; omega
      · show t.val * 1 + ((Shape.rowMajor (⟨3, ![1, N + 1, 1]⟩ : Shape)).symm n 1).val - N = t.val + (w 1).val - N
        rw [hw]; omega
      · show j.val * 1 + ((Shape.rowMajor (⟨3, ![1, N + 1, 1]⟩ : Shape)).symm n 2).val - 0 = j.val
        rw [hw]; omega
    · intro a
      fin_cases a
      · show 0 ≤ b.val * 1 + ((Shape.rowMajor (⟨3, ![1, N + 1, 1]⟩ : Shape)).symm n 0).val ∧ b.val * 1 + ((Shape.rowMajor (⟨3, ![1, N + 1, 1]⟩ : Shape)).symm n 0).val - 0 < B
        rw [hw]; omega
      · show N ≤ t.val * 1 + ((Shape.rowMajor (⟨3, ![1, N + 1, 1]⟩ : Shape)).symm n 1).val ∧ t.val * 1 + ((Shape.rowMajor (⟨3, ![1, N + 1, 1]⟩ : Shape)).symm n 1).val - N < N + 1
        rw [hw]; omega
      · show 0 ≤ j.val * 1 + ((Shape.rowMajor (⟨3, ![1, N + 1, 1]⟩ : Shape)).symm n 2).val ∧ j.val * 1 + ((Shape.rowMajor (⟨3, ![1, N + 1, 1]⟩ : Shape)).symm n 2).val - 0 < J
        rw [hw]; omega
  · rw [if_neg hN, dif_neg ?_]
    intro hin
    have h1' := (hin 1).1
    change N ≤ t.val * 1 + ((Shape.rowMajor (⟨3, ![1, N + 1, 1]⟩ : Shape)).symm n 1).val at h1'
    rw [hw] at h1'
    omega

end Cert.FoxMean
-- ==== Proof.FoxReal.lean ====
module

public import proofs.«01_k».proof.Proof.FoxSoft
public import proofs.«01_k».proof.Proof.FoxRow

@[expose] public section

set_option maxRecDepth 16384

noncomputable section

open Idealize.ShloMosaic Idealize.ShloMosaic.TcCoe Idealize.SL.Sem

namespace Cert.FoxReal

open Cert.FfnRow Cert.FoxRow Cert.FoxSoft

/-- An extended real that is a real number. -/
def IsReal (x : EReal) : Prop := ∃ r : ℝ, x = (r : EReal)

/-- A sum of reals is real. -/
theorem isReal_sum {n : ℕ} (f : Fin n → EReal) (h : ∀ k, IsReal (f k)) : IsReal (∑ k, f k) := by
  choose g hg using h
  exact ⟨∑ k, g k, by simp only [hg]; exact coe_sum _ _⟩

/-- A product of reals is real. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- A sum of two reals is real. -/
theorem isReal_add {x y : EReal} (hx : IsReal x) (hy : IsReal y) : IsReal (x + y) := by
  obtain ⟨a, rfl⟩ := hx
  obtain ⟨b, rfl⟩ := hy
  exact ⟨a + b, (EReal.coe_add a b).symm⟩

/-- The count of a row as a real. -/
theorem c1024_eq : (c1024 : EReal) = ((1024 : ℝ) : EReal) := by
  have h : (Ideal.ofBits .f32 0x44800000#32 : EReal) = ((8388608 * ((2 : ℝ) ^ 13)⁻¹ : ℝ) : EReal) := by simp [Ideal.ofBits, Ideal.ieee]
  exact h.trans (congrArg _ (by norm_num))

/-- The norm's small constant is a positive real. -/
theorem eps_eq : ∃ e : ℝ, 0 < e ∧ (eps : EReal) = (e : EReal) := by
  refine ⟨_, ?_, rfl⟩
  simp [Ideal.ieee]

/-- The square of an extended real that is no real is positive infinity. -/
theorem sq_top (x : EReal) (h : ¬ IsReal x) : x * x = ⊤ := by
  induction x using EReal.rec with
  | bot => exact EReal.bot_mul_bot
  | top => exact EReal.top_mul_top
  | coe r => exact absurd ⟨r, rfl⟩ h

/-- A square is at least zero. -/
theorem sq_nonneg' (x : EReal) : 0 ≤ x * x := by
  by_cases h : IsReal x
  · obtain ⟨r, rfl⟩ := h
    rw [← EReal.coe_mul]
    exact EReal.coe_nonneg.mpr (mul_self_nonneg r)
  · rw [sq_top x h]
    exact le_top

/-- The norm of any row, with real weights, is real: an infinite entry makes the row's norm zero. -/
theorem isReal_rms (v g : Fin 1024 → EReal) (hg : ∀ k, IsReal (g k)) (j : Fin 1024) : IsReal (rms c1024 v g j) := by
  obtain ⟨e, he, ee⟩ := eps_eq
  by_cases hv : ∀ k, IsReal (v k)
  · choose a ha using hv
    have hs : (∑ k, v k * v k) = ((∑ k, a k * a k : ℝ) : EReal) := by
      simp only [ha, ← EReal.coe_mul]
      exact coe_sum _ _
    have hnn : 0 ≤ ∑ k, a k * a k := Finset.sum_nonneg fun k _ => mul_self_nonneg _
    have hpos : 0 < (∑ k, a k * a k) * (1 / 1024) + e := by positivity
    have hr : IsReal (Ideal.rsqrt (Ideal.div (∑ k, v k * v k) c1024 + eps)) := by
      rw [hs, c1024_eq, Ideal.div_coe (by norm_num), ee, ← EReal.coe_mul, ← EReal.coe_add]
      refine ⟨(Real.sqrt ((∑ k, a k * a k) * (1 / 1024) + e))⁻¹, ?_⟩
      show (if (∑ k, a k * a k) * (1 / 1024) + e < 0 then ⊥ else if (∑ k, a k * a k) * (1 / 1024) + e = 0 then ⊤ else _) = _
      rw [if_neg (not_lt.mpr hpos.le), if_neg hpos.ne']
    exact isReal_mul (isReal_mul ⟨a j, ha j⟩ hr) (hg j)
  · obtain ⟨k0, hk⟩ := not_forall.mp hv
    have hs : (∑ k, v k * v k) = ⊤ := by
      have h := Finset.single_le_sum (f := fun k => v k * v k) (fun k _ => sq_nonneg' (v k)) (Finset.mem_univ k0)
      simp only [sq_top _ hk] at h
      exact top_le_iff.mp h
    have hr : Ideal.rsqrt (Ideal.div (∑ k, v k * v k) c1024 + eps) = 0 := by
      rw [hs, c1024_eq, Ideal.div_coe (by norm_num), EReal.top_mul_coe_of_pos (by norm_num), ee, EReal.top_add_coe]
      rfl
    refine ⟨0, ?_⟩
    show v j * Ideal.rsqrt (Ideal.div (∑ k, v k * v k) c1024 + eps) * g j = _
    rw [hr, mul_zero, zero_mul, EReal.coe_zero]

/-- The projection of any row by real weights is real. -/
theorem isReal_proj (x g w : Fin 1024 → EReal) (b : EReal) (hg : ∀ k, IsReal (g k)) (hw : ∀ k, IsReal (w k)) (hb : IsReal b) : IsReal (proj x g w b) :=
  isReal_add (isReal_sum _ fun k => isReal_mul (isReal_rms x g hg k) (hw k)) hb

/-- The log of the logistic function in reals. -/
def logs (r : ℝ) : ℝ := min r 0 - Real.log (1 + Real.exp (-|r|))

/-- The absolute value of a real. -/
theorem abs_coe (r : ℝ) : (FloatOps.absf (F := Ideal) (φ := .f32) (r : EReal) : EReal) = ((|r| : ℝ) : EReal) := by
  show max (r : EReal) (-(r : EReal)) = _
  rw [← EReal.coe_neg, abs_eq_max_neg]
  exact (EReal.coe_strictMono.monotone.map_max).symm

/-- The log of one plus an exponential, at a real. -/
theorem log1p_coe (y : ℝ) : Ideal.log1p (Ideal.exp (y : EReal)) = ((Real.log (1 + Real.exp y) : ℝ) : EReal) := by
  show Ideal.log ((1 : EReal) + ((Real.exp y : ℝ) : EReal)) = _
  rw [← EReal.coe_one, ← EReal.coe_add]
  show (if (1 + Real.exp y) ≤ 0 then ⊥ else _) = _
  rw [if_neg (by have := Real.exp_pos y; linarith)]

/-- The kernel's log gate at a real. -/
theorem logs_kernel (r : ℝ) : min (r : EReal) 0 - Ideal.log1p (Ideal.exp (0 - (FloatOps.absf (F := Ideal) (φ := .f32) (r : EReal) : EReal))) = ((logs r : ℝ) : EReal) := by
  rw [abs_coe, ← EReal.coe_zero, ← EReal.coe_sub, zero_sub, log1p_coe, logs, EReal.coe_sub]
  congr 1

/-- The reference's log gate at a real. -/
theorem logs_reference (r : ℝ) (z : EReal) : -(if -(r : EReal) ≠ -(r : EReal) then z
    else max (-(r : EReal)) 0 + Ideal.log1p (Ideal.exp (-(FloatOps.absf (F := Ideal) (φ := .f32) (-(r : EReal)) : EReal)))) = ((logs r : ℝ) : EReal) := by
  rw [if_neg (by simp), ← EReal.coe_neg, abs_coe, ← EReal.coe_neg, log1p_coe, abs_neg]
  have h : max ((-r : ℝ) : EReal) 0 = ((max (-r) 0 : ℝ) : EReal) := (EReal.coe_strictMono.monotone.map_max).symm
  rw [h, ← EReal.coe_add, ← EReal.coe_neg, logs]
  congr 1
  rcases le_total r 0 with hr | hr
  · rw [min_eq_left hr, max_eq_left (by linarith)]; ring
  · rw [min_eq_right hr, max_eq_right (by linarith)]; ring

end Cert.FoxReal
-- ==== Proof.FoxReference.lean ====
module

public import proofs.«01_k».proof.Proof.FoxRow
public import proofs.«01_k».proof.Proof.FoxMean
public import proofs.«01_k».proof.Proof.FoxReal
public import proofs.«01_k».proof.Proof.Gen.ReferenceIdeal.Read

@[expose] public section

set_option maxRecDepth 16384

noncomputable section

open Idealize.ShloMosaic Idealize.ShloMosaic.TcCoe Idealize.SL.Sem

namespace Cert.ReferenceIdeal.Rows

open Cert.ReferenceIdeal Cert.ReferenceIdeal.Read Cert.FoxRow Cert.FoxSoft Cert.FoxMean Cert.FoxReal

variable (x0 : FVec Ideal S8x2064x1024 .f32) (x1 : FVec Ideal S1024 .f32) (x2 : FVec Ideal S1024x3088 .f32) (x3 : FVec Ideal S3088 .f32)

/-- The projected row of batch element `b`, position `t`, at column `l`. -/
def PR (b : Fin 8) (t : Fin 2064) (l : Fin 3088) : EReal := proj (fun k => x0 (ix3 b t k)) (fun k => x1 (ix1 k)) (fun k => x2 (ix2 k l)) (x3 (ix1 l))

/-- The projection. -/
theorem v16_at (b : Fin 8) (t : Fin 2064) (l : Fin 3088) : val_main_v16 (F := Ideal) x0 x1 x2 x3 (ix3 b t l) = PR x0 x1 x2 x3 b t l := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_cst, val_main_cst_0, val_main_cst_1]
  rfl

/-- The keys' rows. -/
theorem v65_at (r : Fin 16512) (l : Fin 512) : val_main_v65 (F := Ideal) x0 x1 x2 x3 (ix2 r l) = PR x0 x1 x2 x3 ⟨r.val / 2064, by omega⟩ ⟨r.val % 2064, by omega⟩ ⟨512 + l.val, by omega⟩ := by
  pointwise [val_main_v65, val_main_v18]
  exact v16_at x0 x1 x2 x3 _ _ _

/-- The values' rows. -/
theorem v66_at (r : Fin 16512) (l : Fin 512) : val_main_v66 (F := Ideal) x0 x1 x2 x3 (ix2 r l) = PR x0 x1 x2 x3 ⟨r.val / 2064, by omega⟩ ⟨r.val % 2064, by omega⟩ ⟨1024 + l.val, by omega⟩ := by
  pointwise [val_main_v66, val_main_v19]
  exact v16_at x0 x1 x2 x3 _ _ _

/-- The convolution's input rows. -/
theorem v75_at (r : Fin 16512) (l : Fin 768) : val_main_v75 (F := Ideal) x0 x1 x2 x3 (ix2 r l) = PR x0 x1 x2 x3 ⟨r.val / 2064, by omega⟩ ⟨r.val % 2064, by omega⟩ ⟨2056 + l.val, by omega⟩ := by
  pointwise [val_main_v75, val_main_v22]
  exact v16_at x0 x1 x2 x3 _ _ _

/-- The output gate's rows. -/
theorem v76_at (r : Fin 16512) (l : Fin 256) : val_main_v76 (F := Ideal) x0 x1 x2 x3 (ix2 r l) = PR x0 x1 x2 x3 ⟨r.val / 2064, by omega⟩ ⟨r.val % 2064, by omega⟩ ⟨2832 + l.val, by omega⟩ := by
  pointwise [val_main_v76, val_main_v25]
  exact v16_at x0 x1 x2 x3 _ _ _

/-- The gated rows. -/
theorem v74_at (r : Fin 16512) (l : Fin 256) : val_main_v74 (F := Ideal) x0 x1 x2 x3 (ix2 r l)
    = PR x0 x1 x2 x3 ⟨r.val / 2064, by omega⟩ ⟨r.val % 2064, by omega⟩ ⟨1544 + l.val, by omega⟩ * sigm (PR x0 x1 x2 x3 ⟨r.val / 2064, by omega⟩ ⟨r.val % 2064, by omega⟩ ⟨1800 + l.val, by omega⟩) := by
  pointwise [val_main_v74, val_main_v73, val_main_v72, val_main_v71, val_main_v70, val_main_v69, val_main_v68, val_main_v67, val_main_v64, val_main_v63, val_main_v21, val_main_cst_7, val_main_cst_8]
  simp only [v16_at]
  have e : 1544 + (256 + l.val) = 1800 + l.val := by omega
  simp only [e]
  rfl

/-- The log gates of a real projection. -/
theorem v26_at (R : ℕ → ℕ → ℕ → ℝ) (hP : ∀ b t l, PR x0 x1 x2 x3 b t l = ((R b.val t.val l.val : ℝ) : EReal)) (b : Fin 8) (t : Fin 2064) (j : Fin 8) : val_main_v26 (F := Ideal) x0 x1 x2 x3 (ix3 b t j) = ((logs (R b.val t.val (1536 + j.val)) : ℝ) : EReal) := by
  pointwise [val_main_v26, val_main_call0_v1, val_main_call0_v0, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_v20]
  simp only [v16_at, hP]
  exact logs_reference _ _

/-- The running sums of the log gates. -/
theorem v27_at (R : ℕ → ℕ → ℕ → ℝ) (hP : ∀ b t l, PR x0 x1 x2 x3 b t l = ((R b.val t.val l.val : ℝ) : EReal)) (b : Fin 8) (t : Fin 2064) (j : Fin 8) : val_main_v27 (F := Ideal) x0 x1 x2 x3 (ix3 b t j) = ((∑ s ∈ Finset.range (t.val + 1), logs (R b.val s (1536 + j.val)) : ℝ) : EReal) := by
  unfold val_main_v27 Host.reduceWindowAdd
  rw [Ideal.hostReduceWindowAdd_def]
  have e : (val_main_call1_call0_v0 (F := Ideal) (Shape.Idx.first Gen.h_S_) : EReal) = 0 := by
    pointwise [val_main_call1_call0_v0, val_main_call1_call0_cst]
  rw [e, ← coe_sum]
  refine (cumsum_mid (B := 8) (N := 2063) (J := 8) (val_main_v26 (F := Ideal) x0 x1 x2 x3) _ b t j).trans (Finset.sum_congr rfl fun s hs => ?_)
  have hs' : s < 2063 + 1 := by have := Finset.mem_range.mp hs; omega
  rw [dif_pos hs']
  exact v26_at x0 x1 x2 x3 R hP b ⟨s, hs'⟩ j

/-- The eighth as the reference writes it. -/
theorem eighth : (Ideal.ofBits FTy.f32 1040187392#32 : EReal) = ((8⁻¹ : ℝ) : EReal) := by
  have h : (Ideal.ofBits FTy.f32 1040187392#32 : EReal) = ((8388608 * ((2 : ℝ) ^ 26)⁻¹ : ℝ) : EReal) := by simp [Ideal.ofBits, Ideal.ieee]
  exact h.trans (congrArg _ (by norm_num))

/-- A head's scores in reals. -/
def score (R : ℕ → ℕ → ℕ → ℝ) (b h t s : ℕ) : ℝ :=
  (∑ d : Fin 64, R b t (h * 64 + d.val) * R b s (512 + (h * 64 + d.val))) * 8⁻¹ + (∑ u ∈ Finset.range (t + 1), logs (R b u (1536 + h))) - ∑ u ∈ Finset.range (s + 1), logs (R b u (1536 + h))

/-- The masked scores of a real projection. -/
theorem v46_at (R : ℕ → ℕ → ℕ → ℝ) (hP : ∀ b t l, PR x0 x1 x2 x3 b t l = ((R b.val t.val l.val : ℝ) : EReal)) (b h : Fin 8) (t s : Fin 2064) : val_main_v46 (F := Ideal) x0 x1 x2 x3 (ix4 b h t s) = if s.val ≤ t.val then ((score R b.val h.val t.val s.val : ℝ) : EReal) else ⊥ := by
  pointwise [val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v18, val_main_v17, val_main_cst_2, val_main_cst_3, val_main_call2_v0, val_main_call2_v1, val_main_call2_v2]
  simp only [v16_at, hP, v27_at x0 x1 x2 x3 R hP, eighth]
  refine (masked_eq t.val s.val (by omega) (by omega) _ _).trans ?_
  by_cases e : s.val ≤ t.val
  · rw [if_pos e, if_pos e]
    unfold score
    simp only [← EReal.coe_mul]
    rw [coe_sum, ← EReal.coe_mul, ← EReal.coe_add, ← EReal.coe_sub]
  · rw [if_neg e, if_neg e]
    exact ninf

/-- The largest score of a row. -/
theorem v47_at (b h : Fin 8) (t : Fin 2064) : val_main_v47 (F := Ideal) x0 x1 x2 x3 (ix3 b h t) = top (fun s : Fin 2064 => val_main_v46 (F := Ideal) x0 x1 x2 x3 (ix4 b h t s)) := by
  pointwise [val_main_v47]
  rfl

/-- The row's shift. -/
theorem v49_at (b h : Fin 8) (t : Fin 2064) : val_main_v49 (F := Ideal) x0 x1 x2 x3 (ix3 b h t) = max (Ideal.ofBits FTy.f32 4286578688#32) (val_main_v47 (F := Ideal) x0 x1 x2 x3 (ix3 b h t)) := by
  rw [val_main_v49_apply, val_main_v48_apply, val_main_cst_5_apply]
  rfl

/-- The shift spread over the row. -/
theorem v51_at (b h : Fin 8) (t s : Fin 2064) : val_main_v51 (F := Ideal) x0 x1 x2 x3 (ix4 b h t s) = val_main_v49 (F := Ideal) x0 x1 x2 x3 (ix3 b h t) := by
  pointwise [val_main_v51, val_main_v50]

/-- The exponentials. -/
theorem v53_at (b h : Fin 8) (t s : Fin 2064) : val_main_v53 (F := Ideal) x0 x1 x2 x3 (ix4 b h t s)
    = Ideal.exp (val_main_v46 (F := Ideal) x0 x1 x2 x3 (ix4 b h t s) - max (Ideal.ofBits FTy.f32 4286578688#32) (val_main_v47 (F := Ideal) x0 x1 x2 x3 (ix3 b h t))) := by
  rw [← v49_at, ← v51_at x0 x1 x2 x3 b h t s]
  rfl

/-- A row's sum of exponentials. -/
theorem v54_at (b h : Fin 8) (t : Fin 2064) : val_main_v54 (F := Ideal) x0 x1 x2 x3 (ix3 b h t) = ∑ s : Fin 2064, val_main_v53 (F := Ideal) x0 x1 x2 x3 (ix4 b h t s) := by
  pointwise [val_main_v54, val_main_cst_6]

/-- The weights. -/
theorem v57_at (b h : Fin 8) (t s : Fin 2064) : val_main_v57 (F := Ideal) x0 x1 x2 x3 (ix4 b h t s)
    = Ideal.div (val_main_v53 (F := Ideal) x0 x1 x2 x3 (ix4 b h t s)) (val_main_v54 (F := Ideal) x0 x1 x2 x3 (ix3 b h t)) := by
  pointwise [val_main_v57, val_main_v56, val_main_v55]

/-- The values by head. -/
theorem v58_at (b : Fin 8) (t : Fin 2064) (h : Fin 8) (d : Fin 64) : val_main_v58 (F := Ideal) x0 x1 x2 x3 (ix4 b t h d) = PR x0 x1 x2 x3 b t ⟨1024 + (h.val * 64 + d.val), by omega⟩ := by
  pointwise [val_main_v58, val_main_v19]
  exact v16_at x0 x1 x2 x3 _ _ _

/-- The weighted values. -/
theorem v59_at (b h : Fin 8) (d : Fin 64) (t : Fin 2064) : val_main_v59 (F := Ideal) x0 x1 x2 x3 (ix4 b h d t)
    = ∑ s : Fin 2064, val_main_v58 (F := Ideal) x0 x1 x2 x3 (ix4 b s h d) * val_main_v57 (F := Ideal) x0 x1 x2 x3 (ix4 b h t s) := by
  pointwise [val_main_v59]

/-- The weighted values of a head are its causal mean. -/
theorem head_at (R : ℕ → ℕ → ℕ → ℝ) (hP : ∀ b t l, PR x0 x1 x2 x3 b t l = ((R b.val t.val l.val : ℝ) : EReal)) (b h : Fin 8) (d : Fin 64) (t : Fin 2064) : val_main_v59 (F := Ideal) x0 x1 x2 x3 (ix4 b h d t)
    = ((soft (score R b.val h.val t.val) (fun s => R b.val s (1024 + (h.val * 64 + d.val))) t.val : ℝ) : EReal) := by
  rw [v59_at]
  simp only [v58_at, v57_at, v54_at, v53_at, v47_at]
  exact mean_eq (fun s : Fin 2064 => val_main_v46 (F := Ideal) x0 x1 x2 x3 (ix4 b h t s)) (fun s => PR x0 x1 x2 x3 b s ⟨1024 + (h.val * 64 + d.val), by omega⟩)
    (score R b.val h.val t.val) (fun s => R b.val s (1024 + (h.val * 64 + d.val))) t.val t.isLt (fun s => v46_at x0 x1 x2 x3 R hP b h t s) (fun s => hP _ _ _)

/-- The attention's result in the layout of two heads to a lane group. -/
theorem v62_at (R : ℕ → ℕ → ℕ → ℝ) (hP : ∀ b t l, PR x0 x1 x2 x3 b t l = ((R b.val t.val l.val : ℝ) : EReal)) (p : Fin 4) (r : Fin 16512) (j : Fin 128) : val_main_v62 (F := Ideal) x0 x1 x2 x3 (ix3 p r j)
    = ((soft (score R (r.val / 2064) (p.val * 2 + j.val / 64) (r.val % 2064)) (fun s => R (r.val / 2064) s (1024 + ((p.val * 2 + j.val / 64) * 64 + j.val % 64))) (r.val % 2064) : ℝ) : EReal) := by
  pointwise [val_main_v62, val_main_v61, val_main_v60]
  exact head_at x0 x1 x2 x3 R hP _ _ _ _

end Cert.ReferenceIdeal.Rows
-- ==== Proof.FoxEqual.lean ====
module

public import proofs.«01_k».proof.Proof.FoxOut
public import proofs.«01_k».proof.Proof.FoxReference

@[expose] public section

set_option maxRecDepth 16384

noncomputable section

open Idealize.ShloMosaic Idealize.ShloMosaic.TcCoe Idealize.SL.Sem

namespace Cert.KernelIdeal.Whole

open Cert.KernelIdeal Cert.KernelIdeal.Gen Cert.FoxSoft Cert.FoxRow Cert.FoxReal Cert.ReferenceIdeal.Rows

variable (m : (ℓ : Loc nD τ sig) → Buf (Elt Ideal) ℓ) (ρ : Dev nD → PrngReg) (c : Dev nD)

/-- The running sums of the log gates of a real projection. -/
def runs (R : ℕ → ℕ → ℕ → ℝ) (b i j : ℕ) : ℝ := ∑ s ∈ Finset.range (i + 1), logs (R b s (1536 + j))

/-- The attention over a pair of heads is the reference's, head by head. -/
theorem att_score (R : ℕ → ℕ → ℕ → ℝ) (b p t j : ℕ) (hj : j < 128) :
    att (fun i l => R b i (128 * p + l)) (fun i l => R b i (512 + (128 * p + l))) (fun i l => R b i (1024 + (128 * p + l))) (fun i => runs R b i (2 * p)) (fun i => runs R b i (2 * p + 1)) t j
      = soft (score R b (p * 2 + j / 64) t) (fun s => R b s (1024 + ((p * 2 + j / 64) * 64 + j % 64))) t := by
  have ev : (p * 2 + j / 64) * 64 + j % 64 = 128 * p + j := by omega
  rw [ev]
  unfold att
  split
  · have eh : p * 2 + j / 64 = 2 * p := by omega
    rw [eh]
    have es : scr (fun i l => R b i (128 * p + l)) (fun i l => R b i (512 + (128 * p + l))) 0 (fun i => runs R b i (2 * p)) t = score R b (2 * p) t := by
      funext s
      unfold scr score runs
      have e : ∀ d : ℕ, 128 * p + (0 + d) = 2 * p * 64 + d := fun d => by omega
      simp only [e]
    rw [es]
  · have eh : p * 2 + j / 64 = 2 * p + 1 := by omega
    rw [eh]
    have es : scr (fun i l => R b i (128 * p + l)) (fun i l => R b i (512 + (128 * p + l))) 64 (fun i => runs R b i (2 * p + 1)) t = score R b (2 * p + 1) t := by
      funext s
      unfold scr score runs
      have e : ∀ d : ℕ, 128 * p + (64 + d) = (2 * p + 1) * 64 + d := fun d => by omega
      simp only [e]
    rw [es]

/-- The stored attention is the reference's, where the projection is real. -/
theorem att_final (R : ℕ → ℕ → ℕ → ℝ) (hP : ∀ b t l, P m c b t l = ((R b.val t.val l.val : ℝ) : EReal)) :
    (W8 m ρ c (Proc.devRef .tc main_v24) : S4x16512x128.Idx → EReal) = Cert.ReferenceIdeal.Read.val_main_v62 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by
  refine (att_arr m ρ c R (runs R) hP fun b i j => ?_).trans ?_
  · unfold runs
    rw [← coe_sum]
    refine Finset.sum_congr rfl fun s hs => ?_
    have hs' : s < 2064 := by have := Finset.mem_range.mp hs; omega
    unfold logG
    rw [dif_pos hs', hP]
    exact logs_kernel _
  · funext y
    idx_vars y
    exact (congrArg (fun r : ℝ => (r : EReal)) (att_score R (y1.val / 2064) y0.val (y1.val % 2064) y2.val y2.isLt)).trans (v62_at _ _ _ _ R hP y0 y1 y2).symm

/-- The stored log gates are the reference's, where the projection is real. -/
theorem log_final (R : ℕ → ℕ → ℕ → ℝ) (hP : ∀ b t l, P m c b t l = ((R b.val t.val l.val : ℝ) : EReal)) :
    (W8 m ρ c (Proc.devRef .tc main_v23_0) : S8x2064x8.Idx → EReal) = Cert.ReferenceIdeal.Read.val_main_v26 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by
  refine ((W8_of m ρ c _ (by decide +kernel)).trans (log_arr m ρ c)).trans ?_
  funext y
  idx_vars y
  refine Eq.trans ?_ (v26_at _ _ _ _ R hP y0 y1 y2).symm
  show logf (P m c y0 y1 ⟨1536 + y2.val, _⟩) = _
  rw [hP]
  exact logs_kernel _

/-- The stored keys are the reference's. -/
theorem keys_final : (W8 m ρ c (Proc.devRef .tc main_v22_4) : S16512x512.Idx → EReal) = Cert.ReferenceIdeal.Read.val_main_v65 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by
  refine ((W8_of m ρ c _ (by decide +kernel)).trans ((W7_of m ρ c _ (by decide +kernel)).trans (kf_at m ρ c))).trans ?_
  funext y
  idx_vars y
  exact (v65_at _ _ _ _ y0 y1).symm

/-- The stored values are the reference's. -/
theorem vals_final : (W8 m ρ c (Proc.devRef .tc main_v22_5) : S16512x512.Idx → EReal) = Cert.ReferenceIdeal.Read.val_main_v66 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by
  refine ((W8_of m ρ c _ (by decide +kernel)).trans ((W7_of m ρ c _ (by decide +kernel)).trans (vf_at m ρ c))).trans ?_
  funext y
  idx_vars y
  exact (v66_at _ _ _ _ y0 y1).symm

/-- The stored gated linear unit's rows are the reference's. -/
theorem glu_final : (W8 m ρ c (Proc.devRef .tc main_v22_6) : S16512x256.Idx → EReal) = Cert.ReferenceIdeal.Read.val_main_v74 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by
  refine ((W8_of m ρ c _ (by decide +kernel)).trans ((W7_of m ρ c _ (by decide +kernel)).trans (hh_at m ρ c))).trans ?_
  funext y
  idx_vars y
  exact (v74_at _ _ _ _ y0 y1).symm

/-- The stored delta mixer's rows are the reference's. -/
theorem qkvc_final : (W8 m ρ c (Proc.devRef .tc main_v22_7) : S16512x768.Idx → EReal) = Cert.ReferenceIdeal.Read.val_main_v75 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by
  refine ((W8_of m ρ c _ (by decide +kernel)).trans ((W7_of m ρ c _ (by decide +kernel)).trans (qkvc_at m ρ c))).trans ?_
  funext y
  idx_vars y
  exact (v75_at _ _ _ _ y0 y1).symm

/-- The stored delta mixer's output gates are the reference's. -/
theorem zed_final : (W8 m ρ c (Proc.devRef .tc main_v22_8) : S16512x256.Idx → EReal) = Cert.ReferenceIdeal.Read.val_main_v76 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by
  refine ((W8_of m ρ c _ (by decide +kernel)).trans ((W7_of m ρ c _ (by decide +kernel)).trans (zz_at m ρ c))).trans ?_
  funext y
  idx_vars y
  exact (v76_at _ _ _ _ y0 y1).symm

end Cert.KernelIdeal.Whole
-- ==== Proof.FoxRun.lean ====
module

public import proofs.«01_k».proof.Proof.Gen.KernelIdeal.Frame

@[expose] public section

set_option maxRecDepth 16384

noncomputable section

open Idealize.ShloMosaic Idealize.ShloMosaic.TcCoe Idealize.SL.Sem

namespace Cert.KernelIdeal.Whole

open Cert.KernelIdeal Cert.KernelIdeal.Gen Idealize.ShloMosaic.Tactic Idealize.SL Idealize.SL.RA Idealize.SL.BI
open scoped Idealize.SL.BI
open Idealize.SL.BI.BIBase Idealize.SL.BI.Laws Idealize.SL.ProofMode Idealize.ShloMosaic.Rounds

variable {F : FTy → Type} [FloatOps F] [Named F] (m : (ℓ : Loc nD τ sig) → Buf (Elt F) ℓ) (ρ : Dev nD → PrngReg)

set_option backward.isDefEq.respectTransparency.types false in
/-- The program runs; every result array ends at the contents its last region leaves, and the arguments as they were. -/
theorem run : θ_run defs (onTc (τ := τ) (main (F := F))) ⟨m, fun _ => 0, ρ⟩ (fun r => ∀ c : Dev nD,
      r.2.mem ((c.tc : Thread nD τ).loc main_v24) = W8 m ρ c (Proc.devRef .tc main_v24)
      ∧ r.2.mem ((c.tc : Thread nD τ).loc main_v22_4) = W8 m ρ c (Proc.devRef .tc main_v22_4)
      ∧ r.2.mem ((c.tc : Thread nD τ).loc main_v22_5) = W8 m ρ c (Proc.devRef .tc main_v22_5)
      ∧ r.2.mem ((c.tc : Thread nD τ).loc main_v23_0) = W8 m ρ c (Proc.devRef .tc main_v23_0)
      ∧ r.2.mem ((c.tc : Thread nD τ).loc main_v22_6) = W8 m ρ c (Proc.devRef .tc main_v22_6)
      ∧ r.2.mem ((c.tc : Thread nD τ).loc main_v22_7) = W8 m ρ c (Proc.devRef .tc main_v22_7)
      ∧ r.2.mem ((c.tc : Thread nD τ).loc main_v22_8) = W8 m ρ c (Proc.devRef .tc main_v22_8)
      ∧ r.2.mem ((c.tc : Thread nD τ).loc main_arg0) = m ((c : Thread nD τ).loc main_arg0)
      ∧ r.2.mem ((c.tc : Thread nD τ).loc main_arg1) = m ((c : Thread nD τ).loc main_arg1)
      ∧ r.2.mem ((c.tc : Thread nD τ).loc main_arg2) = m ((c : Thread nD τ).loc main_arg2)
      ∧ r.2.mem ((c.tc : Thread nD τ).loc main_arg3) = m ((c : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz c =>
      ⟨h c _ (mem_uc main_v24 (by decide)), h c _ (mem_uc main_v22_4 (by decide)), h c _ (mem_uc main_v22_5 (by decide)), h c _ (mem_uc main_v23_0 (by decide)), h c _ (mem_uc main_v22_6 (by decide)), h c _ (mem_uc main_v22_7 (by decide)), h c _ (mem_uc main_v22_8 (by decide)),
       (h c _ (mem_uc main_arg0 (by decide))).trans (W8_main_arg0 m ρ c), (h c _ (mem_uc main_arg1 (by decide))).trans (W8_main_arg1 m ρ c), (h c _ (mem_uc main_arg2 (by decide))).trans (W8_main_arg2 m ρ c), (h c _ (mem_uc main_arg3 (by decide))).trans (W8_main_arg3 m ρ c)⟩)

end Cert.KernelIdeal.Whole
-- ==== Proof.FoxClaim.lean ====
module

public import proofs.«01_k».proof.Proof.FoxEqual
public import proofs.«01_k».proof.Proof.FoxRun
public import proofs.«01_k».proof.Proof.Finite
public import proofs.«01_k».proof.Proof.Gen.ReferenceIdeal.Run
public import proofs.«01_k».proof.Proof.Gen.Pre_finite
public import proofs.«01_k».proof.Defs
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.Proof

open Cert.KernelIdeal.Whole Cert.FoxReal

/-- Under the precondition, every entry of the norm's scale is a real number. -/
theorem norm_real (m : (ℓ : Loc Cert.KernelIdeal.nD Cert.KernelIdeal.τ Cert.KernelIdeal.sig) → Buf (Elt Ideal) ℓ) (h : Cert.Pre_KernelIdeal_finite (hPre_finite := Cert.Pre_finite.Gen.facts) m) (c : Dev Cert.KernelIdeal.nD)
    (i : Cert.KernelIdeal.S1024.Idx) : IsReal ((m ((c.tc : Thread Cert.KernelIdeal.nD Cert.KernelIdeal.τ).loc Cert.KernelIdeal.main_arg1) : Cert.KernelIdeal.S1024.Idx → EReal) i) := by
  have e := congrFun (h c).1 i
  idx_vars i
  revert e
  pointwise [Cert.Pre_finite.fn]
  intro e
  exact Cert.Finite.real_of_bit _ _ _ id e

/-- Under the precondition, every entry of the projection's weights is a real number. -/
theorem w_real (m : (ℓ : Loc Cert.KernelIdeal.nD Cert.KernelIdeal.τ Cert.KernelIdeal.sig) → Buf (Elt Ideal) ℓ) (h : Cert.Pre_KernelIdeal_finite (hPre_finite := Cert.Pre_finite.Gen.facts) m) (c : Dev Cert.KernelIdeal.nD)
    (i : Cert.KernelIdeal.S1024x3088.Idx) : IsReal ((m ((c.tc : Thread Cert.KernelIdeal.nD Cert.KernelIdeal.τ).loc Cert.KernelIdeal.main_arg2) : Cert.KernelIdeal.S1024x3088.Idx → EReal) i) := by
  have e := congrFun (h c).2.1 i
  idx_vars i
  revert e
  pointwise [Cert.Pre_finite.fn]
  intro e
  exact Cert.Finite.real_of_bit _ _ _ id e

/-- Under the precondition, every entry of the projection's bias is a real number. -/
theorem b_real (m : (ℓ : Loc Cert.KernelIdeal.nD Cert.KernelIdeal.τ Cert.KernelIdeal.sig) → Buf (Elt Ideal) ℓ) (h : Cert.Pre_KernelIdeal_finite (hPre_finite := Cert.Pre_finite.Gen.facts) m) (c : Dev Cert.KernelIdeal.nD)
    (i : Cert.KernelIdeal.S3088.Idx) : IsReal ((m ((c.tc : Thread Cert.KernelIdeal.nD Cert.KernelIdeal.τ).loc Cert.KernelIdeal.main_arg3) : Cert.KernelIdeal.S3088.Idx → EReal) i) := by
  have e := congrFun (h c).2.2 i
  idx_vars i
  revert e
  pointwise [Cert.Pre_finite.fn]
  intro e
  exact Cert.Finite.real_of_bit _ _ _ id e

/-- Under the precondition, the projection is real. -/
theorem proj_real (m : (ℓ : Loc Cert.KernelIdeal.nD Cert.KernelIdeal.τ Cert.KernelIdeal.sig) → Buf (Elt Ideal) ℓ) (h : Cert.Pre_KernelIdeal_finite (hPre_finite := Cert.Pre_finite.Gen.facts) m) (c : Dev Cert.KernelIdeal.nD) :
    ∃ R : ℕ → ℕ → ℕ → ℝ, ∀ b t l, P m c b t l = ((R b.val t.val l.val : ℝ) : EReal) := by
  have hr : ∀ b t l, IsReal (P m c b t l) := fun b t l => isReal_proj _ _ _ _ (fun k => norm_real m h c _) (fun k => w_real m h c _) (b_real m h c _)
  refine ⟨fun b t l => if hb : b < 8 ∧ t < 2064 ∧ l < 3088 then Classical.choose (hr ⟨b, hb.1⟩ ⟨t, hb.2.1⟩ ⟨l, hb.2.2⟩) else 0, fun b t l => ?_⟩
  show _ = ((dite _ _ _ : ℝ) : EReal)
  rw [dif_pos ⟨b.isLt, t.isLt, l.isLt⟩]
  exact Classical.choose_spec (hr b t l)

/-- The projection, the log gates and the attention agree with their reference wherever the norm's scale and the projection's weights and bias are finite. -/
theorem fox_algebraic : Cert.algebraic_KernelIdeal_ReferenceIdeal_pre_finite (hKernelIdeal := Cert.KernelIdeal.Gen.facts) (hReferenceIdeal := Cert.ReferenceIdeal.Gen.facts) (hPre_finite := Cert.Pre_finite.Gen.facts) := by
  intro m g m' g' hpre hagree
  refine ⟨fun c => Cert.ReferenceIdeal.Read.val_main_v62 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), fun c => Cert.ReferenceIdeal.Read.val_main_v65 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), fun c => Cert.ReferenceIdeal.Read.val_main_v66 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), fun c => Cert.ReferenceIdeal.Read.val_main_v26 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), fun c => Cert.ReferenceIdeal.Read.val_main_v74 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), fun c => Cert.ReferenceIdeal.Read.val_main_v75 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), fun c => Cert.ReferenceIdeal.Read.val_main_v76 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · refine (θ_run _ _ _).mono (fun r h c => ?_) (Cert.KernelIdeal.Whole.run m g)
    obtain ⟨R, hP⟩ := proj_real m hpre c
    obtain ⟨h0, h1, h2, h3, h4, h5, h6, hargs⟩ := h c
    exact ⟨h0.trans (att_final m g c R hP), h1.trans (keys_final m g c), h2.trans (vals_final m g c), h3.trans (log_final m g c R hP), h4.trans (glu_final m g c), h5.trans (qkvc_final m g c), h6.trans (zed_final m g c), hargs⟩
  · refine (θ_run _ _ _).mono (fun r h c => ?_) (Cert.ReferenceIdeal.Value.run m' g')
    obtain ⟨h0, h1, h2, h3, h4, h5, h6, hargs⟩ := h c
    obtain ⟨e0, e1, e2, e3⟩ := hagree c
    have r0 : Cert.ReferenceIdeal.Read.val_main_v62 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) = Cert.ReferenceIdeal.Read.val_main_v62 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by rw [e0, e1, e2, e3]
    have r1 : Cert.ReferenceIdeal.Read.val_main_v65 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) = Cert.ReferenceIdeal.Read.val_main_v65 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by rw [e0, e1, e2, e3]
    have r2 : Cert.ReferenceIdeal.Read.val_main_v66 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) = Cert.ReferenceIdeal.Read.val_main_v66 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by rw [e0, e1, e2, e3]
    have r3 : Cert.ReferenceIdeal.Read.val_main_v26 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) = Cert.ReferenceIdeal.Read.val_main_v26 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by rw [e0, e1, e2, e3]
    have r4 : Cert.ReferenceIdeal.Read.val_main_v74 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) = Cert.ReferenceIdeal.Read.val_main_v74 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by rw [e0, e1, e2, e3]
    have r5 : Cert.ReferenceIdeal.Read.val_main_v75 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) = Cert.ReferenceIdeal.Read.val_main_v75 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by rw [e0, e1, e2, e3]
    have r6 : Cert.ReferenceIdeal.Read.val_main_v76 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) = Cert.ReferenceIdeal.Read.val_main_v76 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by rw [e0, e1, e2, e3]
    exact ⟨h0.trans ((Cert.ReferenceIdeal.Read.val_main_v62_eq _ _).trans r0), h1.trans ((Cert.ReferenceIdeal.Read.val_main_v65_eq _ _ _ _).trans r1), h2.trans ((Cert.ReferenceIdeal.Read.val_main_v66_eq _ _ _ _).trans r2), h3.trans ((Cert.ReferenceIdeal.Read.val_main_v26_eq _ _).trans r3), h4.trans ((Cert.ReferenceIdeal.Read.val_main_v74_eq _ _ _ _).trans r4), h5.trans ((Cert.ReferenceIdeal.Read.val_main_v75_eq _ _ _ _).trans r5), h6.trans ((Cert.ReferenceIdeal.Read.val_main_v76_eq _ _ _ _).trans r6), hargs⟩

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.Gen.Mid
public import proofs.«01_k».proof.Proof.Gen.Mid.Skeleton
public import proofs.«01_k».proof.Proof.Gen.Mid.Launch
public import proofs.«01_k».proof.Proof.Gen.Mid.Points
public import proofs.«01_k».proof.Proof.Gen.Mid.Frame
public import proofs.«01_k».proof.Proof.Gen.MidIdeal
public import proofs.«01_k».proof.Proof.Gen.MidIdeal.Skeleton
public import proofs.«01_k».proof.Proof.Gen.MidIdeal.Launch
public import proofs.«01_k».proof.Proof.Gen.MidIdeal.Points
public import proofs.«01_k».proof.Proof.Gen.MidIdeal.Frame
public import proofs.«01_k».proof.Proof.Gen.MidReferenceIdeal
public import proofs.«01_k».proof.Proof.Gen.MidReferenceIdeal.Run
public import proofs.«01_k».proof.Proof.Gen.MidReferenceIdeal.Read
public import proofs.«01_k».proof.Proof.Gen.MidIdeal.Value
public import proofs.«01_k».proof.Proof.Gen.Pre_finite
public import proofs.«01_k».proof.Proof.Gen.Pre_finite_oc
public import proofs.«01_k».proof.Proof.Gen.ReferenceIdeal.Run
public import proofs.«01_k».proof.Proof.Gen.ReferenceIdeal.Read
public import proofs.«01_k».proof.Proof.Gen.FfnReferenceIdeal.Run
public import proofs.«01_k».proof.Proof.Gen.FfnReferenceIdeal.Read
public import proofs.«01_k».proof.Proof.Gen.FfnIdeal.Value
public import proofs.«01_k».proof.Proof.FfnClaim
public import proofs.«01_k».proof.Proof.MidClaim
public import proofs.«01_k».proof.Proof.FoxClaim
public import Idealize.ShloMosaic.Adequacy
public import Idealize.ShloMosaic.Init

@[expose] public section

noncomputable section

namespace Cert.Proof

open Idealize.ShloMosaic Idealize.SL.Sem

/-- The three named constants of the first program keep their bits under the names' values. -/
theorem preserves : Cert.preserves_Kernel_KernelIdeal :=
  ⟨IdealRules.named_const.statement Cert.KernelIdeal.κ "scale" .f32 0x3E38AA3B#32 _ rfl,
    IdealRules.named_const.statement Cert.KernelIdeal.κ "log2e" .f32 0x3FB8AA3B#32 _ rfl,
    IdealRules.named_const.statement Cert.KernelIdeal.κ "mask" .f32 0xF149F2CA#32 _ rfl⟩

/-- The first reference runs and leaves its arguments as they were; it has no semaphore. -/
theorem frame_reference : Cert.quiescent_ReferenceIdeal (hReferenceIdeal := Cert.ReferenceIdeal.Gen.facts) := fun m g _ =>
  (θ_run Cert.ReferenceIdeal.defs _ _).mono (fun r h => ⟨fun c => (h c).2.2.2.2.2.2.2, sem_eq_zero_of_no_sems (by decide) r.2⟩)
    (Cert.ReferenceIdeal.Value.run (F := Ideal) m g)

/-- The second reference runs and leaves its arguments as they were; it has no semaphore. -/
theorem frame_ffn_reference : Cert.quiescent_FfnReferenceIdeal (hFfnReferenceIdeal := Cert.FfnReferenceIdeal.Gen.facts) := fun m g _ =>
  (θ_run Cert.FfnReferenceIdeal.defs _ _).mono (fun r h => ⟨fun c => (h c).2, sem_eq_zero_of_no_sems (by decide) r.2⟩)
    (Cert.FfnReferenceIdeal.Value.run (F := Ideal) m g)

/-- The third reference runs and leaves its arguments as they were; it has no semaphore. -/
theorem frame_mid_reference : Cert.quiescent_MidReferenceIdeal (hMidReferenceIdeal := Cert.MidReferenceIdeal.Gen.facts) := fun m g _ =>
  (θ_run Cert.MidReferenceIdeal.defs _ _).mono (fun r h => ⟨fun c => (h c).2, sem_eq_zero_of_no_sems (by decide) r.2⟩)
    (Cert.MidReferenceIdeal.Value.run (F := Ideal) m g)

/-- Every claim of the certificate. -/
theorem claim : Cert.Claim := ⟨Cert.Kernel.Gen.facts, Cert.KernelIdeal.Gen.facts, Cert.ReferenceIdeal.Gen.facts, Cert.Ffn.Gen.facts, Cert.FfnIdeal.Gen.facts, Cert.FfnReferenceIdeal.Gen.facts, Cert.Mid.Gen.facts, Cert.MidIdeal.Gen.facts, Cert.MidReferenceIdeal.Gen.facts, Cert.Pre_finite.Gen.facts, Cert.Pre_finite_oc.Gen.facts,
  fun m g _ => Cert.Kernel.Gen.frame m g, fun m g _ => Cert.KernelIdeal.Gen.frame m g, fun m g _ => Cert.KernelIdeal.Gen.frame m g,
  frame_reference, fun m g _ => frame_reference m g trivial,
  fun m g _ => Cert.Ffn.Gen.frame m g, fun m g _ => Cert.FfnIdeal.Gen.frame m g, fun m g _ => Cert.FfnIdeal.Gen.frame m g,
  frame_ffn_reference, fun m g _ => frame_ffn_reference m g trivial,
  fun m g _ => Cert.Mid.Gen.frame m g, fun m g _ => Cert.MidIdeal.Gen.frame m g, fun m g _ => Cert.MidIdeal.Gen.frame m g,
  frame_mid_reference, fun m g _ => frame_mid_reference m g trivial,
  preserves, fox_algebraic, trivial, ffn_algebraic, trivial, mid_algebraic⟩

end Cert.Proof
